-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S10000x128 : Shape := ⟨2, ![10000, 128]⟩
abbrev S10000x10000 : Shape := ⟨2, ![10000, 10000]⟩
abbrev S1000 : Shape := ⟨1, ![1000]⟩
abbrev S5000 : Shape := ⟨1, ![5000]⟩
abbrev S_ : Shape := ⟨0, ![]⟩

class Facts : Prop where
  bcast_S_S1000 : S_.BroadcastsInDim S1000 (![] : Fin 0 → Fin S1000.rank)
  reducesTo_S1000_S_d0 : S1000.ReducesTo [0] S_
  h_S_ : 0 < S_.numel
  bcast_S_S5000 : S_.BroadcastsInDim S5000 (![] : Fin 0 → Fin S5000.rank)
  reducesTo_S5000_S_d0 : S5000.ReducesTo [0] S_

variable [Facts]

def fn_part4 {F : FTy → Type} [FloatOps F] (main_v61 : IVec S_ 1) (main_v66 : IVec S1000 1) : IVec S_ 1 :=
  let main_c_28 : IVec S_ 1 := constantI S_ 1 1#1
  let main_v67 : IVec S_ 1 := (fun x v => Host.reduce IntOp.andi x v reducesTo_S1000_S_d0 h_S_) main_v66 main_c_28
  let main_v68 : IVec S_ 1 := andi main_v61 main_v67
  main_v68

def fn_part3 {F : FTy → Type} [FloatOps F] (main_arg10 : IVec S1000 32) (main_arg11 : IVec S1000 32) (main_arg12 : IVec S1000 32) (main_v47 : IVec S_ 1) (main_v49 : IVec S1000 1) : IVec S_ 1 :=
  let main_c_21 : IVec S_ 32 := constantI S_ 32 10000#32
  let main_v50 : IVec S1000 32 := broadcastInDim S1000 ![] bcast_S_S1000 main_c_21
  let main_v51 : IVec S1000 1 := cmpi .slt main_arg10 main_v50
  let main_v52 : IVec S1000 1 := andi main_v49 main_v51
  let main_c_22 : IVec S_ 1 := constantI S_ 1 1#1
  let main_v53 : IVec S_ 1 := (fun x v => Host.reduce IntOp.andi x v reducesTo_S1000_S_d0 h_S_) main_v52 main_c_22
  let main_v54 : IVec S_ 1 := andi main_v47 main_v53
  let main_c_23 : IVec S_ 32 := constantI S_ 32 0#32
  let main_v55 : IVec S1000 32 := broadcastInDim S1000 ![] bcast_S_S1000 main_c_23
  let main_v56 : IVec S1000 1 := cmpi .sge main_arg11 main_v55
  let main_c_24 : IVec S_ 32 := constantI S_ 32 10000#32
  let main_v57 : IVec S1000 32 := broadcastInDim S1000 ![] bcast_S_S1000 main_c_24
  let main_v58 : IVec S1000 1 := cmpi .slt main_arg11 main_v57
  let main_v59 : IVec S1000 1 := andi main_v56 main_v58
  let main_c_25 : IVec S_ 1 := constantI S_ 1 1#1
  let main_v60 : IVec S_ 1 := (fun x v => Host.reduce IntOp.andi x v reducesTo_S1000_S_d0 h_S_) main_v59 main_c_25
  let main_v61 : IVec S_ 1 := andi main_v54 main_v60
  let main_c_26 : IVec S_ 32 := constantI S_ 32 0#32
  let main_v62 : IVec S1000 32 := broadcastInDim S1000 ![] bcast_S_S1000 main_c_26
  let main_v63 : IVec S1000 1 := cmpi .sge main_arg12 main_v62
  let main_c_27 : IVec S_ 32 := constantI S_ 32 10000#32
  let main_v64 : IVec S1000 32 := broadcastInDim S1000 ![] bcast_S_S1000 main_c_27
  let main_v65 : IVec S1000 1 := cmpi .slt main_arg12 main_v64
  let main_v66 : IVec S1000 1 := andi main_v63 main_v65
  fn_part4 (F := F) main_v61 main_v66

def fn_part2 {F : FTy → Type} [FloatOps F] (main_arg8 : IVec S5000 32) (main_arg9 : IVec S1000 32) (main_arg10 : IVec S1000 32) (main_arg11 : IVec S1000 32) (main_arg12 : IVec S1000 32) (main_v26 : IVec S_ 1) (main_v32 : IVec S_ 1) : IVec S_ 1 :=
  let main_v33 : IVec S_ 1 := andi main_v26 main_v32
  let main_c_14 : IVec S_ 32 := constantI S_ 32 0#32
  let main_v34 : IVec S5000 32 := broadcastInDim S5000 ![] bcast_S_S5000 main_c_14
  let main_v35 : IVec S5000 1 := cmpi .sge main_arg8 main_v34
  let main_c_15 : IVec S_ 32 := constantI S_ 32 10000#32
  let main_v36 : IVec S5000 32 := broadcastInDim S5000 ![] bcast_S_S5000 main_c_15
  let main_v37 : IVec S5000 1 := cmpi .slt main_arg8 main_v36
  let main_v38 : IVec S5000 1 := andi main_v35 main_v37
  let main_c_16 : IVec S_ 1 := constantI S_ 1 1#1
  let main_v39 : IVec S_ 1 := (fun x v => Host.reduce IntOp.andi x v reducesTo_S5000_S_d0 h_S_) main_v38 main_c_16
  let main_v40 : IVec S_ 1 := andi main_v33 main_v39
  let main_c_17 : IVec S_ 32 := constantI S_ 32 0#32
  let main_v41 : IVec S1000 32 := broadcastInDim S1000 ![] bcast_S_S1000 main_c_17
  let main_v42 : IVec S1000 1 := cmpi .sge main_arg9 main_v41
  let main_c_18 : IVec S_ 32 := constantI S_ 32 10000#32
  let main_v43 : IVec S1000 32 := broadcastInDim S1000 ![] bcast_S_S1000 main_c_18
  let main_v44 : IVec S1000 1 := cmpi .slt main_arg9 main_v43
  let main_v45 : IVec S1000 1 := andi main_v42 main_v44
  let main_c_19 : IVec S_ 1 := constantI S_ 1 1#1
  let main_v46 : IVec S_ 1 := (fun x v => Host.reduce IntOp.andi x v reducesTo_S1000_S_d0 h_S_) main_v45 main_c_19
  let main_v47 : IVec S_ 1 := andi main_v40 main_v46
  let main_c_20 : IVec S_ 32 := constantI S_ 32 0#32
  let main_v48 : IVec S1000 32 := broadcastInDim S1000 ![] bcast_S_S1000 main_c_20
  let main_v49 : IVec S1000 1 := cmpi .sge main_arg10 main_v48
  fn_part3 (F := F) main_arg10 main_arg11 main_arg12 main_v47 main_v49

def fn_part1 {F : FTy → Type} [FloatOps F] (main_arg5 : IVec S5000 32) (main_arg6 : IVec S5000 32) (main_arg7 : IVec S5000 32) (main_arg8 : IVec S5000 32) (main_arg9 : IVec S1000 32) (main_arg10 : IVec S1000 32) (main_arg11 : IVec S1000 32) (main_arg12 : IVec S1000 32) (main_v12 : IVec S_ 1) (main_v14 : IVec S5000 1) (main_v15 : IVec S5000 32) : IVec S_ 1 :=
  let main_v16 : IVec S5000 1 := cmpi .slt main_arg5 main_v15
  let main_v17 : IVec S5000 1 := andi main_v14 main_v16
  let main_c_7 : IVec S_ 1 := constantI S_ 1 1#1
  let main_v18 : IVec S_ 1 := (fun x v => Host.reduce IntOp.andi x v reducesTo_S5000_S_d0 h_S_) main_v17 main_c_7
  let main_v19 : IVec S_ 1 := andi main_v12 main_v18
  let main_c_8 : IVec S_ 32 := constantI S_ 32 0#32
  let main_v20 : IVec S5000 32 := broadcastInDim S5000 ![] bcast_S_S5000 main_c_8
  let main_v21 : IVec S5000 1 := cmpi .sge main_arg6 main_v20
  let main_c_9 : IVec S_ 32 := constantI S_ 32 10000#32
  let main_v22 : IVec S5000 32 := broadcastInDim S5000 ![] bcast_S_S5000 main_c_9
  let main_v23 : IVec S5000 1 := cmpi .slt main_arg6 main_v22
  let main_v24 : IVec S5000 1 := andi main_v21 main_v23
  let main_c_10 : IVec S_ 1 := constantI S_ 1 1#1
  let main_v25 : IVec S_ 1 := (fun x v => Host.reduce IntOp.andi x v reducesTo_S5000_S_d0 h_S_) main_v24 main_c_10
  let main_v26 : IVec S_ 1 := andi main_v19 main_v25
  let main_c_11 : IVec S_ 32 := constantI S_ 32 0#32
  let main_v27 : IVec S5000 32 := broadcastInDim S5000 ![] bcast_S_S5000 main_c_11
  let main_v28 : IVec S5000 1 := cmpi .sge main_arg7 main_v27
  let main_c_12 : IVec S_ 32 := constantI S_ 32 10000#32
  let main_v29 : IVec S5000 32 := broadcastInDim S5000 ![] bcast_S_S5000 main_c_12
  let main_v30 : IVec S5000 1 := cmpi .slt main_arg7 main_v29
  let main_v31 : IVec S5000 1 := andi main_v28 main_v30
  let main_c_13 : IVec S_ 1 := constantI S_ 1 1#1
  let main_v32 : IVec S_ 1 := (fun x v => Host.reduce IntOp.andi x v reducesTo_S5000_S_d0 h_S_) main_v31 main_c_13
  fn_part2 (F := F) main_arg8 main_arg9 main_arg10 main_arg11 main_arg12 main_v26 main_v32

def fn {F : FTy → Type} [FloatOps F] (main_arg0 : FVec F S10000x128 .f32) (main_arg1 : FVec F S10000x10000 .f32) (main_arg2 : FVec F S10000x128 .f32) (main_arg3 : IVec S1000 32) (main_arg4 : IVec S1000 32) (main_arg5 : IVec S5000 32) (main_arg6 : IVec S5000 32) (main_arg7 : IVec S5000 32) (main_arg8 : IVec S5000 32) (main_arg9 : IVec S1000 32) (main_arg10 : IVec S1000 32) (main_arg11 : IVec S1000 32) (main_arg12 : IVec S1000 32) : IVec S_ 1 :=
  let main_c : IVec S_ 32 := constantI S_ 32 0#32
  let main_v0 : IVec S1000 32 := broadcastInDim S1000 ![] bcast_S_S1000 main_c
  let main_v1 : IVec S1000 1 := cmpi .sge main_arg3 main_v0
  let main_c_0 : IVec S_ 32 := constantI S_ 32 10000#32
  let main_v2 : IVec S1000 32 := broadcastInDim S1000 ![] bcast_S_S1000 main_c_0
  let main_v3 : IVec S1000 1 := cmpi .slt main_arg3 main_v2
  let main_v4 : IVec S1000 1 := andi main_v1 main_v3
  let main_c_1 : IVec S_ 1 := constantI S_ 1 1#1
  let main_v5 : IVec S_ 1 := (fun x v => Host.reduce IntOp.andi x v reducesTo_S1000_S_d0 h_S_) main_v4 main_c_1
  let main_c_2 : IVec S_ 32 := constantI S_ 32 0#32
  let main_v6 : IVec S1000 32 := broadcastInDim S1000 ![] bcast_S_S1000 main_c_2
  let main_v7 : IVec S1000 1 := cmpi .sge main_arg4 main_v6
  let main_c_3 : IVec S_ 32 := constantI S_ 32 10000#32
  let main_v8 : IVec S1000 32 := broadcastInDim S1000 ![] bcast_S_S1000 main_c_3
  let main_v9 : IVec S1000 1 := cmpi .slt main_arg4 main_v8
  let main_v10 : IVec S1000 1 := andi main_v7 main_v9
  let main_c_4 : IVec S_ 1 := constantI S_ 1 1#1
  let main_v11 : IVec S_ 1 := (fun x v => Host.reduce IntOp.andi x v reducesTo_S1000_S_d0 h_S_) main_v10 main_c_4
  let main_v12 : IVec S_ 1 := andi main_v5 main_v11
  let main_c_5 : IVec S_ 32 := constantI S_ 32 0#32
  let main_v13 : IVec S5000 32 := broadcastInDim S5000 ![] bcast_S_S5000 main_c_5
  let main_v14 : IVec S5000 1 := cmpi .sge main_arg5 main_v13
  let main_c_6 : IVec S_ 32 := constantI S_ 32 10000#32
  let main_v15 : IVec S5000 32 := broadcastInDim S5000 ![] bcast_S_S5000 main_c_6
  fn_part1 (F := F) main_arg5 main_arg6 main_arg7 main_arg8 main_arg9 main_arg10 main_arg11 main_arg12 main_v12 main_v14 main_v15
-- ==== Kernel.lean ====
abbrev S10000x128 : Shape := ⟨2, ![10000, 128]⟩
abbrev S10000x10000 : Shape := ⟨2, ![10000, 10000]⟩
abbrev S1000 : Shape := ⟨1, ![1000]⟩
abbrev S5000 : Shape := ⟨1, ![5000]⟩
abbrev S400x10000 : Shape := ⟨2, ![400, 10000]⟩
abbrev S400x128 : Shape := ⟨2, ![400, 128]⟩
abbrev S400x2048 : Shape := ⟨2, ![400, 2048]⟩
abbrev S2048x128 : Shape := ⟨2, ![2048, 128]⟩
abbrev S400x1808 : Shape := ⟨2, ![400, 1808]⟩
abbrev S1808x128 : Shape := ⟨2, ![1808, 128]⟩
abbrev S1x5000 : Shape := ⟨2, ![1, 5000]⟩
abbrev S4x5000 : Shape := ⟨2, ![4, 5000]⟩
abbrev S4x1000x5 : Shape := ⟨3, ![4, 1000, 5]⟩
abbrev S4x5x1000 : Shape := ⟨3, ![4, 5, 1000]⟩
abbrev S13000 : Shape := ⟨1, ![13000]⟩
abbrev S_ : Shape := ⟨0, ![]⟩
abbrev S56 : Shape := ⟨1, ![56]⟩
abbrev S13056 : Shape := ⟨1, ![13056]⟩
abbrev S1x13056 : Shape := ⟨2, ![1, 13056]⟩
abbrev S13056x128 : Shape := ⟨2, ![13056, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S13056x1 : Shape := ⟨2, ![13056, 1]⟩
abbrev S1000x1 : Shape := ⟨2, ![1000, 1]⟩
abbrev S1x1000x1 : Shape := ⟨3, ![1, 1000, 1]⟩
abbrev S1x1x1 : Shape := ⟨3, ![1, 1, 1]⟩

abbrev nBuf : Table → Nat
  | .hbm => 41
  | .local .tc .vmem => 8
  | .local .tc .smem => 1
  | .local .scVector .vmem => 4
  | _ => 0

abbrev bufTy : (tb : Table) → Fin (nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S1000, .i32⟩
  | .hbm, ⟨4, _⟩ => ⟨S1000, .i32⟩
  | .hbm, ⟨5, _⟩ => ⟨S5000, .i32⟩
  | .hbm, ⟨6, _⟩ => ⟨S5000, .i32⟩
  | .hbm, ⟨7, _⟩ => ⟨S5000, .i32⟩
  | .hbm, ⟨8, _⟩ => ⟨S5000, .i32⟩
  | .hbm, ⟨9, _⟩ => ⟨S1000, .i32⟩
  | .hbm, ⟨10, _⟩ => ⟨S1000, .i32⟩
  | .hbm, ⟨11, _⟩ => ⟨S1000, .i32⟩
  | .hbm, ⟨12, _⟩ => ⟨S1000, .i32⟩
  | .hbm, ⟨13, _⟩ => ⟨S10000x128, .f32⟩
  | .hbm, ⟨14, _⟩ => ⟨S1x5000, .i32⟩
  | .hbm, ⟨15, _⟩ => ⟨S1x5000, .i32⟩
  | .hbm, ⟨16, _⟩ => ⟨S1x5000, .i32⟩
  | .hbm, ⟨17, _⟩ => ⟨S1x5000, .i32⟩
  | .hbm, ⟨18, _⟩ => ⟨S4x5000, .i32⟩
  | .hbm, ⟨19, _⟩ => ⟨S4x1000x5, .i32⟩
  | .hbm, ⟨20, _⟩ => ⟨S4x5x1000, .i32⟩
  | .hbm, ⟨21, _⟩ => ⟨S4x5000, .i32⟩
  | .hbm, ⟨22, _⟩ => ⟨S1x5000, .i32⟩
  | .hbm, ⟨23, _⟩ => ⟨S5000, .i32⟩
  | .hbm, ⟨24, _⟩ => ⟨S1x5000, .i32⟩
  | .hbm, ⟨25, _⟩ => ⟨S5000, .i32⟩
  | .hbm, ⟨26, _⟩ => ⟨S1x5000, .i32⟩
  | .hbm, ⟨27, _⟩ => ⟨S5000, .i32⟩
  | .hbm, ⟨28, _⟩ => ⟨S1x5000, .i32⟩
  | .hbm, ⟨29, _⟩ => ⟨S5000, .i32⟩
  | .hbm, ⟨30, _⟩ => ⟨S13000, .i32⟩
  | .hbm, ⟨31, _⟩ => ⟨S13000, .i32⟩
  | .hbm, ⟨32, _⟩ => ⟨S_, .i32⟩
  | .hbm, ⟨33, _⟩ => ⟨S56, .i32⟩
  | .hbm, ⟨34, _⟩ => ⟨S13056, .i32⟩
  | .hbm, ⟨35, _⟩ => ⟨S1x13056, .i32⟩
  | .hbm, ⟨36, _⟩ => ⟨S13056, .i32⟩
  | .hbm, ⟨37, _⟩ => ⟨S1x13056, .i32⟩
  | .hbm, ⟨38, _⟩ => ⟨S13056x128, .f32⟩
  | .hbm, ⟨39, _⟩ => ⟨S13056x128, .f32⟩
  | .hbm, ⟨40, _⟩ => ⟨S_, .f32⟩
  | .local .tc .vmem, ⟨0, _⟩ => ⟨S400x10000, .f32⟩
  | .local .tc .vmem, ⟨1, _⟩ => ⟨S400x10000, .f32⟩
  | .local .tc .vmem, ⟨2, _⟩ => ⟨S10000x128, .f32⟩
  | .local .tc .vmem, ⟨3, _⟩ => ⟨S400x128, .f32⟩
  | .local .tc .vmem, ⟨4, _⟩ => ⟨S400x128, .f32⟩
  | .local .tc .vmem, ⟨5, _⟩ => ⟨S10000x128, .bf16⟩
  | .local .tc .vmem, ⟨6, _⟩ => ⟨S13056x128, .f32⟩
  | .local .tc .vmem, ⟨7, _⟩ => ⟨S13056x128, .f32⟩
  | .local .tc .smem, ⟨0, _⟩ => ⟨S_, .f32⟩
  | .local .scVector .vmem, ⟨0, _⟩ => ⟨S2x1x128, .i32⟩
  | .local .scVector .vmem, ⟨1, _⟩ => ⟨S2x1x128, .i32⟩
  | .local .scVector .vmem, ⟨2, _⟩ => ⟨S2x128x128, .f32⟩
  | .local .scVector .vmem, ⟨3, _⟩ => ⟨S2x128x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v25 : Ref sig .tc := ⟨.hbm, 40, rfl⟩
abbrev main_v0_scv : Ref sig .scVector := ⟨.hbm, 13, rfl⟩
abbrev main_v21_scv : Ref sig .scVector := ⟨.hbm, 35, rfl⟩
abbrev main_v23_scv : Ref sig .scVector := ⟨.hbm, 37, rfl⟩
abbrev main_v24_0_scv : Ref sig .scVector := ⟨.hbm, 38, rfl⟩
abbrev main_v24_1_scv : Ref sig .scVector := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.smem, 0, rfl⟩
abbrev cc1_scoped0 : Ref sig .scVector := ⟨.vmem, 0, rfl⟩
abbrev cc1_scoped2 : Ref sig .scVector := ⟨.vmem, 1, rfl⟩
abbrev cc1_scoped4 : Ref sig .scVector := ⟨.vmem, 2, rfl⟩
abbrev cc1_scoped6 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 17
abbrev cc2_sem1_0 : DmaSem sig := 18
abbrev cc2_sem2_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c400_i32 : BitVec 32 := 400#32
  let v40 : BitVec 32 := Scalar.muli arg1 c400_i32
  let v41 : Index := Scalar.indexCast v40
  let c0_23 : Index := 0#32
  ![v41.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_cond1 (i : grid1.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v11 : BitVec 32 := Scalar.muli c1_i32_3 v5
  let c0_i32_7_r0 : BitVec 32 := 0#32
  let v16_r0 : BitVec 1 := Scalar.cmpi .sgt v11 c0_i32_7_r0
  let v17_r0 : BitVec 32 := Scalar.extui v16_r0
  let c0_i32_8_r0 : BitVec 32 := 0#32
  let v18_r0 : BitVec 1 := Scalar.cmpi .ne v17_r0 c0_i32_8_r0
  v18_r0

def k1_cond2 (i : grid1.Coords) : BitVec 1 :=
  let true_24_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v19_r0 : BitVec 32 := Scalar.muli c1_i32_9_r0 v5
  let c0_i32_23_r0 : BitVec 32 := 0#32
  let v37_r0 : BitVec 1 := Scalar.cmpi .sgt v19_r0 c0_i32_23_r0
  let v38_r0 : BitVec 1 := Scalar.andi true_24_r0 v37_r0
  let true_25_r0 : BitVec 1 := 1#1
  let v39_r0 : BitVec 1 := Scalar.andi v38_r0 true_25_r0
  let v40_r0 : BitVec 32 := Scalar.extui v39_r0
  let c0_i32_27_r0 : BitVec 32 := 0#32
  let v41_r0 : BitVec 1 := Scalar.cmpi .ne v40_r0 c0_i32_27_r0
  v41_r0

def k1_off1 : Fin 3 → Nat :=
  let c0_i32_26_r0 : BitVec 32 := 0#32
  let c2_i32_r0 : BitVec 32 := 2#32
  let v93_r0 : BitVec 32 := Scalar.remui c0_i32_26_r0 c2_i32_r0
  let c0_i32_72_r0 : BitVec 32 := 0#32
  let c0_i32_73_r0 : BitVec 32 := 0#32
  ![v93_r0.toNat, 0, 0]
def k1_off2 (i : grid1.Coords) : Fin 2 → Nat :=
  let c0_i32_74_r0 : BitVec 32 := 0#32
  let c128_i32_r0 : BitVec 32 := 128#32
  let c0_i32_12_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v22_r0 : BitVec 32 := Scalar.addi c0_i32_12_r0 v10
  let v94_r0 : BitVec 32 := Scalar.muli c128_i32_r0 v22_r0
  ![0, v94_r0.toNat]
def k1_off3 : Fin 1 → Nat :=
  let c0_i32_26_r0 : BitVec 32 := 0#32
  let c2_i32_r0 : BitVec 32 := 2#32
  let v93_r0 : BitVec 32 := Scalar.remui c0_i32_26_r0 c2_i32_r0
  ![v93_r0.toNat]
def k1_cond3 (i : grid1.Coords) : BitVec 1 :=
  let true_32_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v19_r0 : BitVec 32 := Scalar.muli c1_i32_9_r0 v5
  let c0_i32_31_r0 : BitVec 32 := 0#32
  let v44_r0 : BitVec 1 := Scalar.cmpi .sgt v19_r0 c0_i32_31_r0
  let v45_r0 : BitVec 1 := Scalar.andi true_32_r0 v44_r0
  let true_33_r0 : BitVec 1 := 1#1
  let v46_r0 : BitVec 1 := Scalar.andi v45_r0 true_33_r0
  let v47_r0 : BitVec 32 := Scalar.extui v46_r0
  let c0_i32_35_r0 : BitVec 32 := 0#32
  let v48_r0 : BitVec 1 := Scalar.cmpi .ne v47_r0 c0_i32_35_r0
  v48_r0

def k1_off4 : Fin 3 → Nat :=
  let c0_i32_34_r0 : BitVec 32 := 0#32
  let c2_i32_r0 : BitVec 32 := 2#32
  let v93_r0 : BitVec 32 := Scalar.remui c0_i32_34_r0 c2_i32_r0
  let c0_i32_72_r0 : BitVec 32 := 0#32
  let c0_i32_73_r0 : BitVec 32 := 0#32
  ![v93_r0.toNat, 0, 0]
def k1_off5 (i : grid1.Coords) : Fin 2 → Nat :=
  let c0_i32_74_r0 : BitVec 32 := 0#32
  let c128_i32_r0 : BitVec 32 := 128#32
  let c0_i32_12_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v22_r0 : BitVec 32 := Scalar.addi c0_i32_12_r0 v10
  let v94_r0 : BitVec 32 := Scalar.muli c128_i32_r0 v22_r0
  ![0, v94_r0.toNat]
def k1_off6 : Fin 1 → Nat :=
  let c0_i32_34_r0 : BitVec 32 := 0#32
  let c2_i32_r0 : BitVec 32 := 2#32
  let v93_r0 : BitVec 32 := Scalar.remui c0_i32_34_r0 c2_i32_r0
  ![v93_r0.toNat]
@[reducible] def k1_t1_loop (i : grid1.Coords) : Scf.Loop 32 :=
  let c0_i32_39_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v11 : BitVec 32 := Scalar.muli c1_i32_3 v5
  let v51_r0 : BitVec 32 := Scalar.subi v11 c0_i32_39_r0
  let c1_i32_47_r0 : BitVec 32 := 1#32
  let v53_r0 : BitVec 32 := Scalar.divsi v51_r0 c1_i32_47_r0
  let v54_r0 : BitVec 32 := Scalar.muli v53_r0 c1_i32_47_r0
  let v55_r0 : BitVec 32 := Scalar.addi c0_i32_39_r0 v54_r0
  let c1_i32_48_r0 : BitVec 32 := 1#32
  ⟨c0_i32_39_r0, v55_r0, c1_i32_48_r0⟩
def k1_off7 (arg8_r0 : BitVec 32) : Fin 3 → Nat :=
  let c2_i32_146_r0 : BitVec 32 := 2#32
  let v242_r0 : BitVec 32 := Scalar.remui arg8_r0 c2_i32_146_r0
  let c0_i32_147_r0 : BitVec 32 := 0#32
  let c0_i32_148_r0 : BitVec 32 := 0#32
  ![v242_r0.toNat, 0, 0]
def k1_cond4 (i : grid1.Coords) (k1_t1 : Fin (k1_t1_loop i).trips) (arg16_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let true_80_r0 : BitVec 1 := 1#1
  let c1_i32_79_r0 : BitVec 32 := 1#32
  let v104_r0 : BitVec 32 := Scalar.addi arg16_r0 c1_i32_79_r0
  let v105_r0 : BitVec 32 := Scalar.select true_80_r0 v104_r0 arg16_r0
  let v106_r0 : BitVec 1 := Scalar.cmpi .eq v105_r0 v5
  let c0_i32_81_r0 : BitVec 32 := 0#32
  let v107_r0 : BitVec 32 := Scalar.select v106_r0 c0_i32_81_r0 v105_r0
  let v108_r0 : BitVec 32 := Scalar.addi v107_r0 v10
  let v114_r0 : BitVec 1 := Scalar.cmpi .ne v97_r0 v108_r0
  let c0_i32_39_r0 : BitVec 32 := 0#32
  let c1_i32_48_r0 : BitVec 32 := 1#32
  let arg7_r0 : BitVec 32 := Scf.iv c0_i32_39_r0 c1_i32_48_r0 k1_t1
  let c1_i32_72_r0 : BitVec 32 := 1#32
  let v93_r0 : BitVec 32 := Scalar.muli c1_i32_72_r0 v5
  let c2_i32_r0 : BitVec 32 := 2#32
  let v115_r0 : BitVec 32 := Scalar.subi v93_r0 c2_i32_r0
  let c1_i32_85_r0 : BitVec 32 := 1#32
  let v116_r0 : BitVec 32 := Scalar.addi v115_r0 c1_i32_85_r0
  let v117_r0 : BitVec 1 := Scalar.cmpi .sge arg7_r0 v116_r0
  let true_86_r0 : BitVec 1 := 1#1
  let v118_r0 : BitVec 1 := Scalar.xori v117_r0 true_86_r0
  let v119_r0 : BitVec 1 := Scalar.andi v114_r0 v118_r0
  let true_87_r0 : BitVec 1 := 1#1
  let v120_r0 : BitVec 1 := Scalar.andi v119_r0 true_87_r0
  let v121_r0 : BitVec 32 := Scalar.extui v120_r0
  let c0_i32_88_r0 : BitVec 32 := 0#32
  let v122_r0 : BitVec 1 := Scalar.cmpi .ne v121_r0 c0_i32_88_r0
  v122_r0

def k1_off8 (i : grid1.Coords) (arg16_r0 : BitVec 32) : Fin 2 → Nat :=
  let c0_i32_149_r0 : BitVec 32 := 0#32
  let c128_i32_r0 : BitVec 32 := 128#32
  let true_80_r0 : BitVec 1 := 1#1
  let c1_i32_79_r0 : BitVec 32 := 1#32
  let v104_r0 : BitVec 32 := Scalar.addi arg16_r0 c1_i32_79_r0
  let v105_r0 : BitVec 32 := Scalar.select true_80_r0 v104_r0 arg16_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v106_r0 : BitVec 1 := Scalar.cmpi .eq v105_r0 v5
  let c0_i32_81_r0 : BitVec 32 := 0#32
  let v107_r0 : BitVec 32 := Scalar.select v106_r0 c0_i32_81_r0 v105_r0
  let c6_i32_0 : BitVec 32 := 6#32
  let v6 : BitVec 1 := Scalar.cmpi .slt v3 c6_i32_0
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v108_r0 : BitVec 32 := Scalar.addi v107_r0 v10
  let v243_r0 : BitVec 32 := Scalar.muli c128_i32_r0 v108_r0
  ![0, v243_r0.toNat]
def k1_off9 (arg8_r0 : BitVec 32) : Fin 1 → Nat :=
  let c2_i32_146_r0 : BitVec 32 := 2#32
  let v242_r0 : BitVec 32 := Scalar.remui arg8_r0 c2_i32_146_r0
  ![v242_r0.toNat]
def k1_off10 (arg10_r0 : BitVec 32) : Fin 3 → Nat :=
  let c2_i32_146_r0 : BitVec 32 := 2#32
  let v242_r0 : BitVec 32 := Scalar.remui arg10_r0 c2_i32_146_r0
  let c0_i32_147_r0 : BitVec 32 := 0#32
  let c0_i32_148_r0 : BitVec 32 := 0#32
  ![v242_r0.toNat, 0, 0]
def k1_cond5 (i : grid1.Coords) (k1_t1 : Fin (k1_t1_loop i).trips) (arg16_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let true_80_r0 : BitVec 1 := 1#1
  let c1_i32_79_r0 : BitVec 32 := 1#32
  let v104_r0 : BitVec 32 := Scalar.addi arg16_r0 c1_i32_79_r0
  let v105_r0 : BitVec 32 := Scalar.select true_80_r0 v104_r0 arg16_r0
  let v106_r0 : BitVec 1 := Scalar.cmpi .eq v105_r0 v5
  let c0_i32_81_r0 : BitVec 32 := 0#32
  let v107_r0 : BitVec 32 := Scalar.select v106_r0 c0_i32_81_r0 v105_r0
  let v108_r0 : BitVec 32 := Scalar.addi v107_r0 v10
  let v126_r0 : BitVec 1 := Scalar.cmpi .ne v97_r0 v108_r0
  let c0_i32_39_r0 : BitVec 32 := 0#32
  let c1_i32_48_r0 : BitVec 32 := 1#32
  let arg7_r0 : BitVec 32 := Scf.iv c0_i32_39_r0 c1_i32_48_r0 k1_t1
  let c1_i32_72_r0 : BitVec 32 := 1#32
  let v93_r0 : BitVec 32 := Scalar.muli c1_i32_72_r0 v5
  let c2_i32_91_r0 : BitVec 32 := 2#32
  let v127_r0 : BitVec 32 := Scalar.subi v93_r0 c2_i32_91_r0
  let c1_i32_92_r0 : BitVec 32 := 1#32
  let v128_r0 : BitVec 32 := Scalar.addi v127_r0 c1_i32_92_r0
  let v129_r0 : BitVec 1 := Scalar.cmpi .sge arg7_r0 v128_r0
  let true_93_r0 : BitVec 1 := 1#1
  let v130_r0 : BitVec 1 := Scalar.xori v129_r0 true_93_r0
  let v131_r0 : BitVec 1 := Scalar.andi v126_r0 v130_r0
  let true_94_r0 : BitVec 1 := 1#1
  let v132_r0 : BitVec 1 := Scalar.andi v131_r0 true_94_r0
  let v133_r0 : BitVec 32 := Scalar.extui v132_r0
  let c0_i32_95_r0 : BitVec 32 := 0#32
  let v134_r0 : BitVec 1 := Scalar.cmpi .ne v133_r0 c0_i32_95_r0
  v134_r0

def k1_off11 (i : grid1.Coords) (arg16_r0 : BitVec 32) : Fin 2 → Nat :=
  let c0_i32_149_r0 : BitVec 32 := 0#32
  let c128_i32_r0 : BitVec 32 := 128#32
  let true_80_r0 : BitVec 1 := 1#1
  let c1_i32_79_r0 : BitVec 32 := 1#32
  let v104_r0 : BitVec 32 := Scalar.addi arg16_r0 c1_i32_79_r0
  let v105_r0 : BitVec 32 := Scalar.select true_80_r0 v104_r0 arg16_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v106_r0 : BitVec 1 := Scalar.cmpi .eq v105_r0 v5
  let c0_i32_81_r0 : BitVec 32 := 0#32
  let v107_r0 : BitVec 32 := Scalar.select v106_r0 c0_i32_81_r0 v105_r0
  let c6_i32_0 : BitVec 32 := 6#32
  let v6 : BitVec 1 := Scalar.cmpi .slt v3 c6_i32_0
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v108_r0 : BitVec 32 := Scalar.addi v107_r0 v10
  let v243_r0 : BitVec 32 := Scalar.muli c128_i32_r0 v108_r0
  ![0, v243_r0.toNat]
def k1_off12 (arg10_r0 : BitVec 32) : Fin 1 → Nat :=
  let c2_i32_146_r0 : BitVec 32 := 2#32
  let v242_r0 : BitVec 32 := Scalar.remui arg10_r0 c2_i32_146_r0
  ![v242_r0.toNat]
def k1_off13 (arg9_r0 : BitVec 32) : Fin 3 → Nat :=
  let c2_i32_146_r0 : BitVec 32 := 2#32
  let v243_r0 : BitVec 32 := Scalar.remui arg9_r0 c2_i32_146_r0
  let c0_i32_147_r0 : BitVec 32 := 0#32
  let c0_i32_148_r0 : BitVec 32 := 0#32
  ![v243_r0.toNat, 0, 0]
def k1_cond6 (i : grid1.Coords) (k1_t1 : Fin (k1_t1_loop i).trips) (arg16_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let true_76_r0 : BitVec 1 := 1#1
  let c1_i32_75_r0 : BitVec 32 := 1#32
  let v98_r0 : BitVec 32 := Scalar.subi arg16_r0 c1_i32_75_r0
  let v99_r0 : BitVec 32 := Scalar.select true_76_r0 v98_r0 arg16_r0
  let c_m1_i32_77_r0 : BitVec 32 := 4294967295#32
  let v100_r0 : BitVec 1 := Scalar.cmpi .eq v99_r0 c_m1_i32_77_r0
  let c1_i32_78_r0 : BitVec 32 := 1#32
  let v101_r0 : BitVec 32 := Scalar.subi v5 c1_i32_78_r0
  let v102_r0 : BitVec 32 := Scalar.select v100_r0 v101_r0 v99_r0
  let v103_r0 : BitVec 32 := Scalar.addi v102_r0 v10
  let v150_r0 : BitVec 1 := Scalar.cmpi .ne v97_r0 v103_r0
  let c0_i32_39_r0 : BitVec 32 := 0#32
  let c1_i32_48_r0 : BitVec 32 := 1#32
  let arg7_r0 : BitVec 32 := Scf.iv c0_i32_39_r0 c1_i32_48_r0 k1_t1
  let c0_i32_73_r0 : BitVec 32 := 0#32
  let v94_r0 : BitVec 1 := Scalar.cmpi .eq arg7_r0 c0_i32_73_r0
  let v151_r0 : BitVec 1 := Scalar.ori v150_r0 v94_r0
  let c0_i32_104_r0 : BitVec 32 := 0#32
  let v152_r0 : BitVec 1 := Scalar.cmpi .sge arg7_r0 c0_i32_104_r0
  let v153_r0 : BitVec 1 := Scalar.andi v151_r0 v152_r0
  let v154_r0 : BitVec 32 := Scalar.extui v153_r0
  let c0_i32_105_r0 : BitVec 32 := 0#32
  let v155_r0 : BitVec 1 := Scalar.cmpi .ne v154_r0 c0_i32_105_r0
  v155_r0

def k1_off14 (i : grid1.Coords) (arg16_r0 : BitVec 32) : Fin 2 → Nat :=
  let c0_i32_149_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let v242_r0 : BitVec 32 := Scalar.muli c128_i32_r0 v97_r0
  ![0, v242_r0.toNat]
def k1_off15 (arg9_r0 : BitVec 32) : Fin 1 → Nat :=
  let c2_i32_146_r0 : BitVec 32 := 2#32
  let v243_r0 : BitVec 32 := Scalar.remui arg9_r0 c2_i32_146_r0
  ![v243_r0.toNat]
def k1_off16 (arg11_r0 : BitVec 32) : Fin 3 → Nat :=
  let c2_i32_146_r0 : BitVec 32 := 2#32
  let v243_r0 : BitVec 32 := Scalar.remui arg11_r0 c2_i32_146_r0
  let c0_i32_147_r0 : BitVec 32 := 0#32
  let c0_i32_148_r0 : BitVec 32 := 0#32
  ![v243_r0.toNat, 0, 0]
def k1_cond7 (i : grid1.Coords) (k1_t1 : Fin (k1_t1_loop i).trips) (arg16_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let true_76_r0 : BitVec 1 := 1#1
  let c1_i32_75_r0 : BitVec 32 := 1#32
  let v98_r0 : BitVec 32 := Scalar.subi arg16_r0 c1_i32_75_r0
  let v99_r0 : BitVec 32 := Scalar.select true_76_r0 v98_r0 arg16_r0
  let c_m1_i32_77_r0 : BitVec 32 := 4294967295#32
  let v100_r0 : BitVec 1 := Scalar.cmpi .eq v99_r0 c_m1_i32_77_r0
  let c1_i32_78_r0 : BitVec 32 := 1#32
  let v101_r0 : BitVec 32 := Scalar.subi v5 c1_i32_78_r0
  let v102_r0 : BitVec 32 := Scalar.select v100_r0 v101_r0 v99_r0
  let v103_r0 : BitVec 32 := Scalar.addi v102_r0 v10
  let v156_r0 : BitVec 1 := Scalar.cmpi .ne v97_r0 v103_r0
  let c0_i32_39_r0 : BitVec 32 := 0#32
  let c1_i32_48_r0 : BitVec 32 := 1#32
  let arg7_r0 : BitVec 32 := Scf.iv c0_i32_39_r0 c1_i32_48_r0 k1_t1
  let c0_i32_73_r0 : BitVec 32 := 0#32
  let v94_r0 : BitVec 1 := Scalar.cmpi .eq arg7_r0 c0_i32_73_r0
  let v157_r0 : BitVec 1 := Scalar.ori v156_r0 v94_r0
  let c0_i32_106_r0 : BitVec 32 := 0#32
  let v158_r0 : BitVec 1 := Scalar.cmpi .sge arg7_r0 c0_i32_106_r0
  let v159_r0 : BitVec 1 := Scalar.andi v157_r0 v158_r0
  let v160_r0 : BitVec 32 := Scalar.extui v159_r0
  let c0_i32_107_r0 : BitVec 32 := 0#32
  let v161_r0 : BitVec 1 := Scalar.cmpi .ne v160_r0 c0_i32_107_r0
  v161_r0

def k1_off17 (i : grid1.Coords) (arg16_r0 : BitVec 32) : Fin 2 → Nat :=
  let c0_i32_149_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let v242_r0 : BitVec 32 := Scalar.muli c128_i32_r0 v97_r0
  ![0, v242_r0.toNat]
def k1_off18 (arg11_r0 : BitVec 32) : Fin 1 → Nat :=
  let c2_i32_146_r0 : BitVec 32 := 2#32
  let v243_r0 : BitVec 32 := Scalar.remui arg11_r0 c2_i32_146_r0
  ![v243_r0.toNat]
def k1_off19 (arg12_r0 : BitVec 32) : Fin 3 → Nat :=
  let c2_i32_114_r0 : BitVec 32 := 2#32
  let v176_r0 : BitVec 32 := Scalar.remui arg12_r0 c2_i32_114_r0
  let c0_i32_146_r1 : BitVec 32 := 0#32
  let c0_i32_147_r1 : BitVec 32 := 0#32
  ![v176_r0.toNat, 0, 0]

def k1_chk2 (i : grid1.Coords) (arg12_r0 : BitVec 32) : Prop :=
  (∀ (k1_h1 : k1_cond1 i = 1#1), ∀ a, (k1_off19 arg12_r0) a + S1x128x128.size a ≤ S2x128x128.size a)
theorem k1_off19_inb : ∀ (i : grid1.Coords) (arg12_r0 : BitVec 32) (k1_hw2 : k1_chk2 i arg12_r0), ∀ (k1_h1 : k1_cond1 i = 1#1), ∀ a, (k1_off19 arg12_r0) a + S1x128x128.size a ≤ S2x128x128.size a := fun i arg12_r0 k1_hw2 k1_h1 => k1_hw2 k1_h1

def k1_off20 (arg9_r0 : BitVec 32) : Fin 3 → Nat :=
  let c2_i32_112_r0 : BitVec 32 := 2#32
  let v174_r0 : BitVec 32 := Scalar.remui arg9_r0 c2_i32_112_r0
  let c0_i32_148_r1 : BitVec 32 := 0#32
  let c0_i32_149_r1 : BitVec 32 := 0#32
  ![v174_r0.toNat, 0, 0]

def k1_chk3 (i : grid1.Coords) (arg9_r0 : BitVec 32) : Prop :=
  (∀ (k1_h1 : k1_cond1 i = 1#1), ∀ a, (k1_off20 arg9_r0) a + S1x1x128.size a ≤ S2x1x128.size a)
theorem k1_off20_inb : ∀ (i : grid1.Coords) (arg9_r0 : BitVec 32) (k1_hw3 : k1_chk3 i arg9_r0), ∀ (k1_h1 : k1_cond1 i = 1#1), ∀ a, (k1_off20 arg9_r0) a + S1x1x128.size a ≤ S2x1x128.size a := fun i arg9_r0 k1_hw3 k1_h1 => k1_hw3 k1_h1

def k1_off21 (arg14_r0 : BitVec 32) : Fin 3 → Nat :=
  let c2_i32_115_r0 : BitVec 32 := 2#32
  let v177_r0 : BitVec 32 := Scalar.remui arg14_r0 c2_i32_115_r0
  let c0_i32_146_r2 : BitVec 32 := 0#32
  let c0_i32_147_r2 : BitVec 32 := 0#32
  ![v177_r0.toNat, 0, 0]

def k1_chk4 (i : grid1.Coords) (arg14_r0 : BitVec 32) : Prop :=
  (∀ (k1_h1 : k1_cond1 i = 1#1), ∀ a, (k1_off21 arg14_r0) a + S1x128x128.size a ≤ S2x128x128.size a)
theorem k1_off21_inb : ∀ (i : grid1.Coords) (arg14_r0 : BitVec 32) (k1_hw4 : k1_chk4 i arg14_r0), ∀ (k1_h1 : k1_cond1 i = 1#1), ∀ a, (k1_off21 arg14_r0) a + S1x128x128.size a ≤ S2x128x128.size a := fun i arg14_r0 k1_hw4 k1_h1 => k1_hw4 k1_h1

def k1_off22 (arg11_r0 : BitVec 32) : Fin 3 → Nat :=
  let c2_i32_113_r0 : BitVec 32 := 2#32
  let v175_r0 : BitVec 32 := Scalar.remui arg11_r0 c2_i32_113_r0
  let c0_i32_148_r2 : BitVec 32 := 0#32
  let c0_i32_149_r2 : BitVec 32 := 0#32
  ![v175_r0.toNat, 0, 0]

def k1_chk5 (i : grid1.Coords) (arg11_r0 : BitVec 32) : Prop :=
  (∀ (k1_h1 : k1_cond1 i = 1#1), ∀ a, (k1_off22 arg11_r0) a + S1x1x128.size a ≤ S2x1x128.size a)
theorem k1_off22_inb : ∀ (i : grid1.Coords) (arg11_r0 : BitVec 32) (k1_hw5 : k1_chk5 i arg11_r0), ∀ (k1_h1 : k1_cond1 i = 1#1), ∀ a, (k1_off22 arg11_r0) a + S1x1x128.size a ≤ S2x1x128.size a := fun i arg11_r0 k1_hw5 k1_h1 => k1_hw5 k1_h1

def k1_off23 (arg12_r0 : BitVec 32) : Fin 3 → Nat :=
  let c2_i32_146_r0 : BitVec 32 := 2#32
  let v242_r0 : BitVec 32 := Scalar.remui arg12_r0 c2_i32_146_r0
  let c0_i32_147_r0 : BitVec 32 := 0#32
  let c0_i32_148_r0 : BitVec 32 := 0#32
  ![v242_r0.toNat, 0, 0]
def k1_cond12 (i : grid1.Coords) (k1_t1 : Fin (k1_t1_loop i).trips) (arg16_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let true_80_r0 : BitVec 1 := 1#1
  let c1_i32_79_r0 : BitVec 32 := 1#32
  let v104_r0 : BitVec 32 := Scalar.addi arg16_r0 c1_i32_79_r0
  let v105_r0 : BitVec 32 := Scalar.select true_80_r0 v104_r0 arg16_r0
  let v106_r0 : BitVec 1 := Scalar.cmpi .eq v105_r0 v5
  let c0_i32_81_r0 : BitVec 32 := 0#32
  let v107_r0 : BitVec 32 := Scalar.select v106_r0 c0_i32_81_r0 v105_r0
  let v108_r0 : BitVec 32 := Scalar.addi v107_r0 v10
  let v188_r0 : BitVec 1 := Scalar.cmpi .ne v97_r0 v108_r0
  let c0_i32_39_r0 : BitVec 32 := 0#32
  let c1_i32_48_r0 : BitVec 32 := 1#32
  let arg7_r0 : BitVec 32 := Scf.iv c0_i32_39_r0 c1_i32_48_r0 k1_t1
  let c1_i32_72_r0 : BitVec 32 := 1#32
  let v93_r0 : BitVec 32 := Scalar.muli c1_i32_72_r0 v5
  let c1_i32_74_r0 : BitVec 32 := 1#32
  let v95_r0 : BitVec 32 := Scalar.subi v93_r0 c1_i32_74_r0
  let v96_r0 : BitVec 1 := Scalar.cmpi .eq arg7_r0 v95_r0
  let v189_r0 : BitVec 1 := Scalar.ori v188_r0 v96_r0
  let v190_r0 : BitVec 32 := Scalar.extui v189_r0
  let c0_i32_121_r0 : BitVec 32 := 0#32
  let v191_r0 : BitVec 1 := Scalar.cmpi .ne v190_r0 c0_i32_121_r0
  v191_r0

def k1_off24 (i : grid1.Coords) (arg16_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let v243_r0 : BitVec 32 := Scalar.muli c128_i32_r0 v97_r0
  let c0_i32_149_r0 : BitVec 32 := 0#32
  ![v243_r0.toNat, 0]
def k1_off25 (arg12_r0 : BitVec 32) : Fin 1 → Nat :=
  let c2_i32_146_r0 : BitVec 32 := 2#32
  let v242_r0 : BitVec 32 := Scalar.remui arg12_r0 c2_i32_146_r0
  ![v242_r0.toNat]
def k1_off26 (arg14_r0 : BitVec 32) : Fin 3 → Nat :=
  let c2_i32_146_r0 : BitVec 32 := 2#32
  let v242_r0 : BitVec 32 := Scalar.remui arg14_r0 c2_i32_146_r0
  let c0_i32_147_r0 : BitVec 32 := 0#32
  let c0_i32_148_r0 : BitVec 32 := 0#32
  ![v242_r0.toNat, 0, 0]
def k1_cond13 (i : grid1.Coords) (k1_t1 : Fin (k1_t1_loop i).trips) (arg16_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let true_80_r0 : BitVec 1 := 1#1
  let c1_i32_79_r0 : BitVec 32 := 1#32
  let v104_r0 : BitVec 32 := Scalar.addi arg16_r0 c1_i32_79_r0
  let v105_r0 : BitVec 32 := Scalar.select true_80_r0 v104_r0 arg16_r0
  let v106_r0 : BitVec 1 := Scalar.cmpi .eq v105_r0 v5
  let c0_i32_81_r0 : BitVec 32 := 0#32
  let v107_r0 : BitVec 32 := Scalar.select v106_r0 c0_i32_81_r0 v105_r0
  let v108_r0 : BitVec 32 := Scalar.addi v107_r0 v10
  let v195_r0 : BitVec 1 := Scalar.cmpi .ne v97_r0 v108_r0
  let c0_i32_39_r0 : BitVec 32 := 0#32
  let c1_i32_48_r0 : BitVec 32 := 1#32
  let arg7_r0 : BitVec 32 := Scf.iv c0_i32_39_r0 c1_i32_48_r0 k1_t1
  let c1_i32_72_r0 : BitVec 32 := 1#32
  let v93_r0 : BitVec 32 := Scalar.muli c1_i32_72_r0 v5
  let c1_i32_74_r0 : BitVec 32 := 1#32
  let v95_r0 : BitVec 32 := Scalar.subi v93_r0 c1_i32_74_r0
  let v96_r0 : BitVec 1 := Scalar.cmpi .eq arg7_r0 v95_r0
  let v196_r0 : BitVec 1 := Scalar.ori v195_r0 v96_r0
  let v197_r0 : BitVec 32 := Scalar.extui v196_r0
  let c0_i32_124_r0 : BitVec 32 := 0#32
  let v198_r0 : BitVec 1 := Scalar.cmpi .ne v197_r0 c0_i32_124_r0
  v198_r0

def k1_off27 (i : grid1.Coords) (arg16_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let v243_r0 : BitVec 32 := Scalar.muli c128_i32_r0 v97_r0
  let c0_i32_149_r0 : BitVec 32 := 0#32
  ![v243_r0.toNat, 0]
def k1_off28 (arg14_r0 : BitVec 32) : Fin 1 → Nat :=
  let c2_i32_146_r0 : BitVec 32 := 2#32
  let v242_r0 : BitVec 32 := Scalar.remui arg14_r0 c2_i32_146_r0
  ![v242_r0.toNat]
def k1_off29 (arg13_r0 : BitVec 32) : Fin 3 → Nat :=
  let c2_i32_146_r0 : BitVec 32 := 2#32
  let v242_r0 : BitVec 32 := Scalar.remui arg13_r0 c2_i32_146_r0
  let c0_i32_147_r0 : BitVec 32 := 0#32
  let c0_i32_148_r0 : BitVec 32 := 0#32
  ![v242_r0.toNat, 0, 0]
def k1_cond16 (i : grid1.Coords) (k1_t1 : Fin (k1_t1_loop i).trips) (arg16_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let true_76_r0 : BitVec 1 := 1#1
  let c1_i32_75_r0 : BitVec 32 := 1#32
  let v98_r0 : BitVec 32 := Scalar.subi arg16_r0 c1_i32_75_r0
  let v99_r0 : BitVec 32 := Scalar.select true_76_r0 v98_r0 arg16_r0
  let c_m1_i32_77_r0 : BitVec 32 := 4294967295#32
  let v100_r0 : BitVec 1 := Scalar.cmpi .eq v99_r0 c_m1_i32_77_r0
  let c1_i32_78_r0 : BitVec 32 := 1#32
  let v101_r0 : BitVec 32 := Scalar.subi v5 c1_i32_78_r0
  let v102_r0 : BitVec 32 := Scalar.select v100_r0 v101_r0 v99_r0
  let v103_r0 : BitVec 32 := Scalar.addi v102_r0 v10
  let v214_r0 : BitVec 1 := Scalar.cmpi .ne v97_r0 v103_r0
  let c0_i32_39_r0 : BitVec 32 := 0#32
  let c1_i32_48_r0 : BitVec 32 := 1#32
  let arg7_r0 : BitVec 32 := Scf.iv c0_i32_39_r0 c1_i32_48_r0 k1_t1
  let c0_i32_73_r0 : BitVec 32 := 0#32
  let v94_r0 : BitVec 1 := Scalar.cmpi .eq arg7_r0 c0_i32_73_r0
  let true_133_r0 : BitVec 1 := 1#1
  let v215_r0 : BitVec 1 := Scalar.xori v94_r0 true_133_r0
  let v216_r0 : BitVec 1 := Scalar.andi v214_r0 v215_r0
  let v217_r0 : BitVec 32 := Scalar.extui v216_r0
  let c0_i32_134_r0 : BitVec 32 := 0#32
  let v218_r0 : BitVec 1 := Scalar.cmpi .ne v217_r0 c0_i32_134_r0
  v218_r0

def k1_off30 (i : grid1.Coords) (arg16_r0 : BitVec 32) : Fin 2 → Nat :=
  let c128_i32_r0 : BitVec 32 := 128#32
  let true_76_r0 : BitVec 1 := 1#1
  let c1_i32_75_r0 : BitVec 32 := 1#32
  let v98_r0 : BitVec 32 := Scalar.subi arg16_r0 c1_i32_75_r0
  let v99_r0 : BitVec 32 := Scalar.select true_76_r0 v98_r0 arg16_r0
  let c_m1_i32_77_r0 : BitVec 32 := 4294967295#32
  let v100_r0 : BitVec 1 := Scalar.cmpi .eq v99_r0 c_m1_i32_77_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let c1_i32_78_r0 : BitVec 32 := 1#32
  let v101_r0 : BitVec 32 := Scalar.subi v5 c1_i32_78_r0
  let v102_r0 : BitVec 32 := Scalar.select v100_r0 v101_r0 v99_r0
  let c6_i32_0 : BitVec 32 := 6#32
  let v6 : BitVec 1 := Scalar.cmpi .slt v3 c6_i32_0
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v103_r0 : BitVec 32 := Scalar.addi v102_r0 v10
  let v243_r0 : BitVec 32 := Scalar.muli c128_i32_r0 v103_r0
  let c0_i32_149_r0 : BitVec 32 := 0#32
  ![v243_r0.toNat, 0]
def k1_off31 (arg13_r0 : BitVec 32) : Fin 1 → Nat :=
  let c2_i32_146_r0 : BitVec 32 := 2#32
  let v242_r0 : BitVec 32 := Scalar.remui arg13_r0 c2_i32_146_r0
  ![v242_r0.toNat]
def k1_off32 (arg15_r0 : BitVec 32) : Fin 3 → Nat :=
  let c2_i32_146_r0 : BitVec 32 := 2#32
  let v242_r0 : BitVec 32 := Scalar.remui arg15_r0 c2_i32_146_r0
  let c0_i32_147_r0 : BitVec 32 := 0#32
  let c0_i32_148_r0 : BitVec 32 := 0#32
  ![v242_r0.toNat, 0, 0]
def k1_cond17 (i : grid1.Coords) (k1_t1 : Fin (k1_t1_loop i).trips) (arg16_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let true_76_r0 : BitVec 1 := 1#1
  let c1_i32_75_r0 : BitVec 32 := 1#32
  let v98_r0 : BitVec 32 := Scalar.subi arg16_r0 c1_i32_75_r0
  let v99_r0 : BitVec 32 := Scalar.select true_76_r0 v98_r0 arg16_r0
  let c_m1_i32_77_r0 : BitVec 32 := 4294967295#32
  let v100_r0 : BitVec 1 := Scalar.cmpi .eq v99_r0 c_m1_i32_77_r0
  let c1_i32_78_r0 : BitVec 32 := 1#32
  let v101_r0 : BitVec 32 := Scalar.subi v5 c1_i32_78_r0
  let v102_r0 : BitVec 32 := Scalar.select v100_r0 v101_r0 v99_r0
  let v103_r0 : BitVec 32 := Scalar.addi v102_r0 v10
  let v222_r0 : BitVec 1 := Scalar.cmpi .ne v97_r0 v103_r0
  let c0_i32_39_r0 : BitVec 32 := 0#32
  let c1_i32_48_r0 : BitVec 32 := 1#32
  let arg7_r0 : BitVec 32 := Scf.iv c0_i32_39_r0 c1_i32_48_r0 k1_t1
  let c0_i32_73_r0 : BitVec 32 := 0#32
  let v94_r0 : BitVec 1 := Scalar.cmpi .eq arg7_r0 c0_i32_73_r0
  let true_137_r0 : BitVec 1 := 1#1
  let v223_r0 : BitVec 1 := Scalar.xori v94_r0 true_137_r0
  let v224_r0 : BitVec 1 := Scalar.andi v222_r0 v223_r0
  let v225_r0 : BitVec 32 := Scalar.extui v224_r0
  let c0_i32_138_r0 : BitVec 32 := 0#32
  let v226_r0 : BitVec 1 := Scalar.cmpi .ne v225_r0 c0_i32_138_r0
  v226_r0

def k1_off33 (i : grid1.Coords) (arg16_r0 : BitVec 32) : Fin 2 → Nat :=
  let c128_i32_r0 : BitVec 32 := 128#32
  let true_76_r0 : BitVec 1 := 1#1
  let c1_i32_75_r0 : BitVec 32 := 1#32
  let v98_r0 : BitVec 32 := Scalar.subi arg16_r0 c1_i32_75_r0
  let v99_r0 : BitVec 32 := Scalar.select true_76_r0 v98_r0 arg16_r0
  let c_m1_i32_77_r0 : BitVec 32 := 4294967295#32
  let v100_r0 : BitVec 1 := Scalar.cmpi .eq v99_r0 c_m1_i32_77_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let c1_i32_78_r0 : BitVec 32 := 1#32
  let v101_r0 : BitVec 32 := Scalar.subi v5 c1_i32_78_r0
  let v102_r0 : BitVec 32 := Scalar.select v100_r0 v101_r0 v99_r0
  let c6_i32_0 : BitVec 32 := 6#32
  let v6 : BitVec 1 := Scalar.cmpi .slt v3 c6_i32_0
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v103_r0 : BitVec 32 := Scalar.addi v102_r0 v10
  let v243_r0 : BitVec 32 := Scalar.muli c128_i32_r0 v103_r0
  let c0_i32_149_r0 : BitVec 32 := 0#32
  ![v243_r0.toNat, 0]
def k1_off34 (arg15_r0 : BitVec 32) : Fin 1 → Nat :=
  let c2_i32_146_r0 : BitVec 32 := 2#32
  let v242_r0 : BitVec 32 := Scalar.remui arg15_r0 c2_i32_146_r0
  ![v242_r0.toNat]

def k1_chk1 (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) : Prop :=
  (∀ (k1_h1 : k1_cond1 i = 1#1), ∀ (k1_h4 : k1_cond4 i k1_t1 arg16_r0 = 1#1), ∀ a, (k1_off7 arg8_r0) a + S1x1x128.size a ≤ S2x1x128.size a) ∧
  (∀ (k1_h1 : k1_cond1 i = 1#1), ∀ (k1_h4 : k1_cond4 i k1_t1 arg16_r0 = 1#1), ∀ a, (k1_off8 i arg16_r0) a + S1x128.size a ≤ S1x13056.size a) ∧
  (∀ (k1_h1 : k1_cond1 i = 1#1), ∀ (k1_h4 : k1_cond4 i k1_t1 arg16_r0 = 1#1), ∀ a, (k1_off9 arg8_r0) a + S1.size a ≤ S2.size a) ∧
  (∀ (k1_h1 : k1_cond1 i = 1#1), ∀ (k1_h5 : k1_cond5 i k1_t1 arg16_r0 = 1#1), ∀ a, (k1_off10 arg10_r0) a + S1x1x128.size a ≤ S2x1x128.size a) ∧
  (∀ (k1_h1 : k1_cond1 i = 1#1), ∀ (k1_h5 : k1_cond5 i k1_t1 arg16_r0 = 1#1), ∀ a, (k1_off11 i arg16_r0) a + S1x128.size a ≤ S1x13056.size a) ∧
  (∀ (k1_h1 : k1_cond1 i = 1#1), ∀ (k1_h5 : k1_cond5 i k1_t1 arg16_r0 = 1#1), ∀ a, (k1_off12 arg10_r0) a + S1.size a ≤ S2.size a) ∧
  (∀ (k1_h1 : k1_cond1 i = 1#1), ∀ (k1_h6 : k1_cond6 i k1_t1 arg16_r0 = 1#1), ∀ a, (k1_off13 arg9_r0) a + S1x1x128.size a ≤ S2x1x128.size a) ∧
  (∀ (k1_h1 : k1_cond1 i = 1#1), ∀ (k1_h6 : k1_cond6 i k1_t1 arg16_r0 = 1#1), ∀ a, (k1_off14 i arg16_r0) a + S1x128.size a ≤ S1x13056.size a) ∧
  (∀ (k1_h1 : k1_cond1 i = 1#1), ∀ (k1_h6 : k1_cond6 i k1_t1 arg16_r0 = 1#1), ∀ a, (k1_off15 arg9_r0) a + S1.size a ≤ S2.size a) ∧
  (∀ (k1_h1 : k1_cond1 i = 1#1), ∀ (k1_h7 : k1_cond7 i k1_t1 arg16_r0 = 1#1), ∀ a, (k1_off16 arg11_r0) a + S1x1x128.size a ≤ S2x1x128.size a) ∧
  (∀ (k1_h1 : k1_cond1 i = 1#1), ∀ (k1_h7 : k1_cond7 i k1_t1 arg16_r0 = 1#1), ∀ a, (k1_off17 i arg16_r0) a + S1x128.size a ≤ S1x13056.size a) ∧
  (∀ (k1_h1 : k1_cond1 i = 1#1), ∀ (k1_h7 : k1_cond7 i k1_t1 arg16_r0 = 1#1), ∀ a, (k1_off18 arg11_r0) a + S1.size a ≤ S2.size a) ∧
  (∀ (k1_h1 : k1_cond1 i = 1#1), ∀ (k1_h12 : k1_cond12 i k1_t1 arg16_r0 = 1#1), ∀ a, (k1_off23 arg12_r0) a + S1x128x128.size a ≤ S2x128x128.size a) ∧
  (∀ (k1_h1 : k1_cond1 i = 1#1), ∀ (k1_h12 : k1_cond12 i k1_t1 arg16_r0 = 1#1), ∀ a, (k1_off24 i arg16_r0) a + S128x128.size a ≤ S13056x128.size a) ∧
  (∀ (k1_h1 : k1_cond1 i = 1#1), ∀ (k1_h12 : k1_cond12 i k1_t1 arg16_r0 = 1#1), ∀ a, (k1_off25 arg12_r0) a + S1.size a ≤ S2.size a) ∧
  (∀ (k1_h1 : k1_cond1 i = 1#1), ∀ (k1_h13 : k1_cond13 i k1_t1 arg16_r0 = 1#1), ∀ a, (k1_off26 arg14_r0) a + S1x128x128.size a ≤ S2x128x128.size a) ∧
  (∀ (k1_h1 : k1_cond1 i = 1#1), ∀ (k1_h13 : k1_cond13 i k1_t1 arg16_r0 = 1#1), ∀ a, (k1_off27 i arg16_r0) a + S128x128.size a ≤ S13056x128.size a) ∧
  (∀ (k1_h1 : k1_cond1 i = 1#1), ∀ (k1_h13 : k1_cond13 i k1_t1 arg16_r0 = 1#1), ∀ a, (k1_off28 arg14_r0) a + S1.size a ≤ S2.size a) ∧
  (∀ (k1_h1 : k1_cond1 i = 1#1), ∀ (k1_h16 : k1_cond16 i k1_t1 arg16_r0 = 1#1), ∀ a, (k1_off29 arg13_r0) a + S1x128x128.size a ≤ S2x128x128.size a) ∧
  (∀ (k1_h1 : k1_cond1 i = 1#1), ∀ (k1_h16 : k1_cond16 i k1_t1 arg16_r0 = 1#1), ∀ a, (k1_off30 i arg16_r0) a + S128x128.size a ≤ S13056x128.size a) ∧
  (∀ (k1_h1 : k1_cond1 i = 1#1), ∀ (k1_h16 : k1_cond16 i k1_t1 arg16_r0 = 1#1), ∀ a, (k1_off31 arg13_r0) a + S1.size a ≤ S2.size a) ∧
  (∀ (k1_h1 : k1_cond1 i = 1#1), ∀ (k1_h17 : k1_cond17 i k1_t1 arg16_r0 = 1#1), ∀ a, (k1_off32 arg15_r0) a + S1x128x128.size a ≤ S2x128x128.size a) ∧
  (∀ (k1_h1 : k1_cond1 i = 1#1), ∀ (k1_h17 : k1_cond17 i k1_t1 arg16_r0 = 1#1), ∀ a, (k1_off33 i arg16_r0) a + S128x128.size a ≤ S13056x128.size a) ∧
  (∀ (k1_h1 : k1_cond1 i = 1#1), ∀ (k1_h17 : k1_cond17 i k1_t1 arg16_r0 = 1#1), ∀ a, (k1_off34 arg15_r0) a + S1.size a ≤ S2.size a)
theorem k1_off7_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h4 : k1_cond4 i k1_t1 arg16_r0 = 1#1), ∀ a, (k1_off7 arg8_r0) a + S1x1x128.size a ≤ S2x1x128.size a := fun i k1_t1 arg8_r0 arg9_r0 arg10_r0 arg11_r0 arg12_r0 arg13_r0 arg14_r0 arg15_r0 arg16_r0 k1_hw1 k1_h1 k1_h4 => k1_hw1.1 k1_h1 k1_h4
theorem k1_off8_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h4 : k1_cond4 i k1_t1 arg16_r0 = 1#1), ∀ a, (k1_off8 i arg16_r0) a + S1x128.size a ≤ S1x13056.size a := fun i k1_t1 arg8_r0 arg9_r0 arg10_r0 arg11_r0 arg12_r0 arg13_r0 arg14_r0 arg15_r0 arg16_r0 k1_hw1 k1_h1 k1_h4 => k1_hw1.2.1 k1_h1 k1_h4
theorem k1_off9_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h4 : k1_cond4 i k1_t1 arg16_r0 = 1#1), ∀ a, (k1_off9 arg8_r0) a + S1.size a ≤ S2.size a := fun i k1_t1 arg8_r0 arg9_r0 arg10_r0 arg11_r0 arg12_r0 arg13_r0 arg14_r0 arg15_r0 arg16_r0 k1_hw1 k1_h1 k1_h4 => k1_hw1.2.2.1 k1_h1 k1_h4
theorem k1_off10_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h5 : k1_cond5 i k1_t1 arg16_r0 = 1#1), ∀ a, (k1_off10 arg10_r0) a + S1x1x128.size a ≤ S2x1x128.size a := fun i k1_t1 arg8_r0 arg9_r0 arg10_r0 arg11_r0 arg12_r0 arg13_r0 arg14_r0 arg15_r0 arg16_r0 k1_hw1 k1_h1 k1_h5 => k1_hw1.2.2.2.1 k1_h1 k1_h5
theorem k1_off11_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h5 : k1_cond5 i k1_t1 arg16_r0 = 1#1), ∀ a, (k1_off11 i arg16_r0) a + S1x128.size a ≤ S1x13056.size a := fun i k1_t1 arg8_r0 arg9_r0 arg10_r0 arg11_r0 arg12_r0 arg13_r0 arg14_r0 arg15_r0 arg16_r0 k1_hw1 k1_h1 k1_h5 => k1_hw1.2.2.2.2.1 k1_h1 k1_h5
theorem k1_off12_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h5 : k1_cond5 i k1_t1 arg16_r0 = 1#1), ∀ a, (k1_off12 arg10_r0) a + S1.size a ≤ S2.size a := fun i k1_t1 arg8_r0 arg9_r0 arg10_r0 arg11_r0 arg12_r0 arg13_r0 arg14_r0 arg15_r0 arg16_r0 k1_hw1 k1_h1 k1_h5 => k1_hw1.2.2.2.2.2.1 k1_h1 k1_h5
theorem k1_off13_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h6 : k1_cond6 i k1_t1 arg16_r0 = 1#1), ∀ a, (k1_off13 arg9_r0) a + S1x1x128.size a ≤ S2x1x128.size a := fun i k1_t1 arg8_r0 arg9_r0 arg10_r0 arg11_r0 arg12_r0 arg13_r0 arg14_r0 arg15_r0 arg16_r0 k1_hw1 k1_h1 k1_h6 => k1_hw1.2.2.2.2.2.2.1 k1_h1 k1_h6
theorem k1_off14_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h6 : k1_cond6 i k1_t1 arg16_r0 = 1#1), ∀ a, (k1_off14 i arg16_r0) a + S1x128.size a ≤ S1x13056.size a := fun i k1_t1 arg8_r0 arg9_r0 arg10_r0 arg11_r0 arg12_r0 arg13_r0 arg14_r0 arg15_r0 arg16_r0 k1_hw1 k1_h1 k1_h6 => k1_hw1.2.2.2.2.2.2.2.1 k1_h1 k1_h6
theorem k1_off15_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h6 : k1_cond6 i k1_t1 arg16_r0 = 1#1), ∀ a, (k1_off15 arg9_r0) a + S1.size a ≤ S2.size a := fun i k1_t1 arg8_r0 arg9_r0 arg10_r0 arg11_r0 arg12_r0 arg13_r0 arg14_r0 arg15_r0 arg16_r0 k1_hw1 k1_h1 k1_h6 => k1_hw1.2.2.2.2.2.2.2.2.1 k1_h1 k1_h6
theorem k1_off16_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h7 : k1_cond7 i k1_t1 arg16_r0 = 1#1), ∀ a, (k1_off16 arg11_r0) a + S1x1x128.size a ≤ S2x1x128.size a := fun i k1_t1 arg8_r0 arg9_r0 arg10_r0 arg11_r0 arg12_r0 arg13_r0 arg14_r0 arg15_r0 arg16_r0 k1_hw1 k1_h1 k1_h7 => k1_hw1.2.2.2.2.2.2.2.2.2.1 k1_h1 k1_h7
theorem k1_off17_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h7 : k1_cond7 i k1_t1 arg16_r0 = 1#1), ∀ a, (k1_off17 i arg16_r0) a + S1x128.size a ≤ S1x13056.size a := fun i k1_t1 arg8_r0 arg9_r0 arg10_r0 arg11_r0 arg12_r0 arg13_r0 arg14_r0 arg15_r0 arg16_r0 k1_hw1 k1_h1 k1_h7 => k1_hw1.2.2.2.2.2.2.2.2.2.2.1 k1_h1 k1_h7
theorem k1_off18_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h7 : k1_cond7 i k1_t1 arg16_r0 = 1#1), ∀ a, (k1_off18 arg11_r0) a + S1.size a ≤ S2.size a := fun i k1_t1 arg8_r0 arg9_r0 arg10_r0 arg11_r0 arg12_r0 arg13_r0 arg14_r0 arg15_r0 arg16_r0 k1_hw1 k1_h1 k1_h7 => k1_hw1.2.2.2.2.2.2.2.2.2.2.2.1 k1_h1 k1_h7
theorem k1_off23_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h12 : k1_cond12 i k1_t1 arg16_r0 = 1#1), ∀ a, (k1_off23 arg12_r0) a + S1x128x128.size a ≤ S2x128x128.size a := fun i k1_t1 arg8_r0 arg9_r0 arg10_r0 arg11_r0 arg12_r0 arg13_r0 arg14_r0 arg15_r0 arg16_r0 k1_hw1 k1_h1 k1_h12 => k1_hw1.2.2.2.2.2.2.2.2.2.2.2.2.1 k1_h1 k1_h12
theorem k1_off24_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h12 : k1_cond12 i k1_t1 arg16_r0 = 1#1), ∀ a, (k1_off24 i arg16_r0) a + S128x128.size a ≤ S13056x128.size a := fun i k1_t1 arg8_r0 arg9_r0 arg10_r0 arg11_r0 arg12_r0 arg13_r0 arg14_r0 arg15_r0 arg16_r0 k1_hw1 k1_h1 k1_h12 => k1_hw1.2.2.2.2.2.2.2.2.2.2.2.2.2.1 k1_h1 k1_h12
theorem k1_off25_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h12 : k1_cond12 i k1_t1 arg16_r0 = 1#1), ∀ a, (k1_off25 arg12_r0) a + S1.size a ≤ S2.size a := fun i k1_t1 arg8_r0 arg9_r0 arg10_r0 arg11_r0 arg12_r0 arg13_r0 arg14_r0 arg15_r0 arg16_r0 k1_hw1 k1_h1 k1_h12 => k1_hw1.2.2.2.2.2.2.2.2.2.2.2.2.2.2.1 k1_h1 k1_h12
theorem k1_off26_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h13 : k1_cond13 i k1_t1 arg16_r0 = 1#1), ∀ a, (k1_off26 arg14_r0) a + S1x128x128.size a ≤ S2x128x128.size a := fun i k1_t1 arg8_r0 arg9_r0 arg10_r0 arg11_r0 arg12_r0 arg13_r0 arg14_r0 arg15_r0 arg16_r0 k1_hw1 k1_h1 k1_h13 => k1_hw1.2.2.2.2.2.2.2.2.2.2.2.2.2.2.2.1 k1_h1 k1_h13
theorem k1_off27_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h13 : k1_cond13 i k1_t1 arg16_r0 = 1#1), ∀ a, (k1_off27 i arg16_r0) a + S128x128.size a ≤ S13056x128.size a := fun i k1_t1 arg8_r0 arg9_r0 arg10_r0 arg11_r0 arg12_r0 arg13_r0 arg14_r0 arg15_r0 arg16_r0 k1_hw1 k1_h1 k1_h13 => k1_hw1.2.2.2.2.2.2.2.2.2.2.2.2.2.2.2.2.1 k1_h1 k1_h13
theorem k1_off28_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h13 : k1_cond13 i k1_t1 arg16_r0 = 1#1), ∀ a, (k1_off28 arg14_r0) a + S1.size a ≤ S2.size a := fun i k1_t1 arg8_r0 arg9_r0 arg10_r0 arg11_r0 arg12_r0 arg13_r0 arg14_r0 arg15_r0 arg16_r0 k1_hw1 k1_h1 k1_h13 => k1_hw1.2.2.2.2.2.2.2.2.2.2.2.2.2.2.2.2.2.1 k1_h1 k1_h13
theorem k1_off29_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h16 : k1_cond16 i k1_t1 arg16_r0 = 1#1), ∀ a, (k1_off29 arg13_r0) a + S1x128x128.size a ≤ S2x128x128.size a := fun i k1_t1 arg8_r0 arg9_r0 arg10_r0 arg11_r0 arg12_r0 arg13_r0 arg14_r0 arg15_r0 arg16_r0 k1_hw1 k1_h1 k1_h16 => k1_hw1.2.2.2.2.2.2.2.2.2.2.2.2.2.2.2.2.2.2.1 k1_h1 k1_h16
theorem k1_off30_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h16 : k1_cond16 i k1_t1 arg16_r0 = 1#1), ∀ a, (k1_off30 i arg16_r0) a + S128x128.size a ≤ S13056x128.size a := fun i k1_t1 arg8_r0 arg9_r0 arg10_r0 arg11_r0 arg12_r0 arg13_r0 arg14_r0 arg15_r0 arg16_r0 k1_hw1 k1_h1 k1_h16 => k1_hw1.2.2.2.2.2.2.2.2.2.2.2.2.2.2.2.2.2.2.2.1 k1_h1 k1_h16
theorem k1_off31_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h16 : k1_cond16 i k1_t1 arg16_r0 = 1#1), ∀ a, (k1_off31 arg13_r0) a + S1.size a ≤ S2.size a := fun i k1_t1 arg8_r0 arg9_r0 arg10_r0 arg11_r0 arg12_r0 arg13_r0 arg14_r0 arg15_r0 arg16_r0 k1_hw1 k1_h1 k1_h16 => k1_hw1.2.2.2.2.2.2.2.2.2.2.2.2.2.2.2.2.2.2.2.2.1 k1_h1 k1_h16
theorem k1_off32_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h17 : k1_cond17 i k1_t1 arg16_r0 = 1#1), ∀ a, (k1_off32 arg15_r0) a + S1x128x128.size a ≤ S2x128x128.size a := fun i k1_t1 arg8_r0 arg9_r0 arg10_r0 arg11_r0 arg12_r0 arg13_r0 arg14_r0 arg15_r0 arg16_r0 k1_hw1 k1_h1 k1_h17 => k1_hw1.2.2.2.2.2.2.2.2.2.2.2.2.2.2.2.2.2.2.2.2.2.1 k1_h1 k1_h17
theorem k1_off33_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h17 : k1_cond17 i k1_t1 arg16_r0 = 1#1), ∀ a, (k1_off33 i arg16_r0) a + S128x128.size a ≤ S13056x128.size a := fun i k1_t1 arg8_r0 arg9_r0 arg10_r0 arg11_r0 arg12_r0 arg13_r0 arg14_r0 arg15_r0 arg16_r0 k1_hw1 k1_h1 k1_h17 => k1_hw1.2.2.2.2.2.2.2.2.2.2.2.2.2.2.2.2.2.2.2.2.2.2.1 k1_h1 k1_h17
theorem k1_off34_inb : ∀ (i : grid1.Coords) (k1_t1 : Fin (k1_t1_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw1 : k1_chk1 i k1_t1 arg8_r0 arg9_r0 arg10_r0 arg11_r0 arg12_r0 arg13_r0 arg14_r0 arg15_r0 arg16_r0), ∀ (k1_h1 : k1_cond1 i = 1#1), ∀ (k1_h17 : k1_cond17 i k1_t1 arg16_r0 = 1#1), ∀ a, (k1_off34 arg15_r0) a + S1.size a ≤ S2.size a := fun i k1_t1 arg8_r0 arg9_r0 arg10_r0 arg11_r0 arg12_r0 arg13_r0 arg14_r0 arg15_r0 arg16_r0 k1_hw1 k1_h1 k1_h17 => k1_hw1.2.2.2.2.2.2.2.2.2.2.2.2.2.2.2.2.2.2.2.2.2.2.2 k1_h1 k1_h17

@[reducible] def k1_t2_loop (i : grid1.Coords) : Scf.Loop 32 :=
  let c0_i32_39_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v11 : BitVec 32 := Scalar.muli c1_i32_3 v5
  let v51_r0 : BitVec 32 := Scalar.subi v11 c0_i32_39_r0
  let c1_i32_47_r0 : BitVec 32 := 1#32
  let v53_r0 : BitVec 32 := Scalar.divsi v51_r0 c1_i32_47_r0
  let v54_r0 : BitVec 32 := Scalar.muli v53_r0 c1_i32_47_r0
  let v55_r0 : BitVec 32 := Scalar.addi c0_i32_39_r0 v54_r0
  let v52_r0 : BitVec 32 := Scalar.addi c0_i32_39_r0 v51_r0
  let c1_i32_49_r0 : BitVec 32 := 1#32
  ⟨v55_r0, v52_r0, c1_i32_49_r0⟩
def k1_off35 (arg8_r0 : BitVec 32) : Fin 3 → Nat :=
  let c2_i32_146_r0 : BitVec 32 := 2#32
  let v242_r0 : BitVec 32 := Scalar.remui arg8_r0 c2_i32_146_r0
  let c0_i32_147_r0 : BitVec 32 := 0#32
  let c0_i32_148_r0 : BitVec 32 := 0#32
  ![v242_r0.toNat, 0, 0]
def k1_cond18 (i : grid1.Coords) (k1_t2 : Fin (k1_t2_loop i).trips) (arg16_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let true_80_r0 : BitVec 1 := 1#1
  let c1_i32_79_r0 : BitVec 32 := 1#32
  let v104_r0 : BitVec 32 := Scalar.addi arg16_r0 c1_i32_79_r0
  let v105_r0 : BitVec 32 := Scalar.select true_80_r0 v104_r0 arg16_r0
  let v106_r0 : BitVec 1 := Scalar.cmpi .eq v105_r0 v5
  let c0_i32_81_r0 : BitVec 32 := 0#32
  let v107_r0 : BitVec 32 := Scalar.select v106_r0 c0_i32_81_r0 v105_r0
  let v108_r0 : BitVec 32 := Scalar.addi v107_r0 v10
  let v114_r0 : BitVec 1 := Scalar.cmpi .ne v97_r0 v108_r0
  let c0_i32_39_r0 : BitVec 32 := 0#32
  let c1_i32_3 : BitVec 32 := 1#32
  let v11 : BitVec 32 := Scalar.muli c1_i32_3 v5
  let v51_r0 : BitVec 32 := Scalar.subi v11 c0_i32_39_r0
  let c1_i32_47_r0 : BitVec 32 := 1#32
  let v53_r0 : BitVec 32 := Scalar.divsi v51_r0 c1_i32_47_r0
  let v54_r0 : BitVec 32 := Scalar.muli v53_r0 c1_i32_47_r0
  let v55_r0 : BitVec 32 := Scalar.addi c0_i32_39_r0 v54_r0
  let c1_i32_49_r0 : BitVec 32 := 1#32
  let arg7_r0 : BitVec 32 := Scf.iv v55_r0 c1_i32_49_r0 k1_t2
  let c1_i32_72_r0 : BitVec 32 := 1#32
  let v93_r0 : BitVec 32 := Scalar.muli c1_i32_72_r0 v5
  let c2_i32_r0 : BitVec 32 := 2#32
  let v115_r0 : BitVec 32 := Scalar.subi v93_r0 c2_i32_r0
  let c1_i32_85_r0 : BitVec 32 := 1#32
  let v116_r0 : BitVec 32 := Scalar.addi v115_r0 c1_i32_85_r0
  let v117_r0 : BitVec 1 := Scalar.cmpi .sge arg7_r0 v116_r0
  let true_86_r0 : BitVec 1 := 1#1
  let v118_r0 : BitVec 1 := Scalar.xori v117_r0 true_86_r0
  let v119_r0 : BitVec 1 := Scalar.andi v114_r0 v118_r0
  let true_87_r0 : BitVec 1 := 1#1
  let v120_r0 : BitVec 1 := Scalar.andi v119_r0 true_87_r0
  let v121_r0 : BitVec 32 := Scalar.extui v120_r0
  let c0_i32_88_r0 : BitVec 32 := 0#32
  let v122_r0 : BitVec 1 := Scalar.cmpi .ne v121_r0 c0_i32_88_r0
  v122_r0

def k1_off36 (i : grid1.Coords) (arg16_r0 : BitVec 32) : Fin 2 → Nat :=
  let c0_i32_149_r0 : BitVec 32 := 0#32
  let c128_i32_r0 : BitVec 32 := 128#32
  let true_80_r0 : BitVec 1 := 1#1
  let c1_i32_79_r0 : BitVec 32 := 1#32
  let v104_r0 : BitVec 32 := Scalar.addi arg16_r0 c1_i32_79_r0
  let v105_r0 : BitVec 32 := Scalar.select true_80_r0 v104_r0 arg16_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v106_r0 : BitVec 1 := Scalar.cmpi .eq v105_r0 v5
  let c0_i32_81_r0 : BitVec 32 := 0#32
  let v107_r0 : BitVec 32 := Scalar.select v106_r0 c0_i32_81_r0 v105_r0
  let c6_i32_0 : BitVec 32 := 6#32
  let v6 : BitVec 1 := Scalar.cmpi .slt v3 c6_i32_0
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v108_r0 : BitVec 32 := Scalar.addi v107_r0 v10
  let v243_r0 : BitVec 32 := Scalar.muli c128_i32_r0 v108_r0
  ![0, v243_r0.toNat]
def k1_off37 (arg8_r0 : BitVec 32) : Fin 1 → Nat :=
  let c2_i32_146_r0 : BitVec 32 := 2#32
  let v242_r0 : BitVec 32 := Scalar.remui arg8_r0 c2_i32_146_r0
  ![v242_r0.toNat]
def k1_off38 (arg10_r0 : BitVec 32) : Fin 3 → Nat :=
  let c2_i32_146_r0 : BitVec 32 := 2#32
  let v242_r0 : BitVec 32 := Scalar.remui arg10_r0 c2_i32_146_r0
  let c0_i32_147_r0 : BitVec 32 := 0#32
  let c0_i32_148_r0 : BitVec 32 := 0#32
  ![v242_r0.toNat, 0, 0]
def k1_cond19 (i : grid1.Coords) (k1_t2 : Fin (k1_t2_loop i).trips) (arg16_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let true_80_r0 : BitVec 1 := 1#1
  let c1_i32_79_r0 : BitVec 32 := 1#32
  let v104_r0 : BitVec 32 := Scalar.addi arg16_r0 c1_i32_79_r0
  let v105_r0 : BitVec 32 := Scalar.select true_80_r0 v104_r0 arg16_r0
  let v106_r0 : BitVec 1 := Scalar.cmpi .eq v105_r0 v5
  let c0_i32_81_r0 : BitVec 32 := 0#32
  let v107_r0 : BitVec 32 := Scalar.select v106_r0 c0_i32_81_r0 v105_r0
  let v108_r0 : BitVec 32 := Scalar.addi v107_r0 v10
  let v126_r0 : BitVec 1 := Scalar.cmpi .ne v97_r0 v108_r0
  let c0_i32_39_r0 : BitVec 32 := 0#32
  let c1_i32_3 : BitVec 32 := 1#32
  let v11 : BitVec 32 := Scalar.muli c1_i32_3 v5
  let v51_r0 : BitVec 32 := Scalar.subi v11 c0_i32_39_r0
  let c1_i32_47_r0 : BitVec 32 := 1#32
  let v53_r0 : BitVec 32 := Scalar.divsi v51_r0 c1_i32_47_r0
  let v54_r0 : BitVec 32 := Scalar.muli v53_r0 c1_i32_47_r0
  let v55_r0 : BitVec 32 := Scalar.addi c0_i32_39_r0 v54_r0
  let c1_i32_49_r0 : BitVec 32 := 1#32
  let arg7_r0 : BitVec 32 := Scf.iv v55_r0 c1_i32_49_r0 k1_t2
  let c1_i32_72_r0 : BitVec 32 := 1#32
  let v93_r0 : BitVec 32 := Scalar.muli c1_i32_72_r0 v5
  let c2_i32_91_r0 : BitVec 32 := 2#32
  let v127_r0 : BitVec 32 := Scalar.subi v93_r0 c2_i32_91_r0
  let c1_i32_92_r0 : BitVec 32 := 1#32
  let v128_r0 : BitVec 32 := Scalar.addi v127_r0 c1_i32_92_r0
  let v129_r0 : BitVec 1 := Scalar.cmpi .sge arg7_r0 v128_r0
  let true_93_r0 : BitVec 1 := 1#1
  let v130_r0 : BitVec 1 := Scalar.xori v129_r0 true_93_r0
  let v131_r0 : BitVec 1 := Scalar.andi v126_r0 v130_r0
  let true_94_r0 : BitVec 1 := 1#1
  let v132_r0 : BitVec 1 := Scalar.andi v131_r0 true_94_r0
  let v133_r0 : BitVec 32 := Scalar.extui v132_r0
  let c0_i32_95_r0 : BitVec 32 := 0#32
  let v134_r0 : BitVec 1 := Scalar.cmpi .ne v133_r0 c0_i32_95_r0
  v134_r0

def k1_off39 (i : grid1.Coords) (arg16_r0 : BitVec 32) : Fin 2 → Nat :=
  let c0_i32_149_r0 : BitVec 32 := 0#32
  let c128_i32_r0 : BitVec 32 := 128#32
  let true_80_r0 : BitVec 1 := 1#1
  let c1_i32_79_r0 : BitVec 32 := 1#32
  let v104_r0 : BitVec 32 := Scalar.addi arg16_r0 c1_i32_79_r0
  let v105_r0 : BitVec 32 := Scalar.select true_80_r0 v104_r0 arg16_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v106_r0 : BitVec 1 := Scalar.cmpi .eq v105_r0 v5
  let c0_i32_81_r0 : BitVec 32 := 0#32
  let v107_r0 : BitVec 32 := Scalar.select v106_r0 c0_i32_81_r0 v105_r0
  let c6_i32_0 : BitVec 32 := 6#32
  let v6 : BitVec 1 := Scalar.cmpi .slt v3 c6_i32_0
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v108_r0 : BitVec 32 := Scalar.addi v107_r0 v10
  let v243_r0 : BitVec 32 := Scalar.muli c128_i32_r0 v108_r0
  ![0, v243_r0.toNat]
def k1_off40 (arg10_r0 : BitVec 32) : Fin 1 → Nat :=
  let c2_i32_146_r0 : BitVec 32 := 2#32
  let v242_r0 : BitVec 32 := Scalar.remui arg10_r0 c2_i32_146_r0
  ![v242_r0.toNat]
def k1_off41 (arg9_r0 : BitVec 32) : Fin 3 → Nat :=
  let c2_i32_146_r0 : BitVec 32 := 2#32
  let v243_r0 : BitVec 32 := Scalar.remui arg9_r0 c2_i32_146_r0
  let c0_i32_147_r0 : BitVec 32 := 0#32
  let c0_i32_148_r0 : BitVec 32 := 0#32
  ![v243_r0.toNat, 0, 0]
def k1_cond20 (i : grid1.Coords) (k1_t2 : Fin (k1_t2_loop i).trips) (arg16_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let true_76_r0 : BitVec 1 := 1#1
  let c1_i32_75_r0 : BitVec 32 := 1#32
  let v98_r0 : BitVec 32 := Scalar.subi arg16_r0 c1_i32_75_r0
  let v99_r0 : BitVec 32 := Scalar.select true_76_r0 v98_r0 arg16_r0
  let c_m1_i32_77_r0 : BitVec 32 := 4294967295#32
  let v100_r0 : BitVec 1 := Scalar.cmpi .eq v99_r0 c_m1_i32_77_r0
  let c1_i32_78_r0 : BitVec 32 := 1#32
  let v101_r0 : BitVec 32 := Scalar.subi v5 c1_i32_78_r0
  let v102_r0 : BitVec 32 := Scalar.select v100_r0 v101_r0 v99_r0
  let v103_r0 : BitVec 32 := Scalar.addi v102_r0 v10
  let v150_r0 : BitVec 1 := Scalar.cmpi .ne v97_r0 v103_r0
  let c0_i32_39_r0 : BitVec 32 := 0#32
  let c1_i32_3 : BitVec 32 := 1#32
  let v11 : BitVec 32 := Scalar.muli c1_i32_3 v5
  let v51_r0 : BitVec 32 := Scalar.subi v11 c0_i32_39_r0
  let c1_i32_47_r0 : BitVec 32 := 1#32
  let v53_r0 : BitVec 32 := Scalar.divsi v51_r0 c1_i32_47_r0
  let v54_r0 : BitVec 32 := Scalar.muli v53_r0 c1_i32_47_r0
  let v55_r0 : BitVec 32 := Scalar.addi c0_i32_39_r0 v54_r0
  let c1_i32_49_r0 : BitVec 32 := 1#32
  let arg7_r0 : BitVec 32 := Scf.iv v55_r0 c1_i32_49_r0 k1_t2
  let c0_i32_73_r0 : BitVec 32 := 0#32
  let v94_r0 : BitVec 1 := Scalar.cmpi .eq arg7_r0 c0_i32_73_r0
  let v151_r0 : BitVec 1 := Scalar.ori v150_r0 v94_r0
  let c0_i32_104_r0 : BitVec 32 := 0#32
  let v152_r0 : BitVec 1 := Scalar.cmpi .sge arg7_r0 c0_i32_104_r0
  let v153_r0 : BitVec 1 := Scalar.andi v151_r0 v152_r0
  let v154_r0 : BitVec 32 := Scalar.extui v153_r0
  let c0_i32_105_r0 : BitVec 32 := 0#32
  let v155_r0 : BitVec 1 := Scalar.cmpi .ne v154_r0 c0_i32_105_r0
  v155_r0

def k1_off42 (i : grid1.Coords) (arg16_r0 : BitVec 32) : Fin 2 → Nat :=
  let c0_i32_149_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let v242_r0 : BitVec 32 := Scalar.muli c128_i32_r0 v97_r0
  ![0, v242_r0.toNat]
def k1_off43 (arg9_r0 : BitVec 32) : Fin 1 → Nat :=
  let c2_i32_146_r0 : BitVec 32 := 2#32
  let v243_r0 : BitVec 32 := Scalar.remui arg9_r0 c2_i32_146_r0
  ![v243_r0.toNat]
def k1_off44 (arg11_r0 : BitVec 32) : Fin 3 → Nat :=
  let c2_i32_146_r0 : BitVec 32 := 2#32
  let v243_r0 : BitVec 32 := Scalar.remui arg11_r0 c2_i32_146_r0
  let c0_i32_147_r0 : BitVec 32 := 0#32
  let c0_i32_148_r0 : BitVec 32 := 0#32
  ![v243_r0.toNat, 0, 0]
def k1_cond21 (i : grid1.Coords) (k1_t2 : Fin (k1_t2_loop i).trips) (arg16_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let true_76_r0 : BitVec 1 := 1#1
  let c1_i32_75_r0 : BitVec 32 := 1#32
  let v98_r0 : BitVec 32 := Scalar.subi arg16_r0 c1_i32_75_r0
  let v99_r0 : BitVec 32 := Scalar.select true_76_r0 v98_r0 arg16_r0
  let c_m1_i32_77_r0 : BitVec 32 := 4294967295#32
  let v100_r0 : BitVec 1 := Scalar.cmpi .eq v99_r0 c_m1_i32_77_r0
  let c1_i32_78_r0 : BitVec 32 := 1#32
  let v101_r0 : BitVec 32 := Scalar.subi v5 c1_i32_78_r0
  let v102_r0 : BitVec 32 := Scalar.select v100_r0 v101_r0 v99_r0
  let v103_r0 : BitVec 32 := Scalar.addi v102_r0 v10
  let v156_r0 : BitVec 1 := Scalar.cmpi .ne v97_r0 v103_r0
  let c0_i32_39_r0 : BitVec 32 := 0#32
  let c1_i32_3 : BitVec 32 := 1#32
  let v11 : BitVec 32 := Scalar.muli c1_i32_3 v5
  let v51_r0 : BitVec 32 := Scalar.subi v11 c0_i32_39_r0
  let c1_i32_47_r0 : BitVec 32 := 1#32
  let v53_r0 : BitVec 32 := Scalar.divsi v51_r0 c1_i32_47_r0
  let v54_r0 : BitVec 32 := Scalar.muli v53_r0 c1_i32_47_r0
  let v55_r0 : BitVec 32 := Scalar.addi c0_i32_39_r0 v54_r0
  let c1_i32_49_r0 : BitVec 32 := 1#32
  let arg7_r0 : BitVec 32 := Scf.iv v55_r0 c1_i32_49_r0 k1_t2
  let c0_i32_73_r0 : BitVec 32 := 0#32
  let v94_r0 : BitVec 1 := Scalar.cmpi .eq arg7_r0 c0_i32_73_r0
  let v157_r0 : BitVec 1 := Scalar.ori v156_r0 v94_r0
  let c0_i32_106_r0 : BitVec 32 := 0#32
  let v158_r0 : BitVec 1 := Scalar.cmpi .sge arg7_r0 c0_i32_106_r0
  let v159_r0 : BitVec 1 := Scalar.andi v157_r0 v158_r0
  let v160_r0 : BitVec 32 := Scalar.extui v159_r0
  let c0_i32_107_r0 : BitVec 32 := 0#32
  let v161_r0 : BitVec 1 := Scalar.cmpi .ne v160_r0 c0_i32_107_r0
  v161_r0

def k1_off45 (i : grid1.Coords) (arg16_r0 : BitVec 32) : Fin 2 → Nat :=
  let c0_i32_149_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let v242_r0 : BitVec 32 := Scalar.muli c128_i32_r0 v97_r0
  ![0, v242_r0.toNat]
def k1_off46 (arg11_r0 : BitVec 32) : Fin 1 → Nat :=
  let c2_i32_146_r0 : BitVec 32 := 2#32
  let v243_r0 : BitVec 32 := Scalar.remui arg11_r0 c2_i32_146_r0
  ![v243_r0.toNat]
def k1_off47 (arg12_r0 : BitVec 32) : Fin 3 → Nat :=
  let c2_i32_114_r0 : BitVec 32 := 2#32
  let v176_r0 : BitVec 32 := Scalar.remui arg12_r0 c2_i32_114_r0
  let c0_i32_146_r3 : BitVec 32 := 0#32
  let c0_i32_147_r3 : BitVec 32 := 0#32
  ![v176_r0.toNat, 0, 0]

def k1_chk7 (i : grid1.Coords) (k1_t2 : Fin (k1_t2_loop i).trips) (arg12_r0 : BitVec 32) : Prop :=
  (∀ (k1_h1 : k1_cond1 i = 1#1), ∀ a, (k1_off47 arg12_r0) a + S1x128x128.size a ≤ S2x128x128.size a)
theorem k1_off47_inb : ∀ (i : grid1.Coords) (k1_t2 : Fin (k1_t2_loop i).trips) (arg12_r0 : BitVec 32) (k1_hw7 : k1_chk7 i k1_t2 arg12_r0), ∀ (k1_h1 : k1_cond1 i = 1#1), ∀ a, (k1_off47 arg12_r0) a + S1x128x128.size a ≤ S2x128x128.size a := fun i k1_t2 arg12_r0 k1_hw7 k1_h1 => k1_hw7 k1_h1

def k1_off48 (arg9_r0 : BitVec 32) : Fin 3 → Nat :=
  let c2_i32_112_r0 : BitVec 32 := 2#32
  let v174_r0 : BitVec 32 := Scalar.remui arg9_r0 c2_i32_112_r0
  let c0_i32_148_r3 : BitVec 32 := 0#32
  let c0_i32_149_r3 : BitVec 32 := 0#32
  ![v174_r0.toNat, 0, 0]

def k1_chk8 (i : grid1.Coords) (k1_t2 : Fin (k1_t2_loop i).trips) (arg9_r0 : BitVec 32) : Prop :=
  (∀ (k1_h1 : k1_cond1 i = 1#1), ∀ a, (k1_off48 arg9_r0) a + S1x1x128.size a ≤ S2x1x128.size a)
theorem k1_off48_inb : ∀ (i : grid1.Coords) (k1_t2 : Fin (k1_t2_loop i).trips) (arg9_r0 : BitVec 32) (k1_hw8 : k1_chk8 i k1_t2 arg9_r0), ∀ (k1_h1 : k1_cond1 i = 1#1), ∀ a, (k1_off48 arg9_r0) a + S1x1x128.size a ≤ S2x1x128.size a := fun i k1_t2 arg9_r0 k1_hw8 k1_h1 => k1_hw8 k1_h1

def k1_off49 (arg14_r0 : BitVec 32) : Fin 3 → Nat :=
  let c2_i32_115_r0 : BitVec 32 := 2#32
  let v177_r0 : BitVec 32 := Scalar.remui arg14_r0 c2_i32_115_r0
  let c0_i32_146_r4 : BitVec 32 := 0#32
  let c0_i32_147_r4 : BitVec 32 := 0#32
  ![v177_r0.toNat, 0, 0]

def k1_chk9 (i : grid1.Coords) (k1_t2 : Fin (k1_t2_loop i).trips) (arg14_r0 : BitVec 32) : Prop :=
  (∀ (k1_h1 : k1_cond1 i = 1#1), ∀ a, (k1_off49 arg14_r0) a + S1x128x128.size a ≤ S2x128x128.size a)
theorem k1_off49_inb : ∀ (i : grid1.Coords) (k1_t2 : Fin (k1_t2_loop i).trips) (arg14_r0 : BitVec 32) (k1_hw9 : k1_chk9 i k1_t2 arg14_r0), ∀ (k1_h1 : k1_cond1 i = 1#1), ∀ a, (k1_off49 arg14_r0) a + S1x128x128.size a ≤ S2x128x128.size a := fun i k1_t2 arg14_r0 k1_hw9 k1_h1 => k1_hw9 k1_h1

def k1_off50 (arg11_r0 : BitVec 32) : Fin 3 → Nat :=
  let c2_i32_113_r0 : BitVec 32 := 2#32
  let v175_r0 : BitVec 32 := Scalar.remui arg11_r0 c2_i32_113_r0
  let c0_i32_148_r4 : BitVec 32 := 0#32
  let c0_i32_149_r4 : BitVec 32 := 0#32
  ![v175_r0.toNat, 0, 0]

def k1_chk10 (i : grid1.Coords) (k1_t2 : Fin (k1_t2_loop i).trips) (arg11_r0 : BitVec 32) : Prop :=
  (∀ (k1_h1 : k1_cond1 i = 1#1), ∀ a, (k1_off50 arg11_r0) a + S1x1x128.size a ≤ S2x1x128.size a)
theorem k1_off50_inb : ∀ (i : grid1.Coords) (k1_t2 : Fin (k1_t2_loop i).trips) (arg11_r0 : BitVec 32) (k1_hw10 : k1_chk10 i k1_t2 arg11_r0), ∀ (k1_h1 : k1_cond1 i = 1#1), ∀ a, (k1_off50 arg11_r0) a + S1x1x128.size a ≤ S2x1x128.size a := fun i k1_t2 arg11_r0 k1_hw10 k1_h1 => k1_hw10 k1_h1

def k1_off51 (arg12_r0 : BitVec 32) : Fin 3 → Nat :=
  let c2_i32_146_r0 : BitVec 32 := 2#32
  let v242_r0 : BitVec 32 := Scalar.remui arg12_r0 c2_i32_146_r0
  let c0_i32_147_r0 : BitVec 32 := 0#32
  let c0_i32_148_r0 : BitVec 32 := 0#32
  ![v242_r0.toNat, 0, 0]
def k1_cond26 (i : grid1.Coords) (k1_t2 : Fin (k1_t2_loop i).trips) (arg16_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let true_80_r0 : BitVec 1 := 1#1
  let c1_i32_79_r0 : BitVec 32 := 1#32
  let v104_r0 : BitVec 32 := Scalar.addi arg16_r0 c1_i32_79_r0
  let v105_r0 : BitVec 32 := Scalar.select true_80_r0 v104_r0 arg16_r0
  let v106_r0 : BitVec 1 := Scalar.cmpi .eq v105_r0 v5
  let c0_i32_81_r0 : BitVec 32 := 0#32
  let v107_r0 : BitVec 32 := Scalar.select v106_r0 c0_i32_81_r0 v105_r0
  let v108_r0 : BitVec 32 := Scalar.addi v107_r0 v10
  let v188_r0 : BitVec 1 := Scalar.cmpi .ne v97_r0 v108_r0
  let c0_i32_39_r0 : BitVec 32 := 0#32
  let c1_i32_3 : BitVec 32 := 1#32
  let v11 : BitVec 32 := Scalar.muli c1_i32_3 v5
  let v51_r0 : BitVec 32 := Scalar.subi v11 c0_i32_39_r0
  let c1_i32_47_r0 : BitVec 32 := 1#32
  let v53_r0 : BitVec 32 := Scalar.divsi v51_r0 c1_i32_47_r0
  let v54_r0 : BitVec 32 := Scalar.muli v53_r0 c1_i32_47_r0
  let v55_r0 : BitVec 32 := Scalar.addi c0_i32_39_r0 v54_r0
  let c1_i32_49_r0 : BitVec 32 := 1#32
  let arg7_r0 : BitVec 32 := Scf.iv v55_r0 c1_i32_49_r0 k1_t2
  let c1_i32_72_r0 : BitVec 32 := 1#32
  let v93_r0 : BitVec 32 := Scalar.muli c1_i32_72_r0 v5
  let c1_i32_74_r0 : BitVec 32 := 1#32
  let v95_r0 : BitVec 32 := Scalar.subi v93_r0 c1_i32_74_r0
  let v96_r0 : BitVec 1 := Scalar.cmpi .eq arg7_r0 v95_r0
  let v189_r0 : BitVec 1 := Scalar.ori v188_r0 v96_r0
  let v190_r0 : BitVec 32 := Scalar.extui v189_r0
  let c0_i32_121_r0 : BitVec 32 := 0#32
  let v191_r0 : BitVec 1 := Scalar.cmpi .ne v190_r0 c0_i32_121_r0
  v191_r0

def k1_off52 (i : grid1.Coords) (arg16_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let v243_r0 : BitVec 32 := Scalar.muli c128_i32_r0 v97_r0
  let c0_i32_149_r0 : BitVec 32 := 0#32
  ![v243_r0.toNat, 0]
def k1_off53 (arg12_r0 : BitVec 32) : Fin 1 → Nat :=
  let c2_i32_146_r0 : BitVec 32 := 2#32
  let v242_r0 : BitVec 32 := Scalar.remui arg12_r0 c2_i32_146_r0
  ![v242_r0.toNat]
def k1_off54 (arg14_r0 : BitVec 32) : Fin 3 → Nat :=
  let c2_i32_146_r0 : BitVec 32 := 2#32
  let v242_r0 : BitVec 32 := Scalar.remui arg14_r0 c2_i32_146_r0
  let c0_i32_147_r0 : BitVec 32 := 0#32
  let c0_i32_148_r0 : BitVec 32 := 0#32
  ![v242_r0.toNat, 0, 0]
def k1_cond27 (i : grid1.Coords) (k1_t2 : Fin (k1_t2_loop i).trips) (arg16_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let true_80_r0 : BitVec 1 := 1#1
  let c1_i32_79_r0 : BitVec 32 := 1#32
  let v104_r0 : BitVec 32 := Scalar.addi arg16_r0 c1_i32_79_r0
  let v105_r0 : BitVec 32 := Scalar.select true_80_r0 v104_r0 arg16_r0
  let v106_r0 : BitVec 1 := Scalar.cmpi .eq v105_r0 v5
  let c0_i32_81_r0 : BitVec 32 := 0#32
  let v107_r0 : BitVec 32 := Scalar.select v106_r0 c0_i32_81_r0 v105_r0
  let v108_r0 : BitVec 32 := Scalar.addi v107_r0 v10
  let v195_r0 : BitVec 1 := Scalar.cmpi .ne v97_r0 v108_r0
  let c0_i32_39_r0 : BitVec 32 := 0#32
  let c1_i32_3 : BitVec 32 := 1#32
  let v11 : BitVec 32 := Scalar.muli c1_i32_3 v5
  let v51_r0 : BitVec 32 := Scalar.subi v11 c0_i32_39_r0
  let c1_i32_47_r0 : BitVec 32 := 1#32
  let v53_r0 : BitVec 32 := Scalar.divsi v51_r0 c1_i32_47_r0
  let v54_r0 : BitVec 32 := Scalar.muli v53_r0 c1_i32_47_r0
  let v55_r0 : BitVec 32 := Scalar.addi c0_i32_39_r0 v54_r0
  let c1_i32_49_r0 : BitVec 32 := 1#32
  let arg7_r0 : BitVec 32 := Scf.iv v55_r0 c1_i32_49_r0 k1_t2
  let c1_i32_72_r0 : BitVec 32 := 1#32
  let v93_r0 : BitVec 32 := Scalar.muli c1_i32_72_r0 v5
  let c1_i32_74_r0 : BitVec 32 := 1#32
  let v95_r0 : BitVec 32 := Scalar.subi v93_r0 c1_i32_74_r0
  let v96_r0 : BitVec 1 := Scalar.cmpi .eq arg7_r0 v95_r0
  let v196_r0 : BitVec 1 := Scalar.ori v195_r0 v96_r0
  let v197_r0 : BitVec 32 := Scalar.extui v196_r0
  let c0_i32_124_r0 : BitVec 32 := 0#32
  let v198_r0 : BitVec 1 := Scalar.cmpi .ne v197_r0 c0_i32_124_r0
  v198_r0

def k1_off55 (i : grid1.Coords) (arg16_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let v243_r0 : BitVec 32 := Scalar.muli c128_i32_r0 v97_r0
  let c0_i32_149_r0 : BitVec 32 := 0#32
  ![v243_r0.toNat, 0]
def k1_off56 (arg14_r0 : BitVec 32) : Fin 1 → Nat :=
  let c2_i32_146_r0 : BitVec 32 := 2#32
  let v242_r0 : BitVec 32 := Scalar.remui arg14_r0 c2_i32_146_r0
  ![v242_r0.toNat]
def k1_off57 (arg13_r0 : BitVec 32) : Fin 3 → Nat :=
  let c2_i32_146_r0 : BitVec 32 := 2#32
  let v242_r0 : BitVec 32 := Scalar.remui arg13_r0 c2_i32_146_r0
  let c0_i32_147_r0 : BitVec 32 := 0#32
  let c0_i32_148_r0 : BitVec 32 := 0#32
  ![v242_r0.toNat, 0, 0]
def k1_cond30 (i : grid1.Coords) (k1_t2 : Fin (k1_t2_loop i).trips) (arg16_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let true_76_r0 : BitVec 1 := 1#1
  let c1_i32_75_r0 : BitVec 32 := 1#32
  let v98_r0 : BitVec 32 := Scalar.subi arg16_r0 c1_i32_75_r0
  let v99_r0 : BitVec 32 := Scalar.select true_76_r0 v98_r0 arg16_r0
  let c_m1_i32_77_r0 : BitVec 32 := 4294967295#32
  let v100_r0 : BitVec 1 := Scalar.cmpi .eq v99_r0 c_m1_i32_77_r0
  let c1_i32_78_r0 : BitVec 32 := 1#32
  let v101_r0 : BitVec 32 := Scalar.subi v5 c1_i32_78_r0
  let v102_r0 : BitVec 32 := Scalar.select v100_r0 v101_r0 v99_r0
  let v103_r0 : BitVec 32 := Scalar.addi v102_r0 v10
  let v214_r0 : BitVec 1 := Scalar.cmpi .ne v97_r0 v103_r0
  let c0_i32_39_r0 : BitVec 32 := 0#32
  let c1_i32_3 : BitVec 32 := 1#32
  let v11 : BitVec 32 := Scalar.muli c1_i32_3 v5
  let v51_r0 : BitVec 32 := Scalar.subi v11 c0_i32_39_r0
  let c1_i32_47_r0 : BitVec 32 := 1#32
  let v53_r0 : BitVec 32 := Scalar.divsi v51_r0 c1_i32_47_r0
  let v54_r0 : BitVec 32 := Scalar.muli v53_r0 c1_i32_47_r0
  let v55_r0 : BitVec 32 := Scalar.addi c0_i32_39_r0 v54_r0
  let c1_i32_49_r0 : BitVec 32 := 1#32
  let arg7_r0 : BitVec 32 := Scf.iv v55_r0 c1_i32_49_r0 k1_t2
  let c0_i32_73_r0 : BitVec 32 := 0#32
  let v94_r0 : BitVec 1 := Scalar.cmpi .eq arg7_r0 c0_i32_73_r0
  let true_133_r0 : BitVec 1 := 1#1
  let v215_r0 : BitVec 1 := Scalar.xori v94_r0 true_133_r0
  let v216_r0 : BitVec 1 := Scalar.andi v214_r0 v215_r0
  let v217_r0 : BitVec 32 := Scalar.extui v216_r0
  let c0_i32_134_r0 : BitVec 32 := 0#32
  let v218_r0 : BitVec 1 := Scalar.cmpi .ne v217_r0 c0_i32_134_r0
  v218_r0

def k1_off58 (i : grid1.Coords) (arg16_r0 : BitVec 32) : Fin 2 → Nat :=
  let c128_i32_r0 : BitVec 32 := 128#32
  let true_76_r0 : BitVec 1 := 1#1
  let c1_i32_75_r0 : BitVec 32 := 1#32
  let v98_r0 : BitVec 32 := Scalar.subi arg16_r0 c1_i32_75_r0
  let v99_r0 : BitVec 32 := Scalar.select true_76_r0 v98_r0 arg16_r0
  let c_m1_i32_77_r0 : BitVec 32 := 4294967295#32
  let v100_r0 : BitVec 1 := Scalar.cmpi .eq v99_r0 c_m1_i32_77_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let c1_i32_78_r0 : BitVec 32 := 1#32
  let v101_r0 : BitVec 32 := Scalar.subi v5 c1_i32_78_r0
  let v102_r0 : BitVec 32 := Scalar.select v100_r0 v101_r0 v99_r0
  let c6_i32_0 : BitVec 32 := 6#32
  let v6 : BitVec 1 := Scalar.cmpi .slt v3 c6_i32_0
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v103_r0 : BitVec 32 := Scalar.addi v102_r0 v10
  let v243_r0 : BitVec 32 := Scalar.muli c128_i32_r0 v103_r0
  let c0_i32_149_r0 : BitVec 32 := 0#32
  ![v243_r0.toNat, 0]
def k1_off59 (arg13_r0 : BitVec 32) : Fin 1 → Nat :=
  let c2_i32_146_r0 : BitVec 32 := 2#32
  let v242_r0 : BitVec 32 := Scalar.remui arg13_r0 c2_i32_146_r0
  ![v242_r0.toNat]
def k1_off60 (arg15_r0 : BitVec 32) : Fin 3 → Nat :=
  let c2_i32_146_r0 : BitVec 32 := 2#32
  let v242_r0 : BitVec 32 := Scalar.remui arg15_r0 c2_i32_146_r0
  let c0_i32_147_r0 : BitVec 32 := 0#32
  let c0_i32_148_r0 : BitVec 32 := 0#32
  ![v242_r0.toNat, 0, 0]
def k1_cond31 (i : grid1.Coords) (k1_t2 : Fin (k1_t2_loop i).trips) (arg16_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32_0 : BitVec 32 := 6#32
  let v6 : BitVec 1 := Scalar.cmpi .slt v3 c6_i32_0
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v97_r0 : BitVec 32 := Scalar.addi arg16_r0 v10
  let true_76_r0 : BitVec 1 := 1#1
  let c1_i32_75_r0 : BitVec 32 := 1#32
  let v98_r0 : BitVec 32 := Scalar.subi arg16_r0 c1_i32_75_r0
  let v99_r0 : BitVec 32 := Scalar.select true_76_r0 v98_r0 arg16_r0
  let c_m1_i32_77_r0 : BitVec 32 := 4294967295#32
  let v100_r0 : BitVec 1 := Scalar.cmpi .eq v99_r0 c_m1_i32_77_r0
  let c1_i32_78_r0 : BitVec 32 := 1#32
  let v101_r0 : BitVec 32 := Scalar.subi v5 c1_i32_78_r0
  let v102_r0 : BitVec 32 := Scalar.select v100_r0 v101_r0 v99_r0
  let v103_r0 : BitVec 32 := Scalar.addi v102_r0 v10
  let v222_r0 : BitVec 1 := Scalar.cmpi .ne v97_r0 v103_r0
  let c0_i32_39_r0 : BitVec 32 := 0#32
  let c1_i32_3 : BitVec 32 := 1#32
  let v11 : BitVec 32 := Scalar.muli c1_i32_3 v5
  let v51_r0 : BitVec 32 := Scalar.subi v11 c0_i32_39_r0
  let c1_i32_47_r0 : BitVec 32 := 1#32
  let v53_r0 : BitVec 32 := Scalar.divsi v51_r0 c1_i32_47_r0
  let v54_r0 : BitVec 32 := Scalar.muli v53_r0 c1_i32_47_r0
  let v55_r0 : BitVec 32 := Scalar.addi c0_i32_39_r0 v54_r0
  let c1_i32_49_r0 : BitVec 32 := 1#32
  let arg7_r0 : BitVec 32 := Scf.iv v55_r0 c1_i32_49_r0 k1_t2
  let c0_i32_73_r0 : BitVec 32 := 0#32
  let v94_r0 : BitVec 1 := Scalar.cmpi .eq arg7_r0 c0_i32_73_r0
  let true_137_r0 : BitVec 1 := 1#1
  let v223_r0 : BitVec 1 := Scalar.xori v94_r0 true_137_r0
  let v224_r0 : BitVec 1 := Scalar.andi v222_r0 v223_r0
  let v225_r0 : BitVec 32 := Scalar.extui v224_r0
  let c0_i32_138_r0 : BitVec 32 := 0#32
  let v226_r0 : BitVec 1 := Scalar.cmpi .ne v225_r0 c0_i32_138_r0
  v226_r0

def k1_off61 (i : grid1.Coords) (arg16_r0 : BitVec 32) : Fin 2 → Nat :=
  let c128_i32_r0 : BitVec 32 := 128#32
  let true_76_r0 : BitVec 1 := 1#1
  let c1_i32_75_r0 : BitVec 32 := 1#32
  let v98_r0 : BitVec 32 := Scalar.subi arg16_r0 c1_i32_75_r0
  let v99_r0 : BitVec 32 := Scalar.select true_76_r0 v98_r0 arg16_r0
  let c_m1_i32_77_r0 : BitVec 32 := 4294967295#32
  let v100_r0 : BitVec 1 := Scalar.cmpi .eq v99_r0 c_m1_i32_77_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let c1_i32_78_r0 : BitVec 32 := 1#32
  let v101_r0 : BitVec 32 := Scalar.subi v5 c1_i32_78_r0
  let v102_r0 : BitVec 32 := Scalar.select v100_r0 v101_r0 v99_r0
  let c6_i32_0 : BitVec 32 := 6#32
  let v6 : BitVec 1 := Scalar.cmpi .slt v3 c6_i32_0
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v103_r0 : BitVec 32 := Scalar.addi v102_r0 v10
  let v243_r0 : BitVec 32 := Scalar.muli c128_i32_r0 v103_r0
  let c0_i32_149_r0 : BitVec 32 := 0#32
  ![v243_r0.toNat, 0]
def k1_off62 (arg15_r0 : BitVec 32) : Fin 1 → Nat :=
  let c2_i32_146_r0 : BitVec 32 := 2#32
  let v242_r0 : BitVec 32 := Scalar.remui arg15_r0 c2_i32_146_r0
  ![v242_r0.toNat]

def k1_chk6 (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) : Prop :=
  (∀ (k1_h1 : k1_cond1 i = 1#1), ∀ (k1_h18 : k1_cond18 i k1_t2 arg16_r0 = 1#1), ∀ a, (k1_off35 arg8_r0) a + S1x1x128.size a ≤ S2x1x128.size a) ∧
  (∀ (k1_h1 : k1_cond1 i = 1#1), ∀ (k1_h18 : k1_cond18 i k1_t2 arg16_r0 = 1#1), ∀ a, (k1_off36 i arg16_r0) a + S1x128.size a ≤ S1x13056.size a) ∧
  (∀ (k1_h1 : k1_cond1 i = 1#1), ∀ (k1_h18 : k1_cond18 i k1_t2 arg16_r0 = 1#1), ∀ a, (k1_off37 arg8_r0) a + S1.size a ≤ S2.size a) ∧
  (∀ (k1_h1 : k1_cond1 i = 1#1), ∀ (k1_h19 : k1_cond19 i k1_t2 arg16_r0 = 1#1), ∀ a, (k1_off38 arg10_r0) a + S1x1x128.size a ≤ S2x1x128.size a) ∧
  (∀ (k1_h1 : k1_cond1 i = 1#1), ∀ (k1_h19 : k1_cond19 i k1_t2 arg16_r0 = 1#1), ∀ a, (k1_off39 i arg16_r0) a + S1x128.size a ≤ S1x13056.size a) ∧
  (∀ (k1_h1 : k1_cond1 i = 1#1), ∀ (k1_h19 : k1_cond19 i k1_t2 arg16_r0 = 1#1), ∀ a, (k1_off40 arg10_r0) a + S1.size a ≤ S2.size a) ∧
  (∀ (k1_h1 : k1_cond1 i = 1#1), ∀ (k1_h20 : k1_cond20 i k1_t2 arg16_r0 = 1#1), ∀ a, (k1_off41 arg9_r0) a + S1x1x128.size a ≤ S2x1x128.size a) ∧
  (∀ (k1_h1 : k1_cond1 i = 1#1), ∀ (k1_h20 : k1_cond20 i k1_t2 arg16_r0 = 1#1), ∀ a, (k1_off42 i arg16_r0) a + S1x128.size a ≤ S1x13056.size a) ∧
  (∀ (k1_h1 : k1_cond1 i = 1#1), ∀ (k1_h20 : k1_cond20 i k1_t2 arg16_r0 = 1#1), ∀ a, (k1_off43 arg9_r0) a + S1.size a ≤ S2.size a) ∧
  (∀ (k1_h1 : k1_cond1 i = 1#1), ∀ (k1_h21 : k1_cond21 i k1_t2 arg16_r0 = 1#1), ∀ a, (k1_off44 arg11_r0) a + S1x1x128.size a ≤ S2x1x128.size a) ∧
  (∀ (k1_h1 : k1_cond1 i = 1#1), ∀ (k1_h21 : k1_cond21 i k1_t2 arg16_r0 = 1#1), ∀ a, (k1_off45 i arg16_r0) a + S1x128.size a ≤ S1x13056.size a) ∧
  (∀ (k1_h1 : k1_cond1 i = 1#1), ∀ (k1_h21 : k1_cond21 i k1_t2 arg16_r0 = 1#1), ∀ a, (k1_off46 arg11_r0) a + S1.size a ≤ S2.size a) ∧
  (∀ (k1_h1 : k1_cond1 i = 1#1), ∀ (k1_h26 : k1_cond26 i k1_t2 arg16_r0 = 1#1), ∀ a, (k1_off51 arg12_r0) a + S1x128x128.size a ≤ S2x128x128.size a) ∧
  (∀ (k1_h1 : k1_cond1 i = 1#1), ∀ (k1_h26 : k1_cond26 i k1_t2 arg16_r0 = 1#1), ∀ a, (k1_off52 i arg16_r0) a + S128x128.size a ≤ S13056x128.size a) ∧
  (∀ (k1_h1 : k1_cond1 i = 1#1), ∀ (k1_h26 : k1_cond26 i k1_t2 arg16_r0 = 1#1), ∀ a, (k1_off53 arg12_r0) a + S1.size a ≤ S2.size a) ∧
  (∀ (k1_h1 : k1_cond1 i = 1#1), ∀ (k1_h27 : k1_cond27 i k1_t2 arg16_r0 = 1#1), ∀ a, (k1_off54 arg14_r0) a + S1x128x128.size a ≤ S2x128x128.size a) ∧
  (∀ (k1_h1 : k1_cond1 i = 1#1), ∀ (k1_h27 : k1_cond27 i k1_t2 arg16_r0 = 1#1), ∀ a, (k1_off55 i arg16_r0) a + S128x128.size a ≤ S13056x128.size a) ∧
  (∀ (k1_h1 : k1_cond1 i = 1#1), ∀ (k1_h27 : k1_cond27 i k1_t2 arg16_r0 = 1#1), ∀ a, (k1_off56 arg14_r0) a + S1.size a ≤ S2.size a) ∧
  (∀ (k1_h1 : k1_cond1 i = 1#1), ∀ (k1_h30 : k1_cond30 i k1_t2 arg16_r0 = 1#1), ∀ a, (k1_off57 arg13_r0) a + S1x128x128.size a ≤ S2x128x128.size a) ∧
  (∀ (k1_h1 : k1_cond1 i = 1#1), ∀ (k1_h30 : k1_cond30 i k1_t2 arg16_r0 = 1#1), ∀ a, (k1_off58 i arg16_r0) a + S128x128.size a ≤ S13056x128.size a) ∧
  (∀ (k1_h1 : k1_cond1 i = 1#1), ∀ (k1_h30 : k1_cond30 i k1_t2 arg16_r0 = 1#1), ∀ a, (k1_off59 arg13_r0) a + S1.size a ≤ S2.size a) ∧
  (∀ (k1_h1 : k1_cond1 i = 1#1), ∀ (k1_h31 : k1_cond31 i k1_t2 arg16_r0 = 1#1), ∀ a, (k1_off60 arg15_r0) a + S1x128x128.size a ≤ S2x128x128.size a) ∧
  (∀ (k1_h1 : k1_cond1 i = 1#1), ∀ (k1_h31 : k1_cond31 i k1_t2 arg16_r0 = 1#1), ∀ a, (k1_off61 i arg16_r0) a + S128x128.size a ≤ S13056x128.size a) ∧
  (∀ (k1_h1 : k1_cond1 i = 1#1), ∀ (k1_h31 : k1_cond31 i k1_t2 arg16_r0 = 1#1), ∀ a, (k1_off62 arg15_r0) a + S1.size a ≤ S2.size a)
theorem k1_off35_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h18 : k1_cond18 i k1_t2 arg16_r0 = 1#1), ∀ a, (k1_off35 arg8_r0) a + S1x1x128.size a ≤ S2x1x128.size a := fun i k1_t2 arg8_r0 arg9_r0 arg10_r0 arg11_r0 arg12_r0 arg13_r0 arg14_r0 arg15_r0 arg16_r0 k1_hw6 k1_h1 k1_h18 => k1_hw6.1 k1_h1 k1_h18
theorem k1_off36_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h18 : k1_cond18 i k1_t2 arg16_r0 = 1#1), ∀ a, (k1_off36 i arg16_r0) a + S1x128.size a ≤ S1x13056.size a := fun i k1_t2 arg8_r0 arg9_r0 arg10_r0 arg11_r0 arg12_r0 arg13_r0 arg14_r0 arg15_r0 arg16_r0 k1_hw6 k1_h1 k1_h18 => k1_hw6.2.1 k1_h1 k1_h18
theorem k1_off37_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h18 : k1_cond18 i k1_t2 arg16_r0 = 1#1), ∀ a, (k1_off37 arg8_r0) a + S1.size a ≤ S2.size a := fun i k1_t2 arg8_r0 arg9_r0 arg10_r0 arg11_r0 arg12_r0 arg13_r0 arg14_r0 arg15_r0 arg16_r0 k1_hw6 k1_h1 k1_h18 => k1_hw6.2.2.1 k1_h1 k1_h18
theorem k1_off38_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h19 : k1_cond19 i k1_t2 arg16_r0 = 1#1), ∀ a, (k1_off38 arg10_r0) a + S1x1x128.size a ≤ S2x1x128.size a := fun i k1_t2 arg8_r0 arg9_r0 arg10_r0 arg11_r0 arg12_r0 arg13_r0 arg14_r0 arg15_r0 arg16_r0 k1_hw6 k1_h1 k1_h19 => k1_hw6.2.2.2.1 k1_h1 k1_h19
theorem k1_off39_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h19 : k1_cond19 i k1_t2 arg16_r0 = 1#1), ∀ a, (k1_off39 i arg16_r0) a + S1x128.size a ≤ S1x13056.size a := fun i k1_t2 arg8_r0 arg9_r0 arg10_r0 arg11_r0 arg12_r0 arg13_r0 arg14_r0 arg15_r0 arg16_r0 k1_hw6 k1_h1 k1_h19 => k1_hw6.2.2.2.2.1 k1_h1 k1_h19
theorem k1_off40_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h19 : k1_cond19 i k1_t2 arg16_r0 = 1#1), ∀ a, (k1_off40 arg10_r0) a + S1.size a ≤ S2.size a := fun i k1_t2 arg8_r0 arg9_r0 arg10_r0 arg11_r0 arg12_r0 arg13_r0 arg14_r0 arg15_r0 arg16_r0 k1_hw6 k1_h1 k1_h19 => k1_hw6.2.2.2.2.2.1 k1_h1 k1_h19
theorem k1_off41_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h20 : k1_cond20 i k1_t2 arg16_r0 = 1#1), ∀ a, (k1_off41 arg9_r0) a + S1x1x128.size a ≤ S2x1x128.size a := fun i k1_t2 arg8_r0 arg9_r0 arg10_r0 arg11_r0 arg12_r0 arg13_r0 arg14_r0 arg15_r0 arg16_r0 k1_hw6 k1_h1 k1_h20 => k1_hw6.2.2.2.2.2.2.1 k1_h1 k1_h20
theorem k1_off42_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h20 : k1_cond20 i k1_t2 arg16_r0 = 1#1), ∀ a, (k1_off42 i arg16_r0) a + S1x128.size a ≤ S1x13056.size a := fun i k1_t2 arg8_r0 arg9_r0 arg10_r0 arg11_r0 arg12_r0 arg13_r0 arg14_r0 arg15_r0 arg16_r0 k1_hw6 k1_h1 k1_h20 => k1_hw6.2.2.2.2.2.2.2.1 k1_h1 k1_h20
theorem k1_off43_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h20 : k1_cond20 i k1_t2 arg16_r0 = 1#1), ∀ a, (k1_off43 arg9_r0) a + S1.size a ≤ S2.size a := fun i k1_t2 arg8_r0 arg9_r0 arg10_r0 arg11_r0 arg12_r0 arg13_r0 arg14_r0 arg15_r0 arg16_r0 k1_hw6 k1_h1 k1_h20 => k1_hw6.2.2.2.2.2.2.2.2.1 k1_h1 k1_h20
theorem k1_off44_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h21 : k1_cond21 i k1_t2 arg16_r0 = 1#1), ∀ a, (k1_off44 arg11_r0) a + S1x1x128.size a ≤ S2x1x128.size a := fun i k1_t2 arg8_r0 arg9_r0 arg10_r0 arg11_r0 arg12_r0 arg13_r0 arg14_r0 arg15_r0 arg16_r0 k1_hw6 k1_h1 k1_h21 => k1_hw6.2.2.2.2.2.2.2.2.2.1 k1_h1 k1_h21
theorem k1_off45_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h21 : k1_cond21 i k1_t2 arg16_r0 = 1#1), ∀ a, (k1_off45 i arg16_r0) a + S1x128.size a ≤ S1x13056.size a := fun i k1_t2 arg8_r0 arg9_r0 arg10_r0 arg11_r0 arg12_r0 arg13_r0 arg14_r0 arg15_r0 arg16_r0 k1_hw6 k1_h1 k1_h21 => k1_hw6.2.2.2.2.2.2.2.2.2.2.1 k1_h1 k1_h21
theorem k1_off46_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h21 : k1_cond21 i k1_t2 arg16_r0 = 1#1), ∀ a, (k1_off46 arg11_r0) a + S1.size a ≤ S2.size a := fun i k1_t2 arg8_r0 arg9_r0 arg10_r0 arg11_r0 arg12_r0 arg13_r0 arg14_r0 arg15_r0 arg16_r0 k1_hw6 k1_h1 k1_h21 => k1_hw6.2.2.2.2.2.2.2.2.2.2.2.1 k1_h1 k1_h21
theorem k1_off51_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h26 : k1_cond26 i k1_t2 arg16_r0 = 1#1), ∀ a, (k1_off51 arg12_r0) a + S1x128x128.size a ≤ S2x128x128.size a := fun i k1_t2 arg8_r0 arg9_r0 arg10_r0 arg11_r0 arg12_r0 arg13_r0 arg14_r0 arg15_r0 arg16_r0 k1_hw6 k1_h1 k1_h26 => k1_hw6.2.2.2.2.2.2.2.2.2.2.2.2.1 k1_h1 k1_h26
theorem k1_off52_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h26 : k1_cond26 i k1_t2 arg16_r0 = 1#1), ∀ a, (k1_off52 i arg16_r0) a + S128x128.size a ≤ S13056x128.size a := fun i k1_t2 arg8_r0 arg9_r0 arg10_r0 arg11_r0 arg12_r0 arg13_r0 arg14_r0 arg15_r0 arg16_r0 k1_hw6 k1_h1 k1_h26 => k1_hw6.2.2.2.2.2.2.2.2.2.2.2.2.2.1 k1_h1 k1_h26
theorem k1_off53_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h26 : k1_cond26 i k1_t2 arg16_r0 = 1#1), ∀ a, (k1_off53 arg12_r0) a + S1.size a ≤ S2.size a := fun i k1_t2 arg8_r0 arg9_r0 arg10_r0 arg11_r0 arg12_r0 arg13_r0 arg14_r0 arg15_r0 arg16_r0 k1_hw6 k1_h1 k1_h26 => k1_hw6.2.2.2.2.2.2.2.2.2.2.2.2.2.2.1 k1_h1 k1_h26
theorem k1_off54_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h27 : k1_cond27 i k1_t2 arg16_r0 = 1#1), ∀ a, (k1_off54 arg14_r0) a + S1x128x128.size a ≤ S2x128x128.size a := fun i k1_t2 arg8_r0 arg9_r0 arg10_r0 arg11_r0 arg12_r0 arg13_r0 arg14_r0 arg15_r0 arg16_r0 k1_hw6 k1_h1 k1_h27 => k1_hw6.2.2.2.2.2.2.2.2.2.2.2.2.2.2.2.1 k1_h1 k1_h27
theorem k1_off55_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h27 : k1_cond27 i k1_t2 arg16_r0 = 1#1), ∀ a, (k1_off55 i arg16_r0) a + S128x128.size a ≤ S13056x128.size a := fun i k1_t2 arg8_r0 arg9_r0 arg10_r0 arg11_r0 arg12_r0 arg13_r0 arg14_r0 arg15_r0 arg16_r0 k1_hw6 k1_h1 k1_h27 => k1_hw6.2.2.2.2.2.2.2.2.2.2.2.2.2.2.2.2.1 k1_h1 k1_h27
theorem k1_off56_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h27 : k1_cond27 i k1_t2 arg16_r0 = 1#1), ∀ a, (k1_off56 arg14_r0) a + S1.size a ≤ S2.size a := fun i k1_t2 arg8_r0 arg9_r0 arg10_r0 arg11_r0 arg12_r0 arg13_r0 arg14_r0 arg15_r0 arg16_r0 k1_hw6 k1_h1 k1_h27 => k1_hw6.2.2.2.2.2.2.2.2.2.2.2.2.2.2.2.2.2.1 k1_h1 k1_h27
theorem k1_off57_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h30 : k1_cond30 i k1_t2 arg16_r0 = 1#1), ∀ a, (k1_off57 arg13_r0) a + S1x128x128.size a ≤ S2x128x128.size a := fun i k1_t2 arg8_r0 arg9_r0 arg10_r0 arg11_r0 arg12_r0 arg13_r0 arg14_r0 arg15_r0 arg16_r0 k1_hw6 k1_h1 k1_h30 => k1_hw6.2.2.2.2.2.2.2.2.2.2.2.2.2.2.2.2.2.2.1 k1_h1 k1_h30
theorem k1_off58_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h30 : k1_cond30 i k1_t2 arg16_r0 = 1#1), ∀ a, (k1_off58 i arg16_r0) a + S128x128.size a ≤ S13056x128.size a := fun i k1_t2 arg8_r0 arg9_r0 arg10_r0 arg11_r0 arg12_r0 arg13_r0 arg14_r0 arg15_r0 arg16_r0 k1_hw6 k1_h1 k1_h30 => k1_hw6.2.2.2.2.2.2.2.2.2.2.2.2.2.2.2.2.2.2.2.1 k1_h1 k1_h30
theorem k1_off59_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h30 : k1_cond30 i k1_t2 arg16_r0 = 1#1), ∀ a, (k1_off59 arg13_r0) a + S1.size a ≤ S2.size a := fun i k1_t2 arg8_r0 arg9_r0 arg10_r0 arg11_r0 arg12_r0 arg13_r0 arg14_r0 arg15_r0 arg16_r0 k1_hw6 k1_h1 k1_h30 => k1_hw6.2.2.2.2.2.2.2.2.2.2.2.2.2.2.2.2.2.2.2.2.1 k1_h1 k1_h30
theorem k1_off60_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h31 : k1_cond31 i k1_t2 arg16_r0 = 1#1), ∀ a, (k1_off60 arg15_r0) a + S1x128x128.size a ≤ S2x128x128.size a := fun i k1_t2 arg8_r0 arg9_r0 arg10_r0 arg11_r0 arg12_r0 arg13_r0 arg14_r0 arg15_r0 arg16_r0 k1_hw6 k1_h1 k1_h31 => k1_hw6.2.2.2.2.2.2.2.2.2.2.2.2.2.2.2.2.2.2.2.2.2.1 k1_h1 k1_h31
theorem k1_off61_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h31 : k1_cond31 i k1_t2 arg16_r0 = 1#1), ∀ a, (k1_off61 i arg16_r0) a + S128x128.size a ≤ S13056x128.size a := fun i k1_t2 arg8_r0 arg9_r0 arg10_r0 arg11_r0 arg12_r0 arg13_r0 arg14_r0 arg15_r0 arg16_r0 k1_hw6 k1_h1 k1_h31 => k1_hw6.2.2.2.2.2.2.2.2.2.2.2.2.2.2.2.2.2.2.2.2.2.2.1 k1_h1 k1_h31
theorem k1_off62_inb : ∀ (i : grid1.Coords) (k1_t2 : Fin (k1_t2_loop i).trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k1_hw6 : k1_chk6 i k1_t2 arg8_r0 arg9_r0 arg10_r0 arg11_r0 arg12_r0 arg13_r0 arg14_r0 arg15_r0 arg16_r0), ∀ (k1_h1 : k1_cond1 i = 1#1), ∀ (k1_h31 : k1_cond31 i k1_t2 arg16_r0 = 1#1), ∀ a, (k1_off62 arg15_r0) a + S1.size a ≤ S2.size a := fun i k1_t2 arg8_r0 arg9_r0 arg10_r0 arg11_r0 arg12_r0 arg13_r0 arg14_r0 arg15_r0 arg16_r0 k1_hw6 k1_h1 k1_h31 => k1_hw6.2.2.2.2.2.2.2.2.2.2.2.2.2.2.2.2.2.2.2.2.2.2.2 k1_h1 k1_h31

def k1_cond34 (i : grid1.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v11 : BitVec 32 := Scalar.muli c1_i32_3 v5
  let c1_i32_54_r0 : BitVec 32 := 1#32
  let v63_r0 : BitVec 32 := Scalar.subi v11 c1_i32_54_r0
  let c1_i32_55_r0 : BitVec 32 := 1#32
  let v64_r0 : BitVec 32 := Scalar.muli c1_i32_55_r0 v5
  let c1_i32_57_r0 : BitVec 32 := 1#32
  let v66_r0 : BitVec 32 := Scalar.subi v64_r0 c1_i32_57_r0
  let v67_r0 : BitVec 1 := Scalar.cmpi .eq v63_r0 v66_r0
  let v89_r0 : BitVec 32 := Scalar.extui v67_r0
  let c0_i32_70_r0 : BitVec 32 := 0#32
  let v90_r0 : BitVec 1 := Scalar.cmpi .ne v89_r0 c0_i32_70_r0
  v90_r0

def k1_off63 (v57_5_r0 : BitVec 32) : Fin 3 → Nat :=
  let c2_i32_r0 : BitVec 32 := 2#32
  let v93_r0 : BitVec 32 := Scalar.remui v57_5_r0 c2_i32_r0
  let c0_i32_72_r0 : BitVec 32 := 0#32
  let c0_i32_73_r0 : BitVec 32 := 0#32
  ![v93_r0.toNat, 0, 0]

def k1_off64 (i : grid1.Coords) (v57_8_r0 : BitVec 32) : Fin 2 → Nat :=
  let c128_i32_r0 : BitVec 32 := 128#32
  let true_51_r0 : BitVec 1 := 1#1
  let c1_i32_50_r0 : BitVec 32 := 1#32
  let v58_r0 : BitVec 32 := Scalar.subi v57_8_r0 c1_i32_50_r0
  let v59_r0 : BitVec 32 := Scalar.select true_51_r0 v58_r0 v57_8_r0
  let c_m1_i32_52_r0 : BitVec 32 := 4294967295#32
  let v60_r0 : BitVec 1 := Scalar.cmpi .eq v59_r0 c_m1_i32_52_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let c1_i32_53_r0 : BitVec 32 := 1#32
  let v61_r0 : BitVec 32 := Scalar.subi v5 c1_i32_53_r0
  let v62_r0 : BitVec 32 := Scalar.select v60_r0 v61_r0 v59_r0
  let c6_i32_0 : BitVec 32 := 6#32
  let v6 : BitVec 1 := Scalar.cmpi .slt v3 c6_i32_0
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v68_r0 : BitVec 32 := Scalar.addi v62_r0 v10
  let v94_r0 : BitVec 32 := Scalar.muli c128_i32_r0 v68_r0
  let c0_i32_74_r0 : BitVec 32 := 0#32
  ![v94_r0.toNat, 0]

def k1_off65 (v57_5_r0 : BitVec 32) : Fin 1 → Nat :=
  let c2_i32_r0 : BitVec 32 := 2#32
  let v93_r0 : BitVec 32 := Scalar.remui v57_5_r0 c2_i32_r0
  ![v93_r0.toNat]
def k1_off66 (v57_5_r0 : BitVec 32) : Fin 3 → Nat :=
  let c2_i32_r0 : BitVec 32 := 2#32
  let v93_r0 : BitVec 32 := Scalar.remui v57_5_r0 c2_i32_r0
  let c0_i32_76_r0 : BitVec 32 := 0#32
  let c0_i32_77_r0 : BitVec 32 := 0#32
  ![v93_r0.toNat, 0, 0]

def k1_chk11 (i : grid1.Coords) (v57_5_r0 : BitVec 32) : Prop :=
  (∀ (k1_h1 : k1_cond1 i = 1#1), ∀ (k1_h34 : k1_cond34 i = 1#1), ∀ a, (k1_off63 v57_5_r0) a + S1x128x128.size a ≤ S2x128x128.size a) ∧
  (∀ (k1_h1 : k1_cond1 i = 1#1), ∀ (k1_h34 : k1_cond34 i = 1#1), ∀ a, (k1_off65 v57_5_r0) a + S1.size a ≤ S2.size a) ∧
  (∀ (k1_h1 : k1_cond1 i = 1#1), ∀ (k1_h34 : k1_cond34 i = 1#1), ∀ a, (k1_off66 v57_5_r0) a + S1x128x128.size a ≤ S2x128x128.size a)
theorem k1_off63_inb : ∀ (i : grid1.Coords) (v57_5_r0 : BitVec 32) (k1_hw11 : k1_chk11 i v57_5_r0), ∀ (k1_h1 : k1_cond1 i = 1#1), ∀ (k1_h34 : k1_cond34 i = 1#1), ∀ a, (k1_off63 v57_5_r0) a + S1x128x128.size a ≤ S2x128x128.size a := fun i v57_5_r0 k1_hw11 k1_h1 k1_h34 => k1_hw11.1 k1_h1 k1_h34
theorem k1_off65_inb : ∀ (i : grid1.Coords) (v57_5_r0 : BitVec 32) (k1_hw11 : k1_chk11 i v57_5_r0), ∀ (k1_h1 : k1_cond1 i = 1#1), ∀ (k1_h34 : k1_cond34 i = 1#1), ∀ a, (k1_off65 v57_5_r0) a + S1.size a ≤ S2.size a := fun i v57_5_r0 k1_hw11 k1_h1 k1_h34 => k1_hw11.2.1 k1_h1 k1_h34
theorem k1_off66_inb : ∀ (i : grid1.Coords) (v57_5_r0 : BitVec 32) (k1_hw11 : k1_chk11 i v57_5_r0), ∀ (k1_h1 : k1_cond1 i = 1#1), ∀ (k1_h34 : k1_cond34 i = 1#1), ∀ a, (k1_off66 v57_5_r0) a + S1x128x128.size a ≤ S2x128x128.size a := fun i v57_5_r0 k1_hw11 k1_h1 k1_h34 => k1_hw11.2.2 k1_h1 k1_h34

def k1_cond35 (i : grid1.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let v11 : BitVec 32 := Scalar.muli c1_i32_3 v5
  let c1_i32_54_r0 : BitVec 32 := 1#32
  let v63_r0 : BitVec 32 := Scalar.subi v11 c1_i32_54_r0
  let c1_i32_55_r0 : BitVec 32 := 1#32
  let v64_r0 : BitVec 32 := Scalar.muli c1_i32_55_r0 v5
  let c1_i32_57_r0 : BitVec 32 := 1#32
  let v66_r0 : BitVec 32 := Scalar.subi v64_r0 c1_i32_57_r0
  let v67_r0 : BitVec 1 := Scalar.cmpi .eq v63_r0 v66_r0
  let v91_r0 : BitVec 32 := Scalar.extui v67_r0
  let c0_i32_71_r0 : BitVec 32 := 0#32
  let v92_r0 : BitVec 1 := Scalar.cmpi .ne v91_r0 c0_i32_71_r0
  v92_r0

def k1_off67 (v57_7_r0 : BitVec 32) : Fin 3 → Nat :=
  let c2_i32_r0 : BitVec 32 := 2#32
  let v93_r0 : BitVec 32 := Scalar.remui v57_7_r0 c2_i32_r0
  let c0_i32_72_r0 : BitVec 32 := 0#32
  let c0_i32_73_r0 : BitVec 32 := 0#32
  ![v93_r0.toNat, 0, 0]

def k1_off68 (i : grid1.Coords) (v57_8_r0 : BitVec 32) : Fin 2 → Nat :=
  let c128_i32_r0 : BitVec 32 := 128#32
  let true_51_r0 : BitVec 1 := 1#1
  let c1_i32_50_r0 : BitVec 32 := 1#32
  let v58_r0 : BitVec 32 := Scalar.subi v57_8_r0 c1_i32_50_r0
  let v59_r0 : BitVec 32 := Scalar.select true_51_r0 v58_r0 v57_8_r0
  let c_m1_i32_52_r0 : BitVec 32 := 4294967295#32
  let v60_r0 : BitVec 1 := Scalar.cmpi .eq v59_r0 c_m1_i32_52_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 1 := Scalar.cmpi .slt v3 c6_i32
  let c4_i32 : BitVec 32 := 4#32
  let c3_i32 : BitVec 32 := 3#32
  let v5 : BitVec 32 := Scalar.select v4 c4_i32 c3_i32
  let c1_i32_53_r0 : BitVec 32 := 1#32
  let v61_r0 : BitVec 32 := Scalar.subi v5 c1_i32_53_r0
  let v62_r0 : BitVec 32 := Scalar.select v60_r0 v61_r0 v59_r0
  let c6_i32_0 : BitVec 32 := 6#32
  let v6 : BitVec 1 := Scalar.cmpi .slt v3 c6_i32_0
  let v7 : BitVec 32 := Scalar.muli v3 v5
  let c3_i32_1 : BitVec 32 := 3#32
  let v8 : BitVec 32 := Scalar.muli v3 c3_i32_1
  let c6_i32_2 : BitVec 32 := 6#32
  let v9 : BitVec 32 := Scalar.addi v8 c6_i32_2
  let v10 : BitVec 32 := Scalar.select v6 v7 v9
  let v68_r0 : BitVec 32 := Scalar.addi v62_r0 v10
  let v94_r0 : BitVec 32 := Scalar.muli c128_i32_r0 v68_r0
  let c0_i32_74_r0 : BitVec 32 := 0#32
  ![v94_r0.toNat, 0]

def k1_chk12 (i : grid1.Coords) (v57_8_r0 : BitVec 32) : Prop :=
  (∀ (k1_h1 : k1_cond1 i = 1#1), ∀ (k1_h34 : k1_cond34 i = 1#1), ∀ a, (k1_off64 i v57_8_r0) a + S128x128.size a ≤ S13056x128.size a) ∧
  (∀ (k1_h1 : k1_cond1 i = 1#1), ∀ (k1_h35 : k1_cond35 i = 1#1), ∀ a, (k1_off68 i v57_8_r0) a + S128x128.size a ≤ S13056x128.size a)
theorem k1_off64_inb : ∀ (i : grid1.Coords) (v57_8_r0 : BitVec 32) (k1_hw12 : k1_chk12 i v57_8_r0), ∀ (k1_h1 : k1_cond1 i = 1#1), ∀ (k1_h34 : k1_cond34 i = 1#1), ∀ a, (k1_off64 i v57_8_r0) a + S128x128.size a ≤ S13056x128.size a := fun i v57_8_r0 k1_hw12 k1_h1 k1_h34 => k1_hw12.1 k1_h1 k1_h34
theorem k1_off68_inb : ∀ (i : grid1.Coords) (v57_8_r0 : BitVec 32) (k1_hw12 : k1_chk12 i v57_8_r0), ∀ (k1_h1 : k1_cond1 i = 1#1), ∀ (k1_h35 : k1_cond35 i = 1#1), ∀ a, (k1_off68 i v57_8_r0) a + S128x128.size a ≤ S13056x128.size a := fun i v57_8_r0 k1_hw12 k1_h1 k1_h35 => k1_hw12.2 k1_h1 k1_h35

def k1_off69 (v57_7_r0 : BitVec 32) : Fin 1 → Nat :=
  let c2_i32_r0 : BitVec 32 := 2#32
  let v93_r0 : BitVec 32 := Scalar.remui v57_7_r0 c2_i32_r0
  ![v93_r0.toNat]

def k1_chk13 (i : grid1.Coords) (v57_7_r0 : BitVec 32) : Prop :=
  (∀ (k1_h1 : k1_cond1 i = 1#1), ∀ (k1_h35 : k1_cond35 i = 1#1), ∀ a, (k1_off67 v57_7_r0) a + S1x128x128.size a ≤ S2x128x128.size a) ∧
  (∀ (k1_h1 : k1_cond1 i = 1#1), ∀ (k1_h35 : k1_cond35 i = 1#1), ∀ a, (k1_off69 v57_7_r0) a + S1.size a ≤ S2.size a)
theorem k1_off67_inb : ∀ (i : grid1.Coords) (v57_7_r0 : BitVec 32) (k1_hw13 : k1_chk13 i v57_7_r0), ∀ (k1_h1 : k1_cond1 i = 1#1), ∀ (k1_h35 : k1_cond35 i = 1#1), ∀ a, (k1_off67 v57_7_r0) a + S1x128x128.size a ≤ S2x128x128.size a := fun i v57_7_r0 k1_hw13 k1_h1 k1_h35 => k1_hw13.1 k1_h1 k1_h35
theorem k1_off69_inb : ∀ (i : grid1.Coords) (v57_7_r0 : BitVec 32) (k1_hw13 : k1_chk13 i v57_7_r0), ∀ (k1_h1 : k1_cond1 i = 1#1), ∀ (k1_h35 : k1_cond35 i = 1#1), ∀ a, (k1_off69 v57_7_r0) a + S1.size a ≤ S2.size a := fun i v57_7_r0 k1_hw13 k1_h1 k1_h35 => k1_hw13.2 k1_h1 k1_h35

abbrev grid2 : Pipeline.Grid := .none

abbrev stage2_0 : Fin 1 → Memref sig .tc .vmem S13056x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S13056x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .smem S_ .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S10000x10000 : Shape := ⟨2, ![10000, 10000]⟩
abbrev S1000 : Shape := ⟨1, ![1000]⟩
abbrev S5000 : Shape := ⟨1, ![5000]⟩
abbrev S_ : Shape := ⟨0, ![]⟩
abbrev S1000x1 : Shape := ⟨2, ![1000, 1]⟩
abbrev S1 : Shape := ⟨1, ![1]⟩
abbrev S1x1 : Shape := ⟨2, ![1, 1]⟩
abbrev S1000x128 : Shape := ⟨2, ![1000, 128]⟩
abbrev S5000x1 : Shape := ⟨2, ![5000, 1]⟩
abbrev S5000x128 : Shape := ⟨2, ![5000, 128]⟩
abbrev S1000x5 : Shape := ⟨2, ![1000, 5]⟩
abbrev S11000x1 : Shape := ⟨2, ![11000, 1]⟩

abbrev nBuf : Space → Nat
  | .hbm => 305
  | .vmem => 0
  | .smem => 0
  | _ => 0

abbrev hbmTy0_0 (i : Nat) : BufTy := match i % 128 with
  | 0 => ⟨S10000x128, .f32⟩
  | 1 => ⟨S10000x10000, .f32⟩
  | 2 => ⟨S10000x128, .f32⟩
  | 3 => ⟨S1000, .i32⟩
  | 4 => ⟨S1000, .i32⟩
  | 5 => ⟨S5000, .i32⟩
  | 6 => ⟨S5000, .i32⟩
  | 7 => ⟨S5000, .i32⟩
  | 8 => ⟨S5000, .i32⟩
  | 9 => ⟨S1000, .i32⟩
  | 10 => ⟨S1000, .i32⟩
  | 11 => ⟨S1000, .i32⟩
  | 12 => ⟨S1000, .i32⟩
  | 13 => ⟨S10000x128, .f32⟩
  | 14 => ⟨S_, .f32⟩
  | 15 => ⟨S10000x128, .f32⟩
  | 16 => ⟨S10000x128, .f32⟩
  | 17 => ⟨S10000x128, .f32⟩
  | 18 => ⟨S_, .i32⟩
  | 19 => ⟨S1000, .i32⟩
  | 20 => ⟨S1000, .i1⟩
  | 21 => ⟨S_, .i32⟩
  | 22 => ⟨S1000, .i32⟩
  | 23 => ⟨S1000, .i32⟩
  | 24 => ⟨S1000, .i32⟩
  | 25 => ⟨S1000x1, .i32⟩
  | 26 => ⟨S1, .i32⟩
  | 27 => ⟨S_, .i32⟩
  | 28 => ⟨S1000x1, .i32⟩
  | 29 => ⟨S1000x1, .i1⟩
  | 30 => ⟨S1x1, .i32⟩
  | 31 => ⟨S1000x1, .i32⟩
  | 32 => ⟨S1000x1, .i1⟩
  | 33 => ⟨S1000x1, .i1⟩
  | 34 => ⟨S_, .i1⟩
  | 35 => ⟨S1000, .i1⟩
  | 36 => ⟨S1000x128, .f32⟩
  | 37 => ⟨S1000x128, .i1⟩
  | 38 => ⟨S_, .f32⟩
  | 39 => ⟨S1000x128, .f32⟩
  | 40 => ⟨S1000x128, .f32⟩
  | 41 => ⟨S_, .i32⟩
  | 42 => ⟨S1000, .i32⟩
  | 43 => ⟨S1000, .i1⟩
  | 44 => ⟨S_, .i32⟩
  | 45 => ⟨S1000, .i32⟩
  | 46 => ⟨S1000, .i32⟩
  | 47 => ⟨S1000, .i32⟩
  | 48 => ⟨S1000x1, .i32⟩
  | 49 => ⟨S1, .i32⟩
  | 50 => ⟨S_, .i32⟩
  | 51 => ⟨S1000x1, .i32⟩
  | 52 => ⟨S1000x1, .i1⟩
  | 53 => ⟨S1x1, .i32⟩
  | 54 => ⟨S1000x1, .i32⟩
  | 55 => ⟨S1000x1, .i1⟩
  | 56 => ⟨S1000x1, .i1⟩
  | 57 => ⟨S_, .i1⟩
  | 58 => ⟨S1000, .i1⟩
  | 59 => ⟨S1000x128, .f32⟩
  | 60 => ⟨S1000x128, .i1⟩
  | 61 => ⟨S_, .f32⟩
  | 62 => ⟨S1000x128, .f32⟩
  | 63 => ⟨S1000x128, .f32⟩
  | 64 => ⟨S1000x128, .f32⟩
  | 65 => ⟨S1000x128, .f32⟩
  | 66 => ⟨S_, .f32⟩
  | 67 => ⟨S1000, .f32⟩
  | 68 => ⟨S1000x1, .f32⟩
  | 69 => ⟨S_, .f32⟩
  | 70 => ⟨S1000x1, .f32⟩
  | 71 => ⟨S1000x1, .f32⟩
  | 72 => ⟨S_, .i32⟩
  | 73 => ⟨S5000, .i32⟩
  | 74 => ⟨S5000, .i1⟩
  | 75 => ⟨S_, .i32⟩
  | 76 => ⟨S5000, .i32⟩
  | 77 => ⟨S5000, .i32⟩
  | 78 => ⟨S5000, .i32⟩
  | 79 => ⟨S5000x1, .i32⟩
  | 80 => ⟨S1, .i32⟩
  | 81 => ⟨S_, .i32⟩
  | 82 => ⟨S5000x1, .i32⟩
  | 83 => ⟨S5000x1, .i1⟩
  | 84 => ⟨S1x1, .i32⟩
  | 85 => ⟨S5000x1, .i32⟩
  | 86 => ⟨S5000x1, .i1⟩
  | 87 => ⟨S5000x1, .i1⟩
  | 88 => ⟨S_, .i1⟩
  | 89 => ⟨S5000, .i1⟩
  | 90 => ⟨S5000x128, .f32⟩
  | 91 => ⟨S5000x128, .i1⟩
  | 92 => ⟨S_, .f32⟩
  | 93 => ⟨S5000x128, .f32⟩
  | 94 => ⟨S5000x128, .f32⟩
  | 95 => ⟨S_, .i32⟩
  | 96 => ⟨S5000, .i32⟩
  | 97 => ⟨S5000, .i1⟩
  | 98 => ⟨S_, .i32⟩
  | 99 => ⟨S5000, .i32⟩
  | 100 => ⟨S5000, .i32⟩
  | 101 => ⟨S5000, .i32⟩
  | 102 => ⟨S5000x1, .i32⟩
  | 103 => ⟨S1, .i32⟩
  | 104 => ⟨S_, .i32⟩
  | 105 => ⟨S5000x1, .i32⟩
  | 106 => ⟨S5000x1, .i1⟩
  | 107 => ⟨S1x1, .i32⟩
  | 108 => ⟨S5000x1, .i32⟩
  | 109 => ⟨S5000x1, .i1⟩
  | 110 => ⟨S5000x1, .i1⟩
  | 111 => ⟨S_, .i1⟩
  | 112 => ⟨S5000, .i1⟩
  | 113 => ⟨S5000x128, .f32⟩
  | 114 => ⟨S5000x128, .i1⟩
  | 115 => ⟨S_, .f32⟩
  | 116 => ⟨S5000x128, .f32⟩
  | 117 => ⟨S5000x128, .f32⟩
  | 118 => ⟨S5000x128, .f32⟩
  | 119 => ⟨S5000x128, .f32⟩
  | 120 => ⟨S_, .f32⟩
  | 121 => ⟨S5000, .f32⟩
  | 122 => ⟨S5000x1, .f32⟩
  | 123 => ⟨S1000x5, .f32⟩
  | 124 => ⟨S1000x5, .f32⟩
  | 125 => ⟨S1000x5, .f32⟩
  | 126 => ⟨S1000x5, .f32⟩
  | 127 => ⟨S_, .f32⟩
  | _ => ⟨S10000x128, .f32⟩

abbrev hbmTy0_1 (i : Nat) : BufTy := match i % 128 with
  | 0 => ⟨S1000x5, .f32⟩
  | 1 => ⟨S1000x5, .f32⟩
  | 2 => ⟨S5000x1, .f32⟩
  | 3 => ⟨S_, .i32⟩
  | 4 => ⟨S5000, .i32⟩
  | 5 => ⟨S5000, .i1⟩
  | 6 => ⟨S_, .i32⟩
  | 7 => ⟨S5000, .i32⟩
  | 8 => ⟨S5000, .i32⟩
  | 9 => ⟨S5000, .i32⟩
  | 10 => ⟨S5000x1, .i32⟩
  | 11 => ⟨S1, .i32⟩
  | 12 => ⟨S_, .i32⟩
  | 13 => ⟨S5000x1, .i32⟩
  | 14 => ⟨S5000x1, .i1⟩
  | 15 => ⟨S1x1, .i32⟩
  | 16 => ⟨S5000x1, .i32⟩
  | 17 => ⟨S5000x1, .i1⟩
  | 18 => ⟨S5000x1, .i1⟩
  | 19 => ⟨S_, .i1⟩
  | 20 => ⟨S5000, .i1⟩
  | 21 => ⟨S5000x128, .f32⟩
  | 22 => ⟨S5000x128, .i1⟩
  | 23 => ⟨S_, .f32⟩
  | 24 => ⟨S5000x128, .f32⟩
  | 25 => ⟨S5000x128, .f32⟩
  | 26 => ⟨S_, .i32⟩
  | 27 => ⟨S5000, .i32⟩
  | 28 => ⟨S5000, .i1⟩
  | 29 => ⟨S_, .i32⟩
  | 30 => ⟨S5000, .i32⟩
  | 31 => ⟨S5000, .i32⟩
  | 32 => ⟨S5000, .i32⟩
  | 33 => ⟨S5000x1, .i32⟩
  | 34 => ⟨S1, .i32⟩
  | 35 => ⟨S_, .i32⟩
  | 36 => ⟨S5000x1, .i32⟩
  | 37 => ⟨S5000x1, .i1⟩
  | 38 => ⟨S1x1, .i32⟩
  | 39 => ⟨S5000x1, .i32⟩
  | 40 => ⟨S5000x1, .i1⟩
  | 41 => ⟨S5000x1, .i1⟩
  | 42 => ⟨S_, .i1⟩
  | 43 => ⟨S5000, .i1⟩
  | 44 => ⟨S5000x128, .f32⟩
  | 45 => ⟨S5000x128, .i1⟩
  | 46 => ⟨S_, .f32⟩
  | 47 => ⟨S5000x128, .f32⟩
  | 48 => ⟨S5000x128, .f32⟩
  | 49 => ⟨S5000x128, .f32⟩
  | 50 => ⟨S5000x128, .f32⟩
  | 51 => ⟨S_, .f32⟩
  | 52 => ⟨S5000, .f32⟩
  | 53 => ⟨S5000x1, .f32⟩
  | 54 => ⟨S1000x5, .f32⟩
  | 55 => ⟨S1000x5, .f32⟩
  | 56 => ⟨S1000x5, .f32⟩
  | 57 => ⟨S1000x5, .f32⟩
  | 58 => ⟨S_, .f32⟩
  | 59 => ⟨S1000x5, .f32⟩
  | 60 => ⟨S1000x5, .f32⟩
  | 61 => ⟨S5000x1, .f32⟩
  | 62 => ⟨S_, .i32⟩
  | 63 => ⟨S1000, .i32⟩
  | 64 => ⟨S1000, .i1⟩
  | 65 => ⟨S_, .i32⟩
  | 66 => ⟨S1000, .i32⟩
  | 67 => ⟨S1000, .i32⟩
  | 68 => ⟨S1000, .i32⟩
  | 69 => ⟨S1000x1, .i32⟩
  | 70 => ⟨S1, .i32⟩
  | 71 => ⟨S_, .i32⟩
  | 72 => ⟨S1000x1, .i32⟩
  | 73 => ⟨S1000x1, .i1⟩
  | 74 => ⟨S1x1, .i32⟩
  | 75 => ⟨S1000x1, .i32⟩
  | 76 => ⟨S1000x1, .i1⟩
  | 77 => ⟨S1000x1, .i1⟩
  | 78 => ⟨S_, .i1⟩
  | 79 => ⟨S1000, .i1⟩
  | 80 => ⟨S1000x128, .f32⟩
  | 81 => ⟨S1000x128, .i1⟩
  | 82 => ⟨S_, .f32⟩
  | 83 => ⟨S1000x128, .f32⟩
  | 84 => ⟨S1000x128, .f32⟩
  | 85 => ⟨S_, .i32⟩
  | 86 => ⟨S1000, .i32⟩
  | 87 => ⟨S1000, .i1⟩
  | 88 => ⟨S_, .i32⟩
  | 89 => ⟨S1000, .i32⟩
  | 90 => ⟨S1000, .i32⟩
  | 91 => ⟨S1000, .i32⟩
  | 92 => ⟨S1000x1, .i32⟩
  | 93 => ⟨S1, .i32⟩
  | 94 => ⟨S_, .i32⟩
  | 95 => ⟨S1000x1, .i32⟩
  | 96 => ⟨S1000x1, .i1⟩
  | 97 => ⟨S1x1, .i32⟩
  | 98 => ⟨S1000x1, .i32⟩
  | 99 => ⟨S1000x1, .i1⟩
  | 100 => ⟨S1000x1, .i1⟩
  | 101 => ⟨S_, .i1⟩
  | 102 => ⟨S1000, .i1⟩
  | 103 => ⟨S1000x128, .f32⟩
  | 104 => ⟨S1000x128, .i1⟩
  | 105 => ⟨S_, .f32⟩
  | 106 => ⟨S1000x128, .f32⟩
  | 107 => ⟨S1000x128, .f32⟩
  | 108 => ⟨S1000x128, .f32⟩
  | 109 => ⟨S1000x128, .f32⟩
  | 110 => ⟨S_, .f32⟩
  | 111 => ⟨S1000, .f32⟩
  | 112 => ⟨S1000x1, .f32⟩
  | 113 => ⟨S_, .i32⟩
  | 114 => ⟨S1000, .i32⟩
  | 115 => ⟨S1000, .i1⟩
  | 116 => ⟨S_, .i32⟩
  | 117 => ⟨S1000, .i32⟩
  | 118 => ⟨S1000, .i32⟩
  | 119 => ⟨S1000, .i32⟩
  | 120 => ⟨S1000x1, .i32⟩
  | 121 => ⟨S1, .i32⟩
  | 122 => ⟨S_, .i32⟩
  | 123 => ⟨S1000x1, .i32⟩
  | 124 => ⟨S1000x1, .i1⟩
  | 125 => ⟨S1x1, .i32⟩
  | 126 => ⟨S1000x1, .i32⟩
  | 127 => ⟨S1000x1, .i1⟩
  | _ => ⟨S10000x128, .f32⟩

abbrev hbmTy0_2 (i : Nat) : BufTy := match i % 128 with
  | 0 => ⟨S1000x1, .i1⟩
  | 1 => ⟨S_, .i1⟩
  | 2 => ⟨S1000, .i1⟩
  | 3 => ⟨S1000x128, .f32⟩
  | 4 => ⟨S1000x128, .i1⟩
  | 5 => ⟨S_, .f32⟩
  | 6 => ⟨S1000x128, .f32⟩
  | 7 => ⟨S1000x128, .f32⟩
  | 8 => ⟨S_, .i32⟩
  | 9 => ⟨S1000, .i32⟩
  | 10 => ⟨S1000, .i1⟩
  | 11 => ⟨S_, .i32⟩
  | 12 => ⟨S1000, .i32⟩
  | 13 => ⟨S1000, .i32⟩
  | 14 => ⟨S1000, .i32⟩
  | 15 => ⟨S1000x1, .i32⟩
  | 16 => ⟨S1, .i32⟩
  | 17 => ⟨S_, .i32⟩
  | 18 => ⟨S1000x1, .i32⟩
  | 19 => ⟨S1000x1, .i1⟩
  | 20 => ⟨S1x1, .i32⟩
  | 21 => ⟨S1000x1, .i32⟩
  | 22 => ⟨S1000x1, .i1⟩
  | 23 => ⟨S1000x1, .i1⟩
  | 24 => ⟨S_, .i1⟩
  | 25 => ⟨S1000, .i1⟩
  | 26 => ⟨S1000x128, .f32⟩
  | 27 => ⟨S1000x128, .i1⟩
  | 28 => ⟨S_, .f32⟩
  | 29 => ⟨S1000x128, .f32⟩
  | 30 => ⟨S1000x128, .f32⟩
  | 31 => ⟨S1000x128, .f32⟩
  | 32 => ⟨S1000x128, .f32⟩
  | 33 => ⟨S_, .f32⟩
  | 34 => ⟨S1000, .f32⟩
  | 35 => ⟨S1000x1, .f32⟩
  | 36 => ⟨S1000x1, .f32⟩
  | 37 => ⟨S_, .f32⟩
  | 38 => ⟨S1000x1, .f32⟩
  | 39 => ⟨S1000x1, .f32⟩
  | 40 => ⟨S1000x1, .f32⟩
  | 41 => ⟨S_, .f32⟩
  | 42 => ⟨S1000x1, .f32⟩
  | 43 => ⟨S1000x1, .f32⟩
  | 44 => ⟨S11000x1, .f32⟩
  | 45 => ⟨S_, .f32⟩
  | 46 => ⟨S_, .f32⟩
  | 47 => ⟨S_, .f32⟩
  | 48 => ⟨S_, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_cst : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_call1_cst : Ref sig .tc := ⟨.hbm, 38, rfl⟩
abbrev main_call1_v15 : Ref sig .tc := ⟨.hbm, 39, rfl⟩
abbrev main_v3 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_v14 : Ref sig .tc := ⟨.hbm, 60, rfl⟩
abbrev main_call2_cst : Ref sig .tc := ⟨.hbm, 61, rfl⟩
abbrev main_call2_v15 : Ref sig .tc := ⟨.hbm, 62, rfl⟩
abbrev main_v4 : Ref sig .tc := ⟨.hbm, 63, rfl⟩
abbrev main_v5 : Ref sig .tc := ⟨.hbm, 64, rfl⟩
abbrev main_v6 : Ref sig .tc := ⟨.hbm, 65, rfl⟩
abbrev main_cst : Ref sig .tc := ⟨.hbm, 66, rfl⟩
abbrev main_v7 : Ref sig .tc := ⟨.hbm, 67, rfl⟩
abbrev main_v8 : Ref sig .tc := ⟨.hbm, 68, rfl⟩
abbrev main_cst_0 : Ref sig .tc := ⟨.hbm, 69, rfl⟩
abbrev main_v9 : Ref sig .tc := ⟨.hbm, 70, rfl⟩
abbrev main_v10 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_v14 : Ref sig .tc := ⟨.hbm, 91, rfl⟩
abbrev main_call3_cst : Ref sig .tc := ⟨.hbm, 92, rfl⟩
abbrev main_call3_v15 : Ref sig .tc := ⟨.hbm, 93, rfl⟩
abbrev main_v11 : Ref sig .tc := ⟨.hbm, 94, rfl⟩
abbrev main_call4_c : Ref sig .tc := ⟨.hbm, 95, rfl⟩
abbrev main_call4_v0 : Ref sig .tc := ⟨.hbm, 96, rfl⟩
abbrev main_call4_v1 : Ref sig .tc := ⟨.hbm, 97, rfl⟩
abbrev main_call4_c_0 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_v5 : Ref sig .tc := ⟨.hbm, 102, rfl⟩
abbrev main_call4_c_1 : Ref sig .tc := ⟨.hbm, 103, rfl⟩
abbrev main_call4_c_2 : Ref sig .tc := ⟨.hbm, 104, rfl⟩
abbrev main_call4_v6 : Ref sig .tc := ⟨.hbm, 105, rfl⟩
abbrev main_call4_v7 : Ref sig .tc := ⟨.hbm, 106, rfl⟩
abbrev main_call4_v8 : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_c_3 : Ref sig .tc := ⟨.hbm, 111, rfl⟩
abbrev main_call4_v12 : Ref sig .tc := ⟨.hbm, 112, rfl⟩
abbrev main_call4_v13 : Ref sig .tc := ⟨.hbm, 113, rfl⟩
abbrev main_call4_v14 : Ref sig .tc := ⟨.hbm, 114, rfl⟩
abbrev main_call4_cst : Ref sig .tc := ⟨.hbm, 115, rfl⟩
abbrev main_call4_v15 : Ref sig .tc := ⟨.hbm, 116, rfl⟩
abbrev main_v12 : Ref sig .tc := ⟨.hbm, 117, rfl⟩
abbrev main_v13 : Ref sig .tc := ⟨.hbm, 118, rfl⟩
abbrev main_v14 : Ref sig .tc := ⟨.hbm, 119, rfl⟩
abbrev main_cst_1 : Ref sig .tc := ⟨.hbm, 120, rfl⟩
abbrev main_v15 : Ref sig .tc := ⟨.hbm, 121, rfl⟩
abbrev main_v16 : Ref sig .tc := ⟨.hbm, 122, rfl⟩
abbrev main_v17 : Ref sig .tc := ⟨.hbm, 123, rfl⟩
abbrev main_v18 : Ref sig .tc := ⟨.hbm, 124, rfl⟩
abbrev main_v19 : Ref sig .tc := ⟨.hbm, 125, rfl⟩
abbrev main_v20 : Ref sig .tc := ⟨.hbm, 126, rfl⟩
abbrev main_call5_cst : Ref sig .tc := ⟨.hbm, 127, rfl⟩
abbrev main_call5_v0 : Ref sig .tc := ⟨.hbm, 128, rfl⟩
abbrev main_v21 : Ref sig .tc := ⟨.hbm, 129, rfl⟩
abbrev main_v22 : Ref sig .tc := ⟨.hbm, 130, rfl⟩
abbrev main_call6_c : Ref sig .tc := ⟨.hbm, 131, rfl⟩
abbrev main_call6_v0 : Ref sig .tc := ⟨.hbm, 132, rfl⟩
abbrev main_call6_v1 : Ref sig .tc := ⟨.hbm, 133, rfl⟩
abbrev main_call6_c_0 : Ref sig .tc := ⟨.hbm, 134, rfl⟩
abbrev main_call6_v2 : Ref sig .tc := ⟨.hbm, 135, rfl⟩
abbrev main_call6_v3 : Ref sig .tc := ⟨.hbm, 136, rfl⟩
abbrev main_call6_v4 : Ref sig .tc := ⟨.hbm, 137, rfl⟩
abbrev main_call6_v5 : Ref sig .tc := ⟨.hbm, 138, rfl⟩
abbrev main_call6_c_1 : Ref sig .tc := ⟨.hbm, 139, rfl⟩
abbrev main_call6_c_2 : Ref sig .tc := ⟨.hbm, 140, rfl⟩
abbrev main_call6_v6 : Ref sig .tc := ⟨.hbm, 141, rfl⟩
abbrev main_call6_v7 : Ref sig .tc := ⟨.hbm, 142, rfl⟩
abbrev main_call6_v8 : Ref sig .tc := ⟨.hbm, 143, rfl⟩
abbrev main_call6_v9 : Ref sig .tc := ⟨.hbm, 144, rfl⟩
abbrev main_call6_v10 : Ref sig .tc := ⟨.hbm, 145, rfl⟩
abbrev main_call6_v11 : Ref sig .tc := ⟨.hbm, 146, rfl⟩
abbrev main_call6_c_3 : Ref sig .tc := ⟨.hbm, 147, rfl⟩
abbrev main_call6_v12 : Ref sig .tc := ⟨.hbm, 148, rfl⟩
abbrev main_call6_v13 : Ref sig .tc := ⟨.hbm, 149, rfl⟩
abbrev main_call6_v14 : Ref sig .tc := ⟨.hbm, 150, rfl⟩
abbrev main_call6_cst : Ref sig .tc := ⟨.hbm, 151, rfl⟩
abbrev main_call6_v15 : Ref sig .tc := ⟨.hbm, 152, rfl⟩
abbrev main_v23 : Ref sig .tc := ⟨.hbm, 153, rfl⟩
abbrev main_call7_c : Ref sig .tc := ⟨.hbm, 154, rfl⟩
abbrev main_call7_v0 : Ref sig .tc := ⟨.hbm, 155, rfl⟩
abbrev main_call7_v1 : Ref sig .tc := ⟨.hbm, 156, rfl⟩
abbrev main_call7_c_0 : Ref sig .tc := ⟨.hbm, 157, rfl⟩
abbrev main_call7_v2 : Ref sig .tc := ⟨.hbm, 158, rfl⟩
abbrev main_call7_v3 : Ref sig .tc := ⟨.hbm, 159, rfl⟩
abbrev main_call7_v4 : Ref sig .tc := ⟨.hbm, 160, rfl⟩
abbrev main_call7_v5 : Ref sig .tc := ⟨.hbm, 161, rfl⟩
abbrev main_call7_c_1 : Ref sig .tc := ⟨.hbm, 162, rfl⟩
abbrev main_call7_c_2 : Ref sig .tc := ⟨.hbm, 163, rfl⟩
abbrev main_call7_v6 : Ref sig .tc := ⟨.hbm, 164, rfl⟩
abbrev main_call7_v7 : Ref sig .tc := ⟨.hbm, 165, rfl⟩
abbrev main_call7_v8 : Ref sig .tc := ⟨.hbm, 166, rfl⟩
abbrev main_call7_v9 : Ref sig .tc := ⟨.hbm, 167, rfl⟩
abbrev main_call7_v10 : Ref sig .tc := ⟨.hbm, 168, rfl⟩
abbrev main_call7_v11 : Ref sig .tc := ⟨.hbm, 169, rfl⟩
abbrev main_call7_c_3 : Ref sig .tc := ⟨.hbm, 170, rfl⟩
abbrev main_call7_v12 : Ref sig .tc := ⟨.hbm, 171, rfl⟩
abbrev main_call7_v13 : Ref sig .tc := ⟨.hbm, 172, rfl⟩
abbrev main_call7_v14 : Ref sig .tc := ⟨.hbm, 173, rfl⟩
abbrev main_call7_cst : Ref sig .tc := ⟨.hbm, 174, rfl⟩
abbrev main_call7_v15 : Ref sig .tc := ⟨.hbm, 175, rfl⟩
abbrev main_v24 : Ref sig .tc := ⟨.hbm, 176, rfl⟩
abbrev main_v25 : Ref sig .tc := ⟨.hbm, 177, rfl⟩
abbrev main_v26 : Ref sig .tc := ⟨.hbm, 178, rfl⟩
abbrev main_cst_2 : Ref sig .tc := ⟨.hbm, 179, rfl⟩
abbrev main_v27 : Ref sig .tc := ⟨.hbm, 180, rfl⟩
abbrev main_v28 : Ref sig .tc := ⟨.hbm, 181, rfl⟩
abbrev main_v29 : Ref sig .tc := ⟨.hbm, 182, rfl⟩
abbrev main_v30 : Ref sig .tc := ⟨.hbm, 183, rfl⟩
abbrev main_v31 : Ref sig .tc := ⟨.hbm, 184, rfl⟩
abbrev main_v32 : Ref sig .tc := ⟨.hbm, 185, rfl⟩
abbrev main_call8_cst : Ref sig .tc := ⟨.hbm, 186, rfl⟩
abbrev main_call8_v0 : Ref sig .tc := ⟨.hbm, 187, rfl⟩
abbrev main_v33 : Ref sig .tc := ⟨.hbm, 188, rfl⟩
abbrev main_v34 : Ref sig .tc := ⟨.hbm, 189, rfl⟩
abbrev main_call9_c : Ref sig .tc := ⟨.hbm, 190, rfl⟩
abbrev main_call9_v0 : Ref sig .tc := ⟨.hbm, 191, rfl⟩
abbrev main_call9_v1 : Ref sig .tc := ⟨.hbm, 192, rfl⟩
abbrev main_call9_c_0 : Ref sig .tc := ⟨.hbm, 193, rfl⟩
abbrev main_call9_v2 : Ref sig .tc := ⟨.hbm, 194, rfl⟩
abbrev main_call9_v3 : Ref sig .tc := ⟨.hbm, 195, rfl⟩
abbrev main_call9_v4 : Ref sig .tc := ⟨.hbm, 196, rfl⟩
abbrev main_call9_v5 : Ref sig .tc := ⟨.hbm, 197, rfl⟩
abbrev main_call9_c_1 : Ref sig .tc := ⟨.hbm, 198, rfl⟩
abbrev main_call9_c_2 : Ref sig .tc := ⟨.hbm, 199, rfl⟩
abbrev main_call9_v6 : Ref sig .tc := ⟨.hbm, 200, rfl⟩
abbrev main_call9_v7 : Ref sig .tc := ⟨.hbm, 201, rfl⟩
abbrev main_call9_v8 : Ref sig .tc := ⟨.hbm, 202, rfl⟩
abbrev main_call9_v9 : Ref sig .tc := ⟨.hbm, 203, rfl⟩
abbrev main_call9_v10 : Ref sig .tc := ⟨.hbm, 204, rfl⟩
abbrev main_call9_v11 : Ref sig .tc := ⟨.hbm, 205, rfl⟩
abbrev main_call9_c_3 : Ref sig .tc := ⟨.hbm, 206, rfl⟩
abbrev main_call9_v12 : Ref sig .tc := ⟨.hbm, 207, rfl⟩
abbrev main_call9_v13 : Ref sig .tc := ⟨.hbm, 208, rfl⟩
abbrev main_call9_v14 : Ref sig .tc := ⟨.hbm, 209, rfl⟩
abbrev main_call9_cst : Ref sig .tc := ⟨.hbm, 210, rfl⟩
abbrev main_call9_v15 : Ref sig .tc := ⟨.hbm, 211, rfl⟩
abbrev main_v35 : Ref sig .tc := ⟨.hbm, 212, rfl⟩
abbrev main_call10_c : Ref sig .tc := ⟨.hbm, 213, rfl⟩
abbrev main_call10_v0 : Ref sig .tc := ⟨.hbm, 214, rfl⟩
abbrev main_call10_v1 : Ref sig .tc := ⟨.hbm, 215, rfl⟩
abbrev main_call10_c_0 : Ref sig .tc := ⟨.hbm, 216, rfl⟩
abbrev main_call10_v2 : Ref sig .tc := ⟨.hbm, 217, rfl⟩
abbrev main_call10_v3 : Ref sig .tc := ⟨.hbm, 218, rfl⟩
abbrev main_call10_v4 : Ref sig .tc := ⟨.hbm, 219, rfl⟩
abbrev main_call10_v5 : Ref sig .tc := ⟨.hbm, 220, rfl⟩
abbrev main_call10_c_1 : Ref sig .tc := ⟨.hbm, 221, rfl⟩
abbrev main_call10_c_2 : Ref sig .tc := ⟨.hbm, 222, rfl⟩
abbrev main_call10_v6 : Ref sig .tc := ⟨.hbm, 223, rfl⟩
abbrev main_call10_v7 : Ref sig .tc := ⟨.hbm, 224, rfl⟩
abbrev main_call10_v8 : Ref sig .tc := ⟨.hbm, 225, rfl⟩
abbrev main_call10_v9 : Ref sig .tc := ⟨.hbm, 226, rfl⟩
abbrev main_call10_v10 : Ref sig .tc := ⟨.hbm, 227, rfl⟩
abbrev main_call10_v11 : Ref sig .tc := ⟨.hbm, 228, rfl⟩
abbrev main_call10_c_3 : Ref sig .tc := ⟨.hbm, 229, rfl⟩
abbrev main_call10_v12 : Ref sig .tc := ⟨.hbm, 230, rfl⟩
abbrev main_call10_v13 : Ref sig .tc := ⟨.hbm, 231, rfl⟩
abbrev main_call10_v14 : Ref sig .tc := ⟨.hbm, 232, rfl⟩
abbrev main_call10_cst : Ref sig .tc := ⟨.hbm, 233, rfl⟩
abbrev main_call10_v15 : Ref sig .tc := ⟨.hbm, 234, rfl⟩
abbrev main_v36 : Ref sig .tc := ⟨.hbm, 235, rfl⟩
abbrev main_v37 : Ref sig .tc := ⟨.hbm, 236, rfl⟩
abbrev main_v38 : Ref sig .tc := ⟨.hbm, 237, rfl⟩
abbrev main_cst_3 : Ref sig .tc := ⟨.hbm, 238, rfl⟩
abbrev main_v39 : Ref sig .tc := ⟨.hbm, 239, rfl⟩
abbrev main_v40 : Ref sig .tc := ⟨.hbm, 240, rfl⟩
abbrev main_call11_c : Ref sig .tc := ⟨.hbm, 241, rfl⟩
abbrev main_call11_v0 : Ref sig .tc := ⟨.hbm, 242, rfl⟩
abbrev main_call11_v1 : Ref sig .tc := ⟨.hbm, 243, rfl⟩
abbrev main_call11_c_0 : Ref sig .tc := ⟨.hbm, 244, rfl⟩
abbrev main_call11_v2 : Ref sig .tc := ⟨.hbm, 245, rfl⟩
abbrev main_call11_v3 : Ref sig .tc := ⟨.hbm, 246, rfl⟩
abbrev main_call11_v4 : Ref sig .tc := ⟨.hbm, 247, rfl⟩
abbrev main_call11_v5 : Ref sig .tc := ⟨.hbm, 248, rfl⟩
abbrev main_call11_c_1 : Ref sig .tc := ⟨.hbm, 249, rfl⟩
abbrev main_call11_c_2 : Ref sig .tc := ⟨.hbm, 250, rfl⟩
abbrev main_call11_v6 : Ref sig .tc := ⟨.hbm, 251, rfl⟩
abbrev main_call11_v7 : Ref sig .tc := ⟨.hbm, 252, rfl⟩
abbrev main_call11_v8 : Ref sig .tc := ⟨.hbm, 253, rfl⟩
abbrev main_call11_v9 : Ref sig .tc := ⟨.hbm, 254, rfl⟩
abbrev main_call11_v10 : Ref sig .tc := ⟨.hbm, 255, rfl⟩
abbrev main_call11_v11 : Ref sig .tc := ⟨.hbm, 256, rfl⟩
abbrev main_call11_c_3 : Ref sig .tc := ⟨.hbm, 257, rfl⟩
abbrev main_call11_v12 : Ref sig .tc := ⟨.hbm, 258, rfl⟩
abbrev main_call11_v13 : Ref sig .tc := ⟨.hbm, 259, rfl⟩
abbrev main_call11_v14 : Ref sig .tc := ⟨.hbm, 260, rfl⟩
abbrev main_call11_cst : Ref sig .tc := ⟨.hbm, 261, rfl⟩
abbrev main_call11_v15 : Ref sig .tc := ⟨.hbm, 262, rfl⟩
abbrev main_v41 : Ref sig .tc := ⟨.hbm, 263, rfl⟩
abbrev main_call12_c : Ref sig .tc := ⟨.hbm, 264, rfl⟩
abbrev main_call12_v0 : Ref sig .tc := ⟨.hbm, 265, rfl⟩
abbrev main_call12_v1 : Ref sig .tc := ⟨.hbm, 266, rfl⟩
abbrev main_call12_c_0 : Ref sig .tc := ⟨.hbm, 267, rfl⟩
abbrev main_call12_v2 : Ref sig .tc := ⟨.hbm, 268, rfl⟩
abbrev main_call12_v3 : Ref sig .tc := ⟨.hbm, 269, rfl⟩
abbrev main_call12_v4 : Ref sig .tc := ⟨.hbm, 270, rfl⟩
abbrev main_call12_v5 : Ref sig .tc := ⟨.hbm, 271, rfl⟩
abbrev main_call12_c_1 : Ref sig .tc := ⟨.hbm, 272, rfl⟩
abbrev main_call12_c_2 : Ref sig .tc := ⟨.hbm, 273, rfl⟩
abbrev main_call12_v6 : Ref sig .tc := ⟨.hbm, 274, rfl⟩
abbrev main_call12_v7 : Ref sig .tc := ⟨.hbm, 275, rfl⟩
abbrev main_call12_v8 : Ref sig .tc := ⟨.hbm, 276, rfl⟩
abbrev main_call12_v9 : Ref sig .tc := ⟨.hbm, 277, rfl⟩
abbrev main_call12_v10 : Ref sig .tc := ⟨.hbm, 278, rfl⟩
abbrev main_call12_v11 : Ref sig .tc := ⟨.hbm, 279, rfl⟩
abbrev main_call12_c_3 : Ref sig .tc := ⟨.hbm, 280, rfl⟩
abbrev main_call12_v12 : Ref sig .tc := ⟨.hbm, 281, rfl⟩
abbrev main_call12_v13 : Ref sig .tc := ⟨.hbm, 282, rfl⟩
abbrev main_call12_v14 : Ref sig .tc := ⟨.hbm, 283, rfl⟩
abbrev main_call12_cst : Ref sig .tc := ⟨.hbm, 284, rfl⟩
abbrev main_call12_v15 : Ref sig .tc := ⟨.hbm, 285, rfl⟩
abbrev main_v42 : Ref sig .tc := ⟨.hbm, 286, rfl⟩
abbrev main_v43 : Ref sig .tc := ⟨.hbm, 287, rfl⟩
abbrev main_v44 : Ref sig .tc := ⟨.hbm, 288, rfl⟩
abbrev main_cst_4 : Ref sig .tc := ⟨.hbm, 289, rfl⟩
abbrev main_v45 : Ref sig .tc := ⟨.hbm, 290, rfl⟩
abbrev main_v46 : Ref sig .tc := ⟨.hbm, 291, rfl⟩
abbrev main_v47 : Ref sig .tc := ⟨.hbm, 292, rfl⟩
abbrev main_cst_5 : Ref sig .tc := ⟨.hbm, 293, rfl⟩
abbrev main_v48 : Ref sig .tc := ⟨.hbm, 294, rfl⟩
abbrev main_v49 : Ref sig .tc := ⟨.hbm, 295, rfl⟩
abbrev main_v50 : Ref sig .tc := ⟨.hbm, 296, rfl⟩
abbrev main_call13_cst : Ref sig .tc := ⟨.hbm, 297, rfl⟩
abbrev main_call13_v0 : Ref sig .tc := ⟨.hbm, 298, rfl⟩
abbrev main_v51 : Ref sig .tc := ⟨.hbm, 299, rfl⟩
abbrev main_v52 : Ref sig .tc := ⟨.hbm, 300, rfl⟩
abbrev main_cst_6 : Ref sig .tc := ⟨.hbm, 301, rfl⟩
abbrev main_v53 : Ref sig .tc := ⟨.hbm, 302, rfl⟩
abbrev main_cst_7 : Ref sig .tc := ⟨.hbm, 303, rfl⟩
abbrev main_v54 : Ref sig .tc := ⟨.hbm, 304, rfl⟩

abbrev nD : Nat := 1
abbrev τ : Topo := Topo.v7x

variable {F : FTy → Type} [FloatOps F]
-- ==== Proof.Setup.lean ====
/-
  The program as the launch theorems see it, and the resource algebra: the handshakes' rounds (the SparseCore call),
  the pipelines' rounds (the two TensorCore calls), the counters of a tile's own transfers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

abbrev EH : Emb UH (MM F) := embL
abbrev EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

end Cert.Proof
-- ==== Proof.Mm.lean ====
/-
  The first TensorCore call: one grid point of its body, in each of the two phases.
-/
module

public import proofs.«01_k».proof.Proof.Setup
public import Idealize.ShloMosaic.Lib.WritesUnit
public import Idealize.ShloMosaic.Lib.VecWindow

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MM F

/-- A memref's buffer on the TensorCore of `c`, held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

open VecWindow (window)

/-- The block of rows the first phase makes, from a block of the first factor and the second factor. -/
def hidBlk (X : S400x10000.Idx → Elt F .f32) (W : S10000x128.Idx → Elt F .f32) : FVec F S400x128 .bf16 :=
  k0_pay1 (k0_pay3
    (window X ![0, 0] S400x2048.size inb_S400x10000_S400x2048_0_0) (window W ![0, 0] S2048x128.size inb_S10000x128_S2048x128_0_0)
    (window X ![0, 2048] S400x2048.size inb_S400x10000_S400x2048_0_2048) (window W ![2048, 0] S2048x128.size inb_S10000x128_S2048x128_2048_0)
    (window X ![0, 4096] S400x2048.size inb_S400x10000_S400x2048_0_4096) (window W ![4096, 0] S2048x128.size inb_S10000x128_S2048x128_4096_0)
    (window X ![0, 6144] S400x2048.size inb_S400x10000_S400x2048_0_6144) (window W ![6144, 0] S2048x128.size inb_S10000x128_S2048x128_6144_0)
    (window X ![0, 8192] S400x1808.size inb_S400x10000_S400x1808_0_8192) (window W ![8192, 0] S1808x128.size inb_S10000x128_S1808x128_8192_0))

/-- The block of rows the second phase makes, from a block of the first factor and the whole of what the first phase made. -/
def outBlk (X : S400x10000.Idx → Elt F .f32) (W : S10000x128.Idx → Elt F .bf16) : FVec F S400x128 .f32 :=
  k0_pay2
    (window X ![0, 0] S400x2048.size inb_S400x10000_S400x2048_0_0) (window W ![0, 0] S2048x128.size inb_S10000x128_S2048x128_0_0)
    (window X ![0, 2048] S400x2048.size inb_S400x10000_S400x2048_0_2048) (window W ![2048, 0] S2048x128.size inb_S10000x128_S2048x128_2048_0)
    (window X ![0, 4096] S400x2048.size inb_S400x10000_S400x2048_0_4096) (window W ![4096, 0] S2048x128.size inb_S10000x128_S2048x128_4096_0)
    (window X ![0, 6144] S400x2048.size inb_S400x10000_S400x2048_0_6144) (window W ![6144, 0] S2048x128.size inb_S10000x128_S2048x128_6144_0)
    (window X ![0, 8192] S400x1808.size inb_S400x10000_S400x1808_0_8192) (window W ![8192, 0] S1808x128.size inb_S10000x128_S1808x128_8192_0)

section
variable (c : Dev nD) (i : grid0.Coords)
  (M2 : Memref sig .tc .vmem S400x10000 .f32) (h2 : M2.IsWhole) (M3 : Memref sig .tc .vmem S10000x128 .f32) (h3 : M3.IsWhole)
  (M4 : Memref sig .tc .vmem S400x128 .f32) (h4 : M4.IsWhole) (M5 : Memref sig .tc .vmem S10000x128 .bf16) (h5 : M5.IsWhole)

/-- What the first phase leaves of the rows it does not store, and what it stores. -/
def Stored (o : ℕ) (B : FVec F S400x128 .bf16) (X Y : S10000x128.Idx → Elt F .bf16) : Prop :=
  (∀ (y : S10000x128.Idx) (x : S400x128.Idx), (∀ a, (y a).val = (![o, 0] : Fin 2 → ℕ) a + (x a).val) → Y y = B x)
    ∧ ∀ y : S10000x128.Idx, ((y 0).val < o ∨ o + 400 ≤ (y 0).val) → Y y = X y

theorem mm_first (hc1 : k0_cond1 i = 1#1) (hc2 : ¬ k0_cond2 i = 1#1) (o : ℕ) (ho : k0_off1 i = ![o, 0])
    (f2 : Bf (F := F) c M2) (f3 : Bf (F := F) c M3) (f4 : Bf (F := F) c M4) (f5 : Bf (F := F) c M5) (Q : PUnit → sProp 𝕄) :
    iprop(pt c M2 f2 ∗ pt c M3 f3 ∗ pt c M4 f4 ∗ pt c M5 f5
        ∗ ((∃ f5' : Bf (F := F) c M5, ⌜Stored o (hidBlk (M2.view.read (Elt F) f2) (M3.view.read (Elt F) f3)) (M5.view.read (Elt F) f5) (M5.view.read (Elt F) f5')⌝
            ∗ pt c M2 f2 ∗ pt c M3 f3 ∗ pt c M4 f4 ∗ pt c M5 f5') -∗ Q ⟨⟩))
      ⊢ wp frame (wpE (defs₀ (F := F)) Variants.none c none) Set.univ (cc0__mm_body i M2 h2 M3 h3 M4 h4 M5 h5) Q := by
  rw [cc0__mm_body_eq_skeleton]
  unfold cc0__mm_body_skel
  rw [dif_pos hc1, dif_neg hc2, k0_part1_eq_skeleton]
  unfold k0_part1_skel
  iintro ⟨H2, H3, H4, H5, Hk⟩
  sl_exec!
  sl_step
  iapply Hk
  iexists _
  isplitr; swap
  · isplitl [H2]; · iexact H2
    isplitl [H3]; · iexact H3
    isplitl [H4]; · iexact H4
    iexact H5
  ipureintro
  refine ⟨fun y x hx => ?_, fun y hy => ?_⟩
  · exact View.read_writes_cons_unit_of_mem M5.view f5 _ _ [] y x ho hx
  · exact View.read_writes_cons_unit_of_not_mem M5.view f5 _ _ [] y ho 0 hy

theorem mm_second (hc1 : ¬ k0_cond1 i = 1#1) (hc2 : k0_cond2 i = 1#1)
    (f2 : Bf (F := F) c M2) (f3 : Bf (F := F) c M3) (f4 : Bf (F := F) c M4) (f5 : Bf (F := F) c M5) (Q : PUnit → sProp 𝕄) :
    iprop(pt c M2 f2 ∗ pt c M3 f3 ∗ pt c M4 f4 ∗ pt c M5 f5
        ∗ ((∃ f4' : Bf (F := F) c M4, ⌜M4.view.read (Elt F) f4' = outBlk (M2.view.read (Elt F) f2) (M5.view.read (Elt F) f5)⌝
            ∗ pt c M2 f2 ∗ pt c M3 f3 ∗ pt c M4 f4' ∗ pt c M5 f5) -∗ Q ⟨⟩))
      ⊢ wp frame (wpE (defs₀ (F := F)) Variants.none c none) Set.univ (cc0__mm_body i M2 h2 M3 h3 M4 h4 M5 h5) Q := by
  rw [cc0__mm_body_eq_skeleton]
  unfold cc0__mm_body_skel
  rw [dif_neg hc1, dif_pos hc2]
  iintro ⟨H2, H3, H4, H5, Hk⟩
  sl_exec
  sl_step
  iapply Hk
  iexists _
  isplitr; swap
  · isplitl [H2]; · iexact H2
    isplitl [H3]; · iexact H3
    isplitl [H4]; · iexact H4
    iexact H5
  ipureintro
  funext y
  exact View.read_writes_cons_unit_of_mem M4.view f4 _ _ [] y y (off' := ![0, 0]) rfl fun a => by fin_cases a <;> simp
end

end Cert.Proof

end
-- ==== Proof.Region0.lean ====
/-
  The first TensorCore call: what its fifty grid points compute, its proof data, its body at every point, and the array
  it leaves.
-/
module

public import proofs.«01_k».proof.Proof.Mm
public import Idealize.ShloMosaic.Lib.ValueIdxCore
public import Idealize.ShloMosaic.Lib.Pipeline.ValueKit

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MM F

/-- The `b`-th block of four hundred rows. -/
def blkA (A : S10000x10000.Idx → Elt F .f32) (b : ℕ) : S400x10000.Idx → Elt F .f32 := fun y =>
  A (ix2 ⟨(400 * b + (y 0).val) % 10000, Nat.mod_lt _ (by decide)⟩ ⟨(y 1).val, (y 1).isLt⟩)

/-- The hidden layer the first phase leaves in the scratch buffer. -/
def hidF (A : S10000x10000.Idx → Elt F .f32) (W : S10000x128.Idx → Elt F .f32) : S10000x128.Idx → Elt F .bf16 := fun y =>
  hidBlk (blkA A ((y 0).val / 400)) W (ix2 ⟨(y 0).val % 400, Nat.mod_lt _ (by decide)⟩ ⟨(y 1).val, (y 1).isLt⟩)

/-- The rows the second phase writes. -/
def outF (A : S10000x10000.Idx → Elt F .f32) (W : S10000x128.Idx → Elt F .f32) : S10000x128.Idx → Elt F .f32 := fun y =>
  outBlk (blkA A ((y 0).val / 400)) (hidF A W) (ix2 ⟨(y 0).val % 400, Nat.mod_lt _ (by decide)⟩ ⟨(y 1).val, (y 1).isLt⟩)

/-- The scratch buffer before grid point `n`: the rows of the blocks stored so far. -/
def Upto (A : S10000x10000.Idx → Elt F .f32) (W : S10000x128.Idx → Elt F .f32) (n : ℕ) (f : S10000x128.Idx → Elt F .bf16) : Prop :=
  ∀ y : S10000x128.Idx, (y 0).val < 400 * min n 25 → f y = hidF A W y

theorem upto_step {A : S10000x10000.Idx → Elt F .f32} {W : S10000x128.Idx → Elt F .f32} {n : ℕ} (hn : n < 25) {f g : S10000x128.Idx → Elt F .bf16}
    (hf : Upto A W n f) (hs : Stored (400 * n) (hidBlk (blkA A n) W) f g) : Upto A W (n + 1) g := by
  intro y hy
  have e1 : min (n + 1) 25 = n + 1 := by omega
  have e0 : min n 25 = n := by omega
  rw [e1] at hy
  by_cases hl : (y 0).val < 400 * n
  · rw [hs.2 y (.inl hl)]
    exact hf y (by rw [e0]; exact hl)
  · have hq : (y 0).val / 400 = n := by omega
    unfold hidF
    rw [hq]
    exact hs.1 y _ fun a => by
      fin_cases a
      · show (y 0).val = 400 * n + (y 0).val % 400; omega
      · show (y 1).val = 0 + (y 1).val; omega

theorem upto_all {A : S10000x10000.Idx → Elt F .f32} {W : S10000x128.Idx → Elt F .f32} {n : ℕ} (hn : 25 ≤ n) {f : S10000x128.Idx → Elt F .bf16}
    (hf : Upto A W n f) : f = hidF A W := by
  funext y
  refine hf y ?_
  have := (y 0).isLt
  have h : (y 0).val < 10000 := this
  omega

theorem upto_hid (A : S10000x10000.Idx → Elt F .f32) (W : S10000x128.Idx → Elt F .f32) (n : ℕ) : Upto A W n (hidF A W) := fun _ _ => rfl

/-! ## The proof data -/

variable (V : (c : Dev nD) → (b : Ref sig .tc) → Buf (Elt F) ((c : Thread nD τ).loc b))

/-- The two input arrays, as the region finds them. -/
abbrev arrA (c : Dev nD) : S10000x10000.Idx → Elt F .f32 := V c main_arg1
abbrev arrW (c : Dev nD) : S10000x128.Idx → Elt F .f32 := V c main_arg2

/-- The other call's staging buffers, which this one does not touch. -/
abbrev others0 (c : Dev nD) : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f))

/-- The invariant before point `n`. -/
def Phi0 (c : Dev nD) (n : ℕ) : sProp 𝕄 :=
  iprop((∃ f : Bf (F := F) c (Memref.whole cc0_scratch0), ⌜Upto (arrA V c) (arrW V c) n f⌝ ∗ pt c (Memref.whole cc0_scratch0) f) ∗ others0 c)

/-- The call's proof data, from the arrays as the valuation has them, run while the core still owes its debts `O` with
    recorded waits within `B`. -/
def dat0 (O : CellTallies nD τ sig (HIx 1)) (B : Set (SemLoc sig × HIx 1)) (c : Dev nD) : Dat τ (Elt F) (HIx 1) ℕ UU ℕ cfg0 c where
  A w := V c (Pipeline.arrRef spec0 w)
  after w t := match w with
    | ⟨0, _⟩ => blkA (arrA V c) (t.val % 25)
    | ⟨1, _⟩ => arrW V c
    | ⟨2, _⟩ => outBlk (blkA (arrA V c) (t.val % 25)) (hidF (arrA V c) (arrW V c))
  Φ t := Phi0 V c t.val
  q _ := fullShare
  owed _ := O
  recorded _ := B

theorem owns_isWhole {c : Thread nD τ} {sp : Space} {sh : Shape} {e : EltTy} {m : Memref sig c.2.kind sp sh e} (hw : m.IsWhole)
    (q : PosShare TreeShare) (X : sh.Idx → Elt F e) :
    (owns c m q X : sProp 𝕄) = iprop(∃ f : Buf (Elt F) (m.view.loc c), ⌜m.view.read (Elt F) f = X⌝ ∗ (m.view.loc c) ↦{q} f) := by
  obtain ⟨b, hsp, hsh, he, h⟩ := hw
  subst hsp hsh he
  cases h
  rw [owns_whole_eq]
  rfl

/-- The two phases, by grid point. -/
theorem phases : ∀ t : Fin cfg0.N,
    (t.val < 25 ∧ k0_cond1 (grid0.coords t) = 1#1 ∧ ¬ k0_cond2 (grid0.coords t) = 1#1 ∧ cfg0.idle 2 (grid0.coords t) = true
      ∧ (cfg0.win 2).flush t = false ∧ k0_off1 (grid0.coords t) = ![400 * t.val, 0])
    ∨ (25 ≤ t.val ∧ ¬ k0_cond1 (grid0.coords t) = 1#1 ∧ k0_cond2 (grid0.coords t) = 1#1 ∧ cfg0.idle 2 (grid0.coords t) = false) := by
  decide +kernel

theorem index0_0 : ∀ t : Fin cfg0.N, win0_0.index t = ![t.val % 25, 0] := by decide +kernel
theorem index0_1 : ∀ t : Fin cfg0.N, win0_1.index t = ![0, 0] := by decide +kernel
theorem index0_2 : ∀ t : Fin cfg0.N, (cfg0.win 2).flush t = true → win0_2.index t = ![t.val % 25, 0] := by decide +kernel

variable (O : CellTallies nD τ sig (HIx 1)) (B : Set (SemLoc sig × HIx 1))

theorem fetched0_0 (c : Dev nD) (t : Fin cfg0.N) (d : (cfg0.win 0).block.Idx → Elt F (cfg0.win 0).elt) :
    (dat0 V O B c).before 0 t d = blkA (arrA V c) (t.val % 25) := by
  rw [(dat0 V O B c).before_fetched 0 t (fetch0_0 t) d]
  funext y
  show ((cfg0.win 0).blk t).view.read (Elt F) (V c main_arg1) y = _
  blk_simp
  unfold blkA
  congr 1
  funext a
  apply Fin.ext
  have h0 : (y 0).val < 400 := (y 0).isLt
  have hN : t.val % 25 < 25 := Nat.mod_lt _ (by decide)
  match a with
  | ⟨0, _⟩ =>
    show (((cfg0.win 0).blk t).view.emb y 0 : ℕ) = (400 * (t.val % 25) + (y 0).val) % 10000
    blk_simp [index0_0]
    omega
  | ⟨1, _⟩ =>
    show (((cfg0.win 0).blk t).view.emb y 1 : ℕ) = (y 1).val
    blk_simp [index0_0]

theorem fetched0_1 (c : Dev nD) (t : Fin cfg0.N) (d : (cfg0.win 1).block.Idx → Elt F (cfg0.win 1).elt) :
    (dat0 V O B c).before 1 t d = arrW V c := by
  have hb : ∀ t : Fin cfg0.N, ((cfg0.win 1).blk t).view.read (Elt F) (V c main_arg2) = arrW V c := fun t => by
    funext y
    blk_simp
    congr 1
    funext a
    apply Fin.ext
    match a with
    | ⟨0, _⟩ =>
      show (((cfg0.win 1).blk t).view.emb y 0 : ℕ) = (y 0).val
      blk_simp [index0_1]
    | ⟨1, _⟩ =>
      show (((cfg0.win 1).blk t).view.emb y 1 : ℕ) = (y 1).val
      blk_simp [index0_1]
  rw [(dat0 V O B c).before_in_eq_fetched 1 rfl (fun _ => rfl) (fun _ _ _ => rfl) (fun t => (hb t).symm) t d]
  exact hb t

theorem body0 (c : Dev nD) : BodyObligation (dat0 V O B c) (defs₀ (F := F)) Variants.none (default : HIx 1) Set.univ := fun t => by
  rw [bigSep_W0, bigSep_W0]
  have hw0 : (win0_0.stage (cfg0.slots t 0)).IsWhole := hstage0_0 ((cfg0.slots t 0).cast nbuf0_0)
  have hw1 : (win0_1.stage (cfg0.slots t 1)).IsWhole := hstage0_1 ((cfg0.slots t 1).cast nbuf0_1)
  have hw2 : (win0_2.stage (cfg0.slots t 2)).IsWhole := hstage0_2 ((cfg0.slots t 2).cast nbuf0_2)
  have i0 : cfg0.idle 0 (cfg0.grid.coords t) = false := rfl
  have i1 : cfg0.idle 1 (cfg0.grid.coords t) = false := rfl
  have hp : (dat0 V O B c).Φ t.castSucc = Phi0 V c t.val := rfl
  have hp' : (dat0 V O B c).Φ t.succ = Phi0 V c (t.val + 1) := rfl
  have ho : (dat0 V O B c).owesAt (default : HIx 1) t.succ = (dat0 V O B c).owesAt default t.castSucc := rfl
  have hb : defs₀ (F := F) .tc cfg0.body (cfg0.bodyArgs t (cfg0.slots t)) = bodyAt0 t := rfl
  have hO0 : ∀ X, (owns (c : Thread nD τ) ((cfg0.win 0).stage (cfg0.slots t 0)) fullShare X : sProp 𝕄)
      = iprop(∃ f : Bf (F := F) c (win0_0.stage (cfg0.slots t 0)), ⌜(win0_0.stage (cfg0.slots t 0)).view.read (Elt F) f = X⌝ ∗ pt c (win0_0.stage (cfg0.slots t 0)) f) :=
    fun X => owns_isWhole hw0 _ X
  have hO1 : ∀ X, (owns (c : Thread nD τ) ((cfg0.win 1).stage (cfg0.slots t 1)) fullShare X : sProp 𝕄)
      = iprop(∃ f : Bf (F := F) c (win0_1.stage (cfg0.slots t 1)), ⌜(win0_1.stage (cfg0.slots t 1)).view.read (Elt F) f = X⌝ ∗ pt c (win0_1.stage (cfg0.slots t 1)) f) :=
    fun X => owns_isWhole hw1 _ X
  have hO2 : ∀ X, (owns (c : Thread nD τ) ((cfg0.win 2).stage (cfg0.slots t 2)) fullShare X : sProp 𝕄)
      = iprop(∃ f : Bf (F := F) c (win0_2.stage (cfg0.slots t 2)), ⌜(win0_2.stage (cfg0.slots t 2)).view.read (Elt F) f = X⌝ ∗ pt c (win0_2.stage (cfg0.slots t 2)) f) :=
    fun X => owns_isWhole hw2 _ X
  have hA0 : (dat0 V O B c).after 0 t = blkA (arrA V c) (t.val % 25) := rfl
  have hA1 : (dat0 V O B c).after 1 t = arrW V c := rfl
  have hA2 : (dat0 V O B c).after 2 t = outBlk (blkA (arrA V c) (t.val % 25)) (hidF (arrA V c) (arrW V c)) := rfl
  rcases phases t with ⟨ht, hc1, hc2, hi, hfl, hoff⟩ | ⟨ht, hc1, hc2, hi⟩
  · have hmod : t.val % 25 = t.val := Nat.mod_eq_of_lt ht
    have i2 : idle0 2 (grid0.coords t) = true := hi
    simp only [i0, i1, i2, hfl, hp, hp', ho, hb]
    simp only [fetched0_0, fetched0_1, hA0, hA1]
    simp only [hO0, hO1, hO2, hmod]
    unfold Phi0
    iintro ⟨⟨⟨%f5, %hf5, H5⟩, Hoth⟩, Howes, ⟨%d0, %f0, %hf0, H0⟩, ⟨%d1, %f1, %hf1, H1⟩, ⟨%d2, %f2, %hf2, H2⟩⟩
    iapply (mm_first c (grid0.coords t) (win0_0.stage (cfg0.slots t 0)) hw0 (win0_1.stage (cfg0.slots t 1)) hw1 (win0_2.stage (cfg0.slots t 2)) hw2
      (Memref.whole cc0_scratch0) (Memref.isWhole_whole _) hc1 hc2 (400 * t.val) hoff f0 f1 f2 f5 _)
    isplitl [H0]; · iexact H0
    isplitl [H1]; · iexact H1
    isplitl [H2]; · iexact H2
    isplitl [H5]; · iexact H5
    iintro ⟨%g5, %hs, H0, H1, H2, H5⟩
    rw [hf0, hf1] at hs
    isplitl [H5 Hoth]
    · isplitl [H5]
      · iexists g5
        isplitr; · ipureintro; exact upto_step ht hf5 hs
        iexact H5
      iexact Hoth
    isplitl [Howes]; · iexact Howes
    isplitl [H0]; · iexists f0; isplitr; · ipureintro; exact hf0
                    iexact H0
    isplitl [H1]; · iexists f1; isplitr; · ipureintro; exact hf1
                    iexact H1
    iexists d2, f2
    isplitr; · ipureintro; exact hf2
    iexact H2
  · have i2 : idle0 2 (grid0.coords t) = false := hi
    simp only [i0, i1, i2, hp, hp', ho, hb]
    simp only [fetched0_0, fetched0_1, hA0, hA1, hA2]
    simp only [hO0, hO1, hO2]
    unfold Phi0
    iintro ⟨⟨⟨%f5, %hf5, H5⟩, Hoth⟩, Howes, ⟨%d0, %f0, %hf0, H0⟩, ⟨%d1, %f1, %hf1, H1⟩, ⟨%d2, %f2, %hf2, H2⟩⟩
    iapply (mm_second c (grid0.coords t) (win0_0.stage (cfg0.slots t 0)) hw0 (win0_1.stage (cfg0.slots t 1)) hw1 (win0_2.stage (cfg0.slots t 2)) hw2
      (Memref.whole cc0_scratch0) (Memref.isWhole_whole _) hc1 hc2 f0 f1 f2 f5 _)
    isplitl [H0]; · iexact H0
    isplitl [H1]; · iexact H1
    isplitl [H2]; · iexact H2
    isplitl [H5]; · iexact H5
    iintro ⟨%g2, %hs, H0, H1, H2, H5⟩
    obtain rfl : f5 = hidF (arrA V c) (arrW V c) := upto_all ht hf5
    rw [hf0] at hs
    isplitl [H5 Hoth]
    · isplitl [H5]
      · iexists _
        isplitr; swap; · iexact H5
        ipureintro; exact upto_hid _ _ _
      iexact Hoth
    isplitl [Howes]; · iexact Howes
    isplitl [H0]; · iexists f0; isplitr; · ipureintro; exact hf0
                    iexact H0
    isplitl [H1]; · iexists f1; isplitr; · ipureintro; exact hf1
                    iexact H1
    iexists g2
    isplitr; · ipureintro; exact hs
    iexact H2

/-- The array the call leaves. -/
theorem out0 (c : Dev nD) : (dat0 V O B c).arrAt 2 cfg0.N = outF (arrA V c) (arrW V c) := by
  refine (dat0 V O B c).arrAt_eq_of_covers 2 _ (by decide +kernel) fun t hf y => ?_
  have h0 : (y 0).val < 400 := (y 0).isLt
  have hN : t.val % 25 < 25 := Nat.mod_lt _ (by decide)
  have e0 : (((cfg0.win 2).blk t).view.emb y 0 : ℕ) = 400 * (t.val % 25) + (y 0).val := by
    blk_simp [index0_2 t hf]
    omega
  have e1 : (((cfg0.win 2).blk t).view.emb y 1 : ℕ) = (y 1).val := by
    blk_simp [index0_2 t hf]
  show outBlk (blkA (arrA V c) (t.val % 25)) (hidF (arrA V c) (arrW V c)) y = outF (arrA V c) (arrW V c) (((cfg0.win 2).blk t).view.emb y)
  unfold outF
  rw [show (((cfg0.win 2).blk t).view.emb y 0 : ℕ) / 400 = t.val % 25 by omega]
  congr 1
  funext a
  apply Fin.ext
  match a with
  | ⟨0, _⟩ => show (y 0).val = (((cfg0.win 2).blk t).view.emb y 0 : ℕ) % 400; omega
  | ⟨1, _⟩ => exact e1.symm

end Cert.Proof
-- ==== Proof.Comb.lean ====
/-
  The second TensorCore call: the body of its one grid point.
-/
module

public import proofs.«01_k».proof.Proof.Mm

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MM F

/-- The number the call makes of the two arrays of gathered rows. -/
def combV (A B : S13056x128.Idx → Elt F .f32) : F .f32 :=
  k2_pay1 (k2_pay2 A B) (k2_pay3 A B) (k2_pay7 (k2_pay2 A B) (k2_pay3 A B) (k2_pay4 A B) (k2_pay5 A B) (k2_pay6 A B))
    (k2_pay8 (k2_pay2 A B) (k2_pay3 A B))

theorem readAt_all {sp : Space} (v : View sig .tc sp S13056x128 .f32) (f : v.ty.Contents (Elt F)) :
    v.readAt (Elt F) (Rect.unit (s := S13056x128) ![0, 0] S13056x128.size inb_S13056x128_S13056x128_0_0).toLoadRect f = v.read (Elt F) f := by
  funext y
  rw [View.readAt_apply]
  congr 1
  funext a
  apply Fin.ext
  show (![0, 0] : Fin 2 → ℕ) a + 1 * (y a).val = (y a).val
  fin_cases a <;> simp

theorem combine_wp (c : Dev nD) (M0 : Memref sig .tc .vmem S13056x128 .f32) (h0 : M0.IsWhole) (M1 : Memref sig .tc .vmem S13056x128 .f32) (h1 : M1.IsWhole)
    (M2 : Memref sig .tc .smem S_ .f32) (h2 : M2.IsWhole) (f0 : Bf (F := F) c M0) (f1 : Bf (F := F) c M1) (f2 : Bf (F := F) c M2) (Q : PUnit → sProp 𝕄) :
    iprop(pt c M0 f0 ∗ pt c M1 f1 ∗ pt c M2 f2
        ∗ ((∃ f2' : Bf (F := F) c M2, ⌜M2.view.read (Elt F) f2' = fun _ => combV (M0.view.read (Elt F) f0) (M1.view.read (Elt F) f1)⌝
            ∗ pt c M0 f0 ∗ pt c M1 f1 ∗ pt c M2 f2') -∗ Q ⟨⟩))
      ⊢ wp frame (wpE (defs₀ (F := F)) Variants.none c none) Set.univ (cc2__combine_body M0 h0 M1 h1 M2 h2) Q := by
  rw [cc2__combine_body_eq_skeleton]
  unfold cc2__combine_body_skel
  rw [k2_part1_eq_skeleton, k2_part2_eq_skeleton]
  unfold k2_part1_skel k2_part2_skel
  iintro ⟨H0, H1, H2, Hk⟩
  sl_exec
  sl_step
  iapply Hk
  iexists _
  isplitr; swap
  · isplitl [H0]; · iexact H0
    isplitl [H1]; · iexact H1
    iexact H2
  ipureintro
  funext y
  refine (View.read_writes_cons_unit_of_mem M2.view f2 _ _ [] y y (off' := ![]) rfl fun a => a.elim0).trans ?_
  rw [readAt_all M0.view f0, readAt_all M1.view f1]
  rfl

end Cert.Proof

end
-- ==== Proof.Regions.lean ====
/-
  The two TensorCore calls as regions of the program: the second call's proof data, and each call entered from every
  unscoped buffer at a valuation and left with its own result written.
-/
module

public import proofs.«01_k».proof.Proof.Region0
public import proofs.«01_k».proof.Proof.Comb

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MM F

variable (V : (c : Dev nD) → (b : Ref sig .tc) → Buf (Elt F) ((c : Thread nD τ).loc b))
variable (O : Dev nD → CellTallies nD τ sig (HIx 1)) (b : ℕ)

/-- Recorded waits at or below level `b`. -/
def recB (c : Dev nD) (b : ℕ) : Set (SemLoc sig × HIx 1) := {p | (K (F := F)).lev ((c : Thread nD τ), p.1) p.2 ≤ b}

abbrev arrX (c : Dev nD) : S13056x128.Idx → Elt F .f32 := V c main_v24_0
abbrev arrY (c : Dev nD) : S13056x128.Idx → Elt F .f32 := V c main_v24_1

def dat1 (O : CellTallies nD τ sig (HIx 1)) (B : Set (SemLoc sig × HIx 1)) (c : Dev nD) : Dat τ (Elt F) (HIx 1) ℕ UU ℕ cfg2 c where
  A w := V c (Pipeline.arrRef spec2 w)
  after w _ := match w with
    | ⟨0, _⟩ => arrX V c
    | ⟨1, _⟩ => arrY V c
    | ⟨2, _⟩ => fun _ => combV (arrX V c) (arrY V c)
  Φ _ := Pipeline.scopedRest (Ix := HIx 1) (Name := ℕ) (U := UU) (Lvl := ℕ) (Val := Elt F) spec2 c
  q _ := fullShare
  owed _ := O
  recorded _ := B

theorem fetched2_0 (O : CellTallies nD τ sig (HIx 1)) (B) (c : Dev nD) (d : (cfg2.win 0).block.Idx → Elt F (cfg2.win 0).elt) :
    (dat1 V O B c).before 0 t2_0 d = arrX V c := by
  rw [(dat1 V O B c).before_fetched 0 t2_0 (by decide) d]
  show ((cfg2.win 0).blk t2_0).view.read (Elt F) (V c main_v24_0) = _
  funext y
  blk_simp
  congr 1
  funext a
  apply Fin.ext
  match a with
  | ⟨0, _⟩ =>
    show (((cfg2.win 0).blk t2_0).view.emb y 0 : ℕ) = (y 0).val
    blk_simp [show win2_0.index t2_0 = ![0, 0] by decide]
  | ⟨1, _⟩ =>
    show (((cfg2.win 0).blk t2_0).view.emb y 1 : ℕ) = (y 1).val
    blk_simp [show win2_0.index t2_0 = ![0, 0] by decide]

theorem fetched2_1 (O : CellTallies nD τ sig (HIx 1)) (B) (c : Dev nD) (d : (cfg2.win 1).block.Idx → Elt F (cfg2.win 1).elt) :
    (dat1 V O B c).before 1 t2_0 d = arrY V c := by
  rw [(dat1 V O B c).before_fetched 1 t2_0 (by decide) d]
  show ((cfg2.win 1).blk t2_0).view.read (Elt F) (V c main_v24_1) = _
  funext y
  blk_simp
  congr 1
  funext a
  apply Fin.ext
  match a with
  | ⟨0, _⟩ =>
    show (((cfg2.win 1).blk t2_0).view.emb y 0 : ℕ) = (y 0).val
    blk_simp [show win2_1.index t2_0 = ![0, 0] by decide]
  | ⟨1, _⟩ =>
    show (((cfg2.win 1).blk t2_0).view.emb y 1 : ℕ) = (y 1).val
    blk_simp [show win2_1.index t2_0 = ![0, 0] by decide]

theorem body1 (O : CellTallies nD τ sig (HIx 1)) (B) (c : Dev nD) :
    BodyObligation (dat1 V O B c) (defs₀ (F := F)) Variants.none (default : HIx 1) Set.univ := fun t => by
  obtain rfl := fin_N2 t
  rw [bigSep_W2, bigSep_W2]
  have hw0 : (win2_0.stage (cfg2.slots t2_0 0)).IsWhole := hstage2_0 0
  have hw1 : (win2_1.stage (cfg2.slots t2_0 1)).IsWhole := hstage2_1 0
  have hw2 : (win2_2.stage (cfg2.slots t2_0 2)).IsWhole := hstage2_2 0
  have ho : (dat1 V O B c).owesAt (default : HIx 1) t2_0.succ = (dat1 V O B c).owesAt default t2_0.castSucc := rfl
  have hp : (dat1 V O B c).Φ t2_0.succ = (dat1 V O B c).Φ t2_0.castSucc := rfl
  have hb : defs₀ (F := F) .tc cfg2.body (cfg2.bodyArgs t2_0 (cfg2.slots t2_0)) = bodyAt2 t2_0 := rfl
  have hO0 : ∀ X, (owns (c : Thread nD τ) ((cfg2.win 0).stage (cfg2.slots t2_0 0)) fullShare X : sProp 𝕄)
      = iprop(∃ f : Bf (F := F) c (win2_0.stage (cfg2.slots t2_0 0)), ⌜(win2_0.stage (cfg2.slots t2_0 0)).view.read (Elt F) f = X⌝ ∗ pt c (win2_0.stage (cfg2.slots t2_0 0)) f) :=
    fun X => owns_isWhole hw0 _ X
  have hO1 : ∀ X, (owns (c : Thread nD τ) ((cfg2.win 1).stage (cfg2.slots t2_0 1)) fullShare X : sProp 𝕄)
      = iprop(∃ f : Bf (F := F) c (win2_1.stage (cfg2.slots t2_0 1)), ⌜(win2_1.stage (cfg2.slots t2_0 1)).view.read (Elt F) f = X⌝ ∗ pt c (win2_1.stage (cfg2.slots t2_0 1)) f) :=
    fun X => owns_isWhole hw1 _ X
  have hO2 : ∀ X, (owns (c : Thread nD τ) ((cfg2.win 2).stage (cfg2.slots t2_0 2)) fullShare X : sProp 𝕄)
      = iprop(∃ f : Bf (F := F) c (win2_2.stage (cfg2.slots t2_0 2)), ⌜(win2_2.stage (cfg2.slots t2_0 2)).view.read (Elt F) f = X⌝ ∗ pt c (win2_2.stage (cfg2.slots t2_0 2)) f) :=
    fun X => owns_isWhole hw2 _ X
  have hA0 : (dat1 V O B c).after 0 t2_0 = arrX V c := rfl
  have hA1 : (dat1 V O B c).after 1 t2_0 = arrY V c := rfl
  have hA2 : (dat1 V O B c).after 2 t2_0 = fun _ => combV (arrX V c) (arrY V c) := rfl
  simp only [hp, ho, hb]
  simp only [fetched2_0, fetched2_1, hA0, hA1, hA2]
  simp only [hO0, hO1, hO2]
  iintro ⟨HΦ, Howes, ⟨%d0, %f0, %hf0, H0⟩, ⟨%d1, %f1, %hf1, H1⟩, ⟨%d2, %f2, %hf2, H2⟩⟩
  iapply (combine_wp c (win2_0.stage (cfg2.slots t2_0 0)) hw0 (win2_1.stage (cfg2.slots t2_0 1)) hw1 (win2_2.stage (cfg2.slots t2_0 2)) hw2 f0 f1 f2 _)
  isplitl [H0]; · iexact H0
  isplitl [H1]; · iexact H1
  isplitl [H2]; · iexact H2
  iintro ⟨%g2, %hs, H0, H1, H2⟩
  rw [hf0, hf1] at hs
  isplitl [HΦ]; · iexact HΦ
  isplitl [Howes]; · iexact Howes
  isplitl [H0]; · iexists f0; isplitr; · ipureintro; exact hf0
                  iexact H0
  isplitl [H1]; · iexists f1; isplitr; · ipureintro; exact hf1
                  iexact H1
  iexists g2
  isplitr; · ipureintro; exact hs
  iexact H2

theorem out1 (O : CellTallies nD τ sig (HIx 1)) (B) (c : Dev nD) :
    (dat1 V O B c).arrAt 2 cfg2.N = fun _ => combV (arrX V c) (arrY V c) := by
  refine (dat1 V O B c).arrAt_eq_of_covers 2 _ (by decide +kernel) fun t hf y => ?_
  rfl

/-! ## The regions -/

variable (adm : (p : Fin 2) → (pcfgs (F := F) p).Adm)

def pdats : (p : Fin 2) → (c : Dev nD) → Dat τ (Elt F) (HIx 1) ℕ UU ℕ (Pipeline.pin (pcfgs (F := F)) adm p) c
  | ⟨0, _⟩ => fun c => dat0 V (O c) (recB (F := F) c b) c
  | ⟨1, _⟩ => fun c => dat1 V (O c) (recB (F := F) c b) c

variable (Vp : (c : Dev nD) → (b : Ref sig .tc) → Buf (Elt F) ((c : Thread nD τ).loc b))

/-- What a region is entered from and left to: every unscoped buffer at a valuation, and the core's debts. -/
abbrev regSt (c : Dev nD) : sProp 𝕄 :=
  iprop(unscopedBufs c (V c) ∗ ∃ W, ⌜(K (F := F)).WBelow (c : Thread nD τ) W b⌝ ∗ owes (c : Thread nD τ) (O c) W)

theorem bound_le {cfg : Cfg sig Λ₀} {c : Dev nD} (dat : Dat τ (Elt F) (HIx 1) ℕ UU ℕ cfg c) (t : Fin (cfg.N + 1)) (hr : dat.recorded t = recB (F := F) c b)
    {W : Waits sig (HIx 1)} (h : ↑W ⊆ dat.bound (default : HIx 1) t) : (K (F := F)).WBelow (c : Thread nD τ) W b := by
  intro p hp
  rcases h hp with h | ⟨w, s, rfl⟩
  · rw [hr] at h; exact h
  · exact Nat.zero_le _

set_option backward.isDefEq.respectTransparency.types false in
def reg0 (hO : ∀ c g, O c g none = 0) (hVp_out : ∀ c, Vp c main_v0 = outF (arrA V c) (arrW V c))
    (hVp_ne : ∀ c (r : Ref sig .tc), r ≠ main_v0 → Vp c r = V c r) :
    Pipeline.RegionSeg (pcfgs (F := F)) adm (pdats V O b adm) (default : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body0 V (O c) _ c).loose
  hwaits c := Pipeline.cellsWaits_intro _ _ _ _ _ fun w s t => (K (F := F)).mayWait_none _ (hO c)
  pre c := regSt V O b c
  post c := regSt Vp O b c
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V O b adm) launch0.win launch0.arr_whole c
      ((pdats V O b adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V O b adm 0 c).Φ 0 = Phi0 V c 0 from rfl]
    unfold Phi0
    iintro ⟨-, -, Hr⟩
    ihave Hr := (show _ ⊢ (_ : sProp 𝕄) from (scopedRest0_eq (Ix := HIx 1) (Name := ℕ) (U := UU) (Lvl := ℕ) (Val := Elt F) c).le) $$ Hr
    icases Hr with ⟨⟨%f, Hf⟩, Hoth⟩
    isplitl [Hf]
    · iexists f; isplitr; · ipureintro; exact fun y hy => absurd hy (Nat.not_lt_zero _)
      iexact Hf
    iexact Hoth
  hout c := by
    rw [Pipeline.ownSems0_none, show (pdats V O b adm 0 c).Φ (Fin.last _) = Phi0 V c cfg0.N from rfl]
    unfold Phi0
    iintro ⟨⟨%f, -, Hf⟩, Hoth⟩
    isplitr; · iempintro
    isplitr; · iempintro
    iapply (show _ ⊢ (_ : sProp 𝕄) from (scopedRest0_eq (Ix := HIx 1) (Name := ℕ) (U := UU) (Lvl := ℕ) (Val := Elt F) c).ge)
    isplitl [Hf]; · iexists f; iexact Hf
    iexact Hoth
  hexit c := by
    have hjoin := Pipeline.unscopedBufs_of_arrays (p := 0) (pcfgs (F := F)) adm (Ix := HIx 1) (Name := ℕ) (U := UU) (Lvl := ℕ) launch0.win launch0.arr_whole c
      (pdats V O b adm) ((pdats V O b adm 0 c).share_full fun _ => rfl) (V c) (Vp c) ((pdats V O b adm 0 c).arrAt · cfg0.N)
      (fun w => by
        fin_cases w
        · exact ((pdats V O b adm 0 c).arrAt_in 0 rfl _).trans (hVp_ne c main_arg1 (by decide)).symm
        · exact ((pdats V O b adm 0 c).arrAt_in 1 rfl _).trans (hVp_ne c main_arg2 (by decide)).symm
        · exact (out0 V (O c) _ c).trans (hVp_out c).symm)
      (fun r hb => hVp_ne c r fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; · ipureintro; exact bound_le b (dat0 V (O c) (recB (F := F) c b) c) _ rfl hW
    iexact HO

set_option backward.isDefEq.respectTransparency.types false in
def reg1 (hO : ∀ c g, O c g none = 0) (hVp_out : ∀ c, Vp c main_v25 = fun _ => combV (arrX V c) (arrY V c))
    (hVp_ne : ∀ c (r : Ref sig .tc), r ≠ main_v25 → Vp c r = V c r) :
    Pipeline.RegionSeg (pcfgs (F := F)) adm (pdats V O b adm) (default : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body1 V (O c) _ c).loose
  hwaits c := Pipeline.cellsWaits_intro _ _ _ _ _ fun w s t => (K (F := F)).mayWait_none _ (hO c)
  pre c := regSt V O b c
  post c := regSt Vp O b c
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V O b adm) launch2.win launch2.arr_whole c
      ((pdats V O b adm 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V O b adm 1 c).Φ 0 = Pipeline.scopedRest (Ix := HIx 1) (Name := ℕ) (U := UU) (Lvl := ℕ) (Val := Elt F) spec2 c from rfl]
    iintro ⟨-, -, Hr⟩
    iexact Hr
  hout c := by
    rw [Pipeline.ownSems0_none, show (pdats V O b adm 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V O b adm) ((pdats V O b adm 1 c).share_full fun _ => rfl) (V c) (Vp c) ((pdats V O b adm 1 c).arrAt · cfg2.N)
      (fun w => by
        fin_cases w
        · exact ((pdats V O b adm 1 c).arrAt_in 0 rfl _).trans (hVp_ne c main_v24_0 (by decide)).symm
        · exact ((pdats V O b adm 1 c).arrAt_in 1 rfl _).trans (hVp_ne c main_v24_1 (by decide)).symm
        · exact (out1 V (O c) _ c).trans (hVp_out c).symm)
      (fun r hb => hVp_ne c r fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; · ipureintro; exact bound_le b (dat1 V (O c) (recB (F := F) c b) c) _ rfl hW
    iexact HO

end Cert.Proof
-- ==== Proof.Host.lean ====
/- The host operations between the first matrix call and the gather: the list they make, which arrays it writes, and the
   contents of the arrays along the whole run. -/
module

public import proofs.«01_k».proof.Proof.Regions
public import Idealize.ShloMosaic.Lib.Pipeline.Frame

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (seq seqK after tcRefs devRef_mem_tcRefs)
open Idealize.ShloMosaic.Rounds

variable {F : FTy → Type} [FloatOps F]

/-- The host operations, in order. -/
def hostOps : List (HloOp τ sig (Elt F)) :=
  [StableHlo.unary main_arg5 main_v1 (broadcastInDim S1x5000 ![1] bcast_S5000_S1x5000_1 : (⟨S5000, .i32⟩ : BufTy).Contents (Elt F) → (⟨S1x5000, .i32⟩ : BufTy).Contents (Elt F)),
    StableHlo.unary main_arg6 main_v2 (broadcastInDim S1x5000 ![1] bcast_S5000_S1x5000_1 : (⟨S5000, .i32⟩ : BufTy).Contents (Elt F) → (⟨S1x5000, .i32⟩ : BufTy).Contents (Elt F)),
    StableHlo.unary main_arg7 main_v3 (broadcastInDim S1x5000 ![1] bcast_S5000_S1x5000_1 : (⟨S5000, .i32⟩ : BufTy).Contents (Elt F) → (⟨S1x5000, .i32⟩ : BufTy).Contents (Elt F)),
    StableHlo.unary main_arg8 main_v4 (broadcastInDim S1x5000 ![1] bcast_S5000_S1x5000_1 : (⟨S5000, .i32⟩ : BufTy).Contents (Elt F) → (⟨S1x5000, .i32⟩ : BufTy).Contents (Elt F)),
    StableHlo.nary ![main_v1, main_v2, main_v3, main_v4] main_v5 (fun u => (concatenate S4x5000 0 [⟨S1x5000, (u 0 : (⟨S1x5000, .i32⟩ : BufTy).Contents (Elt F))⟩, ⟨S1x5000, (u 1 : (⟨S1x5000, .i32⟩ : BufTy).Contents (Elt F))⟩, ⟨S1x5000, (u 2 : (⟨S1x5000, .i32⟩ : BufTy).Contents (Elt F))⟩, ⟨S1x5000, (u 3 : (⟨S1x5000, .i32⟩ : BufTy).Contents (Elt F))⟩] concatenates_S1x5000_S1x5000_S1x5000_S1x5000_S4x5000_d0 : (⟨S4x5000, .i32⟩ : BufTy).Contents (Elt F))),
    StableHlo.reshape main_v5 main_v6 (rfl : (.i32 : EltTy) = .i32) shapeCasts_S4x5000_S4x1000x5,
    StableHlo.unary main_v6 main_v7 ((transpose S4x5x1000 [0, 2, 1] · transposes_S4x1000x5_S4x5x1000_0_2_1) : (⟨S4x1000x5, .i32⟩ : BufTy).Contents (Elt F) → (⟨S4x5x1000, .i32⟩ : BufTy).Contents (Elt F)),
    StableHlo.reshape main_v7 main_v8 (rfl : (.i32 : EltTy) = .i32) shapeCasts_S4x5x1000_S4x5000,
    StableHlo.unary main_v8 main_v9 ((extractStridedSlice S1x5000 ![0, 0] · slices_S4x5000_S1x5000_0_0) : (⟨S4x5000, .i32⟩ : BufTy).Contents (Elt F) → (⟨S1x5000, .i32⟩ : BufTy).Contents (Elt F)),
    StableHlo.reshape main_v9 main_v10 (rfl : (.i32 : EltTy) = .i32) shapeCasts_S1x5000_S5000,
    StableHlo.unary main_v8 main_v11 ((extractStridedSlice S1x5000 ![1, 0] · slices_S4x5000_S1x5000_1_0) : (⟨S4x5000, .i32⟩ : BufTy).Contents (Elt F) → (⟨S1x5000, .i32⟩ : BufTy).Contents (Elt F)),
    StableHlo.reshape main_v11 main_v12 (rfl : (.i32 : EltTy) = .i32) shapeCasts_S1x5000_S5000,
    StableHlo.unary main_v8 main_v13 ((extractStridedSlice S1x5000 ![2, 0] · slices_S4x5000_S1x5000_2_0) : (⟨S4x5000, .i32⟩ : BufTy).Contents (Elt F) → (⟨S1x5000, .i32⟩ : BufTy).Contents (Elt F)),
    StableHlo.reshape main_v13 main_v14 (rfl : (.i32 : EltTy) = .i32) shapeCasts_S1x5000_S5000,
    StableHlo.unary main_v8 main_v15 ((extractStridedSlice S1x5000 ![3, 0] · slices_S4x5000_S1x5000_3_0) : (⟨S4x5000, .i32⟩ : BufTy).Contents (Elt F) → (⟨S1x5000, .i32⟩ : BufTy).Contents (Elt F)),
    StableHlo.reshape main_v15 main_v16 (rfl : (.i32 : EltTy) = .i32) shapeCasts_S1x5000_S5000,
    StableHlo.nary ![main_arg3, main_v10, main_v14, main_arg11, main_arg9] main_v17 (fun u => (concatenate S13000 0 [⟨S1000, (u 0 : (⟨S1000, .i32⟩ : BufTy).Contents (Elt F))⟩, ⟨S5000, (u 1 : (⟨S5000, .i32⟩ : BufTy).Contents (Elt F))⟩, ⟨S5000, (u 2 : (⟨S5000, .i32⟩ : BufTy).Contents (Elt F))⟩, ⟨S1000, (u 3 : (⟨S1000, .i32⟩ : BufTy).Contents (Elt F))⟩, ⟨S1000, (u 4 : (⟨S1000, .i32⟩ : BufTy).Contents (Elt F))⟩] concatenates_S1000_S5000_S5000_S1000_S1000_S13000_d0 : (⟨S13000, .i32⟩ : BufTy).Contents (Elt F))),
    StableHlo.nary ![main_arg4, main_v12, main_v16, main_arg12, main_arg10] main_v18 (fun u => (concatenate S13000 0 [⟨S1000, (u 0 : (⟨S1000, .i32⟩ : BufTy).Contents (Elt F))⟩, ⟨S5000, (u 1 : (⟨S5000, .i32⟩ : BufTy).Contents (Elt F))⟩, ⟨S5000, (u 2 : (⟨S5000, .i32⟩ : BufTy).Contents (Elt F))⟩, ⟨S1000, (u 3 : (⟨S1000, .i32⟩ : BufTy).Contents (Elt F))⟩, ⟨S1000, (u 4 : (⟨S1000, .i32⟩ : BufTy).Contents (Elt F))⟩] concatenates_S1000_S5000_S5000_S1000_S1000_S13000_d0 : (⟨S13000, .i32⟩ : BufTy).Contents (Elt F))),
    StableHlo.nullary main_c (constantI S_ 32 0#32),
    StableHlo.unary main_c main_v19 (broadcastInDim S56 ![] bcast_S_S56 : (⟨S_, .i32⟩ : BufTy).Contents (Elt F) → (⟨S56, .i32⟩ : BufTy).Contents (Elt F)),
    StableHlo.binary main_v17 main_v19 main_v20 ((fun a b => concatenate S13056 0 [⟨S13000, a⟩, ⟨S56, b⟩] concatenates_S13000_S56_S13056_d0) : (⟨S13000, .i32⟩ : BufTy).Contents (Elt F) → (⟨S56, .i32⟩ : BufTy).Contents (Elt F) → (⟨S13056, .i32⟩ : BufTy).Contents (Elt F)),
    StableHlo.reshape main_v20 main_v21 (rfl : (.i32 : EltTy) = .i32) shapeCasts_S13056_S1x13056,
    StableHlo.binary main_v18 main_v19 main_v22 ((fun a b => concatenate S13056 0 [⟨S13000, a⟩, ⟨S56, b⟩] concatenates_S13000_S56_S13056_d0) : (⟨S13000, .i32⟩ : BufTy).Contents (Elt F) → (⟨S56, .i32⟩ : BufTy).Contents (Elt F) → (⟨S13056, .i32⟩ : BufTy).Contents (Elt F)),
    StableHlo.reshape main_v22 main_v23 (rfl : (.i32 : EltTy) = .i32) shapeCasts_S13056_S1x13056]

/-- What the host operations write. -/
def hostW : List (Ref sig .tc) := [main_v1, main_v2, main_v3, main_v4, main_v5, main_v6, main_v7, main_v8, main_v9, main_v10, main_v11, main_v12, main_v13, main_v14, main_v15, main_v16, main_v17, main_v18, main_c, main_v19, main_v20, main_v21, main_v22, main_v23]

set_option maxRecDepth 8192 in
theorem hostOps_writes : (hostOps (F := F)).Forall fun op => op.writes ⊆ (hostW.map (Proc.devRef (τ := τ) .tc)).toFinset :=
  StableHlo.forall_writes_sub_of_map rfl

set_option maxRecDepth 8192 in
theorem hostOps_fresh : (hostOps (F := F)).Forall fun op => op.fresh = ∅ := StableHlo.forall_fresh_of_map rfl

set_option maxRecDepth 8192 in
theorem main_eq (d : Dev nD) : main (F := F) d = (do
    Prog.lift (.customCall (SparseCore.inner (Pipeline.entry 0)) ())
    seq hostOps
    sc.run d 0
    Prog.lift (.customCall (SparseCore.inner (Pipeline.entry 1)) ())
    pure ⟨⟩) := by
  rw [StableHlo.seq_bind_seqK]; rfl

set_option maxRecDepth 8192 in
theorem hostOps_sub : (hostOps (F := F)).Forall fun op => op.bufs ⊆ tcRefs τ sig :=
  ⟨StableHlo.unary_bufs_sub .., StableHlo.unary_bufs_sub .., StableHlo.unary_bufs_sub .., StableHlo.unary_bufs_sub .., StableHlo.nary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nary_bufs_sub .., StableHlo.nary_bufs_sub .., StableHlo.nullary_bufs_sub .., StableHlo.unary_bufs_sub .., StableHlo.binary_bufs_sub .., StableHlo.reshape_bufs_sub .., StableHlo.binary_bufs_sub .., StableHlo.reshape_bufs_sub ..⟩

theorem hostOps_in : ∀ op ∈ hostOps (F := F), op.bufs ⊆ Pipeline.ucRefs τ sig := fun op h =>
  Pipeline.sub_ucRefs op ((List.forall_iff_forall_mem.mp hostOps_sub) op h)

theorem hostOps_nofresh : ∀ op ∈ hostOps (F := F), op.fresh = ∅ := fun op h => (List.forall_iff_forall_mem.mp hostOps_fresh) op h

/-! ## The contents along the run -/

abbrev dr (b : Ref sig .tc) : DevRef τ sig := Proc.devRef .tc b

/-- The rows of a table that a list of row numbers names. -/
def gatF (X : S10000x128.Idx → Elt F .f32) (J : S1x13056.Idx → Elt F .i32) : S13056x128.Idx → Elt F .f32 := fun y =>
  X (fun a => match a with
    | 0 => ⟨(J (fun c => match c with | 0 => ⟨0, by decide⟩ | 1 => y 0)).toNat % 10000, Nat.mod_lt _ (by decide)⟩
    | 1 => y 1)

variable (m : (ℓ : Loc nD τ sig) → Buf (Elt F) ℓ)

/-- At the launch. -/
def VA (d : Dev nD) : Valuation τ sig (Elt F) := fun b => m (d, b)
/-- After the first matrix call: the two layers' output. -/
def VB (d : Dev nD) : Valuation τ sig (Elt F) := Function.update (VA m d) (dr main_v0) (outF (VA m d (dr main_arg1)) (VA m d (dr main_arg2)))
/-- After the host operations: the two lists of row numbers. -/
def VC (d : Dev nD) : Valuation τ sig (Elt F) := after hostOps (VB m d)
/-- After the gather: the rows. -/
def VD (d : Dev nD) : Valuation τ sig (Elt F) :=
  Function.update (Function.update (VC m d) (dr main_v24_0) (gatF (VC m d (dr main_v0)) (VC m d (dr main_v21))))
    (dr main_v24_1) (gatF (VC m d (dr main_v0)) (VC m d (dr main_v23)))
/-- After the last call: the loss. -/
def VE (d : Dev nD) : Valuation τ sig (Elt F) :=
  Function.update (VD m d) (dr main_v25) (fun _ => combV (VD m d (dr main_v24_0)) (VD m d (dr main_v24_1)))

theorem VB_v0 (d : Dev nD) : VB m d (dr main_v0) = outF (m (d, dr main_arg1)) (m (d, dr main_arg2)) := Function.update_self _ _ _
theorem VB_ne (d : Dev nD) (r : Ref sig .tc) (h : r ≠ main_v0) : VB m d (dr r) = m (d, dr r) :=
  Function.update_of_ne (StableHlo.devRef_ne_of_ne h) _ _
theorem VC_ne (d : Dev nD) (r : Ref sig .tc) (h : r ∉ hostW) : VC m d (dr r) = VB m d (dr r) :=
  StableHlo.after_of_writes_sub hostOps _ hostOps_writes h
theorem VC_v0 (d : Dev nD) : VC m d (dr main_v0) = outF (m (d, dr main_arg1)) (m (d, dr main_arg2)) :=
  (VC_ne m d main_v0 (by decide)).trans (VB_v0 m d)
theorem VD_v24_0 (d : Dev nD) : VD m d (dr main_v24_0) = gatF (VC m d (dr main_v0)) (VC m d (dr main_v21)) :=
  (Function.update_of_ne (StableHlo.devRef_ne_of_ne (by decide)) _ _).trans (Function.update_self _ _ _)
theorem VD_v24_1 (d : Dev nD) : VD m d (dr main_v24_1) = gatF (VC m d (dr main_v0)) (VC m d (dr main_v23)) := Function.update_self _ _ _
theorem VD_ne (d : Dev nD) (b : DevRef τ sig) (h0 : b ≠ dr main_v24_0) (h1 : b ≠ dr main_v24_1) : VD m d b = VC m d b :=
  (Function.update_of_ne h1 _ _).trans (Function.update_of_ne h0 _ _)
theorem VE_v25 (d : Dev nD) : VE m d (dr main_v25) = fun _ => combV (VD m d (dr main_v24_0)) (VD m d (dr main_v24_1)) := Function.update_self _ _ _
theorem VE_ne (d : Dev nD) (r : Ref sig .tc) (h : r ≠ main_v25) : VE m d (dr r) = VD m d (dr r) :=
  Function.update_of_ne (StableHlo.devRef_ne_of_ne h) _ _

/-- The arguments end as they started. -/
theorem VE_arg (d : Dev nD) (r : Ref sig .tc) (h : r ∉ main_v0 :: main_v24_0 :: main_v24_1 :: main_v25 :: hostW) : VE m d (dr r) = m (d, dr r) := by
  simp only [List.mem_cons, not_or] at h
  obtain ⟨h0, h1, h2, h3, h4⟩ := h
  exact (VE_ne m d r h3).trans ((VD_ne m d _ (StableHlo.devRef_ne_of_ne h1) (StableHlo.devRef_ne_of_ne h2)).trans
    ((VC_ne m d r h4).trans (VB_ne m d r h0)))

end Cert.Proof
-- ==== Proof.Steps.lean ====
/-
  The steps of one tile of the gathering call, each stated over memrefs at an offset the program computed and an
  equation saying which slot or which block that is: the fetch of a block of row numbers into a slot and its wait, the
  gather of the rows they name and its wait, the write-out of a slot of rows to its block and its wait.
-/
module

public import proofs.«01_k».proof.Proof.Setup
public import Idealize.ShloMosaic.Lib.VecWindow

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Slots, blocks, semaphores -/

/-- Slot `t` of a two-slot buffer (`t` counted modulo two). -/
abbrev oS (t : ℕ) : Fin 3 → ℕ := ![t % 2, 0, 0]
/-- Semaphore `t` of an array of two. -/
abbrev oM (t : ℕ) : Fin 1 → ℕ := ![t % 2]
/-- Block `b` of the row numbers (`b` counted modulo the 102 blocks there are). -/
abbrev oB (b : ℕ) : Fin 2 → ℕ := ![0, 128 * (b % 102)]
/-- Block `b` of the gathered rows. -/
abbrev oR (b : ℕ) : Fin 2 → ℕ := ![128 * (b % 102), 0]

theorem oS_inb_i (t : ℕ) : ∀ a, oS t a + S1x1x128.size a ≤ S2x1x128.size a := by
  intro a; have := Nat.mod_lt t (show 0 < 2 by decide)
  match a with
  | 0 => show t % 2 + 1 ≤ 2; omega
  | 1 => show 0 + 1 ≤ 1; omega
  | 2 => show 0 + 128 ≤ 128; omega
theorem oS_inb_r (t : ℕ) : ∀ a, oS t a + S1x128x128.size a ≤ S2x128x128.size a := by
  intro a; have := Nat.mod_lt t (show 0 < 2 by decide)
  match a with
  | 0 => show t % 2 + 1 ≤ 2; omega
  | 1 => show 0 + 128 ≤ 128; omega
  | 2 => show 0 + 128 ≤ 128; omega
theorem oM_inb (t : ℕ) : ∀ a, oM t a + S1.size a ≤ S2.size a := by
  intro a; have := Nat.mod_lt t (show 0 < 2 by decide)
  match a with
  | 0 => show t % 2 + 1 ≤ 2; omega
theorem oB_inb (b : ℕ) : ∀ a, oB b a + S1x128.size a ≤ S1x13056.size a := by
  intro a; have := Nat.mod_lt b (show 0 < 102 by decide)
  match a with
  | 0 => show 0 + 1 ≤ 1; omega
  | 1 => show 128 * (b % 102) + 128 ≤ 13056; omega
theorem oR_inb (b : ℕ) : ∀ a, oR b a + S128x128.size a ≤ S13056x128.size a := by
  intro a; have := Nat.mod_lt b (show 0 < 102 by decide)
  match a with
  | 0 => show 128 * (b % 102) + 128 ≤ 13056; omega
  | 1 => show 0 + 128 ≤ 128; omega

abbrev iSl (m : Memref sig .scVector .vmem S2x1x128 .i32) (o : Fin 3 → ℕ) (h : ∀ a, o a + S1x1x128.size a ≤ S2x1x128.size a) :
    Memref sig .scVector .vmem S1x128 .i32 :=
  (m.slice (Rect.unit (s := S2x1x128) o S1x1x128.size h) (fun _ => rfl)).squeeze S1x128 squeezes_S1x1x128_S1x128
abbrev rSl (m : Memref sig .scVector .vmem S2x128x128 .f32) (o : Fin 3 → ℕ) (h : ∀ a, o a + S1x128x128.size a ≤ S2x128x128.size a) :
    Memref sig .scVector .vmem S128x128 .f32 :=
  (m.slice (Rect.unit (s := S2x128x128) o S1x128x128.size h) (fun _ => rfl)).squeeze S128x128 squeezes_S1x128x128_S128x128
abbrev sSl (v : DmaSems sig S2) (o : Fin 1 → ℕ) (h : ∀ a, o a + S1.size a ≤ S2.size a) : DmaSem sig :=
  ((v.slice (Rect.unit (s := S2) o S1.size h)).squeeze S_ squeezes_S1_S_).sem
abbrev bSl (a : Memref sig .scVector .hbm S1x13056 .i32) (o : Fin 2 → ℕ) (h : ∀ x, o x + S1x128.size x ≤ S1x13056.size x) :
    Memref sig .scVector .hbm S1x128 .i32 :=
  a.slice (Rect.unit (s := S1x13056) o S1x128.size h) (fun _ => rfl)
abbrev gSl (a : Memref sig .scVector .hbm S13056x128 .f32) (o : Fin 2 → ℕ) (h : ∀ x, o x + S128x128.size x ≤ S13056x128.size x) :
    Memref sig .scVector .hbm S128x128 .f32 :=
  a.slice (Rect.unit (s := S13056x128) o S128x128.size h) (fun _ => rfl)

abbrev iSlot (m : Memref sig .scVector .vmem S2x1x128 .i32) (t : ℕ) := iSl m (oS t) (oS_inb_i t)
abbrev rSlot (m : Memref sig .scVector .vmem S2x128x128 .f32) (t : ℕ) := rSl m (oS t) (oS_inb_r t)
abbrev semAt (v : DmaSems sig S2) (t : ℕ) : DmaSem sig := sSl v (oM t) (oM_inb t)
abbrev iBlock (a : Memref sig .scVector .hbm S1x13056 .i32) (b : ℕ) := bSl a (oB b) (oB_inb b)
abbrev rBlock (a : Memref sig .scVector .hbm S13056x128 .f32) (b : ℕ) := gSl a (oR b) (oR_inb b)
/-- The table as a tile addresses it. -/
abbrev xAll (a : Memref sig .scVector .hbm S10000x128 .f32) : Memref sig .scVector .hbm S10000x128 .f32 :=
  a.slice (Rect.unit (s := S10000x128) ![0, 0] S10000x128.size inb_S10000x128_S10000x128_0_0) (fun _ => rfl)
/-- A slot of row numbers as the offset list of the gather. -/
abbrev oList (m : Memref sig .scVector .vmem S1x128 .i32) : Memref sig .scVector .vmem S128 .i32 :=
  (m.slice (Rect.unit (s := S1x128) ![0, 0] S1x128.size inb_S1x128_S1x128_0_0) (fun _ => rfl)).squeeze S128 squeezes_S1x128_S128

/-! ## The threads -/

abbrev cV (i : grid1.Coords) : Fin τ.nSC := (i 0).castLE hcore1
abbrev jV (i : grid1.Coords) : Fin τ.nSub := (i 1).castLE hsub1
abbrev thr (d : Dev nD) (i : grid1.Coords) : Thread nD τ := V d (cV i) (jV i)

/-- The rows of a table named by a block of row numbers (a number out of range counted modulo the table). -/
def gath (X : S10000x128.Idx → Elt F .f32) (w : S1x128.Idx → Elt F .i32) : S128x128.Idx → Elt F .f32 := fun x =>
  X (fun a => match a with
    | 0 => ⟨(w (fun c => match c with | 0 => ⟨0, by decide⟩ | 1 => x 0)).toNat % 10000, Nat.mod_lt _ (by decide)⟩
    | 1 => x 1)

/-- A view written all over holds what any contents of the same reading hold on it. -/
theorem write_eq_of_read {κ : Kind} {sp : Space} {s : Shape} {e : EltTy} {v : View sig κ sp s e} (g g' : v.ty.Contents (Elt F)) {w : s.Idx → Elt F e}
    (h : w = v.read (Elt F) g') : ∀ x ∈ v.set, v.write (Elt F) g w Finset.univ x = g' x := by
  intro x hx
  obtain ⟨y, -, rfl⟩ := Finset.mem_map.mp hx
  rw [View.write_emb_of_mem _ _ (Finset.mem_univ y), h, View.read_apply]
  simp

variable [FloatOps F]

section Tile

variable (d : Dev nD) (i : grid1.Coords)

abbrev Wp {α : Type} (p : Prog (TpuEff nD τ sig (Elt F) Λ₀ (thr d i).2) α) (Q : α → sProp 𝕄) : sProp 𝕄 :=
  wp frame (wpE (defs₀ (F := F)) 𝒱₀ (thr d i) none) Set.univ p Q

/-! ### What a tile holds -/

abbrev iOwn (m : Memref sig .scVector .vmem S2x1x128 .i32) (t : ℕ) : sProp 𝕄 :=
  iprop(∃ f, (iSlot m t).view.loc (thr d i) ↦[(iSlot m t).view.set]{fullShare} f)
abbrev iHold (m : Memref sig .scVector .vmem S2x1x128 .i32) (t : ℕ) (w : S1x128.Idx → Elt F .i32) : sProp 𝕄 :=
  iprop(∃ f, ((iSlot m t).view.loc (thr d i) ↦[(iSlot m t).view.set]{fullShare} f) ∗ ⌜(iSlot m t).view.read (Elt F) f = w⌝)
abbrev rOwn (m : Memref sig .scVector .vmem S2x128x128 .f32) (t : ℕ) : sProp 𝕄 :=
  iprop(∃ f, (rSlot m t).view.loc (thr d i) ↦[(rSlot m t).view.set]{fullShare} f)
abbrev rHold (m : Memref sig .scVector .vmem S2x128x128 .f32) (t : ℕ) (w : S128x128.Idx → Elt F .f32) : sProp 𝕄 :=
  iprop(∃ f, ((rSlot m t).view.loc (thr d i) ↦[(rSlot m t).view.set]{fullShare} f) ∗ ⌜(rSlot m t).view.read (Elt F) f = w⌝)
abbrev iPt (a : Memref sig .scVector .hbm S1x13056 .i32) (g : Buf (Elt F) (a.view.loc (thr d i))) (b : ℕ) : sProp 𝕄 :=
  iprop((iBlock a b).view.loc (thr d i) ↦[(iBlock a b).view.set]{fullShare} g)
abbrev rPt (a : Memref sig .scVector .hbm S13056x128 .f32) (g : Buf (Elt F) (a.view.loc (thr d i))) (b : ℕ) : sProp 𝕄 :=
  iprop((rBlock a b).view.loc (thr d i) ↦[(rBlock a b).view.set]{fullShare} g)
abbrev sem0 (s : DmaSem sig) : sProp 𝕄 := semVal (thr d i, SemLoc.dma s) 0
abbrev xPt (a : Memref sig .scVector .hbm S10000x128 .f32) (q : PosShare TreeShare) (g : Buf (Elt F) (a.view.loc (thr d i))) : sProp 𝕄 :=
  iprop((xAll a).view.loc (thr d i) ↦[(xAll a).view.set]{q} g)

/-- What the tile owes, its waits so far at no call's index besides those `W` it came with. -/
abbrev owesS (O : CellTallies nD τ sig (HIx 1)) (W : Waits sig (HIx 1)) : sProp 𝕄 :=
  iprop(∃ W', ⌜∀ p ∈ W', p ∈ W ∨ p.2 = none⌝ ∗ owes (thr d i) O W')

theorem owesS_insert {O : CellTallies nD τ sig (HIx 1)} {W W' : Waits sig (HIx 1)} (hW' : ∀ p ∈ W', p ∈ W ∨ p.2 = none) {s : SemLoc sig} :
    (owes (thr d i) O (insert (s, (default : HIx 1)) W') : sProp 𝕄) ⊢ owesS (F := F) d i O W := by
  iintro H
  iexists _; isplitr
  swap; · iexact H
  ipureintro; intro p hp
  rcases Finset.mem_insert.mp hp with hp | hp
  · exact .inr (hp ▸ rfl)
  · exact hW' p hp

/-- The fetch of block `b` into slot `t`, under way. -/
abbrev iFly (a : Memref sig .scVector .hbm S1x13056 .i32) (g : Buf (Elt F) (a.view.loc (thr d i))) (m : Memref sig .scVector .vmem S2x1x128 .i32)
    (v : DmaSems sig S2) (b t : ℕ) : sProp 𝕄 :=
  Transfers.Flight countersEmb (thr d i) (.dma (semAt v t)) (default : HIx 1) (iSlot m t).view.dmaCredit
    iprop(iHold d i m t ((iBlock a b).view.read (Elt F) g) ∗ iPt d i a g b)
/-- The write-out of slot `t` to block `b`, under way: the block comes back at the contents `g'`. -/
abbrev rFly (a : Memref sig .scVector .hbm S13056x128 .f32) (g' : Buf (Elt F) (a.view.loc (thr d i))) (m : Memref sig .scVector .vmem S2x128x128 .f32)
    (v : DmaSems sig S2) (b t : ℕ) : sProp 𝕄 :=
  Transfers.Flight countersEmb (thr d i) (.dma (semAt v t)) (default : HIx 1) (rBlock a b).view.dmaCredit
    iprop(rPt d i a g' b ∗ rOwn d i m t)

/-! ### The steps -/

theorem enq_in {Q : PUnit → sProp 𝕄} (a : Memref sig .scVector .hbm S1x13056 .i32) (g : Buf (Elt F) (a.view.loc (thr d i))) (m : Memref sig .scVector .vmem S2x1x128 .i32)
    (v : DmaSems sig S2) (b t : ℕ) {o1 : Fin 3 → ℕ} {o2 : Fin 2 → ℕ} {o3 : Fin 1 → ℕ} (e1 : o1 = oS t) (e2 : o2 = oB b) (e3 : o3 = oM t)
    {h1 : ∀ a, o1 a + S1x1x128.size a ≤ S2x1x128.size a} {h2 : ∀ a, o2 a + S1x128.size a ≤ S1x13056.size a} {h3 : ∀ a, o3 a + S1.size a ≤ S2.size a}
    {hsrc : (bSl a o2 h2).view.WordExact} {hdst : (iSl m o1 h1).view.WordExact}
    {hsem : DmaTarget.Typed (nD := nD) (p := (thr d i).2) .hbm (.dma (sSl v o3 h3)) (.here (iSl m o1 h1))} :
    iprop(iPt d i a g b ∗ iOwn d i m t ∗ sem0 (F := F) d i (semAt v t))
      ⊢ iprop((iFly d i a g m v b t -∗ Q ⟨⟩)
          -∗ Wp d i (Prog.lift (.enqueueDma (bSl a o2 h2) (.here (iSl m o1 h1)) (.dma (sSl v o3 h3)) hsrc hdst hsem)) Q) := by
  subst e1 e2 e3
  iintro ⟨Hb, ⟨%f, Hs⟩, Hv⟩ HK
  iapply (Transfers.wp_dmaLocal countersEmb 𝒱₀ (thr d i) none (default : HIx 1) (iSlot m t).view.dmaCredit rfl
    (View.dmaCredit_pos _ (by decide)) (Finset.Subset.refl _)) $$ [Hb Hs Hv]
  · isplitl [Hb]; · iexact Hb
    isplitl [Hs]; · iexact Hs
    iexact Hv
  iintro Hfl
  rw [wp_ret]
  imodintro
  iapply HK
  iapply (Transfers.Flight_mono countersEmb (thr d i) (D' := iprop(iHold d i m t ((iBlock a b).view.read (Elt F) g) ∗ iPt d i a g b)) (by
    iintro ⟨Hs, Hb⟩
    isplitl [Hs]
    · iexists _
      isplitl [Hs]; · iexact Hs
      ipureintro
      exact View.read_write_univ _ _
    · iexact Hb)) $$ Hfl

theorem wait_in {Q : PUnit → sProp 𝕄} (a : Memref sig .scVector .hbm S1x13056 .i32) (g : Buf (Elt F) (a.view.loc (thr d i))) (m : Memref sig .scVector .vmem S2x1x128 .i32)
    (v : DmaSems sig S2) (b t : ℕ) {o1 : Fin 3 → ℕ} {o2 : Fin 2 → ℕ} {o3 : Fin 1 → ℕ} (e1 : o1 = oS t) (e3 : o3 = oM t)
    {h1 : ∀ a, o1 a + S1x1x128.size a ≤ S2x1x128.size a} {h2 : ∀ a, o2 a + S1x128.size a ≤ S1x13056.size a} {h3 : ∀ a, o3 a + S1.size a ≤ S2.size a}
    {hsrc : (bSl a o2 h2).view.WordExact} {hdst : (iSl m o1 h1).view.WordExact} {O : CellTallies nD τ sig (HIx 1)} {W : Waits sig (HIx 1)} :
    iprop(iFly d i a g m v b t ∗ Transfers.MayWaits (thr d i) (default : HIx 1) O ∗ owesS (F := F) d i O W)
      ⊢ iprop((iprop((iHold d i m t ((iBlock a b).view.read (Elt F) g) ∗ iPt d i a g b) ∗ sem0 (F := F) d i (semAt v t) ∗ owesS (F := F) d i O W) -∗ Q ⟨⟩)
          -∗ Wp d i (Prog.lift (.waitDma2 (sSl v o3 h3) (bSl a o2 h2) (iSl m o1 h1) hsrc hdst)) Q) := by
  subst e1 e3
  iintro ⟨Hfl, #Hmw, %W', %hW', HO⟩ HK
  iapply (Transfers.wp_waitLocalO countersEmb 𝒱₀ (thr d i) none (default : HIx 1) (rfl : (iSlot m t).view.dmaCredit = _)) $$ [Hfl HO]
  · isplitl [Hfl]; · iexact Hfl
    isplitl [HO]; · iexact HO
    iapply (Transfers.MayWaits.elim (SemLoc.dma (semAt v t))) $$ Hmw
  iintro ⟨HD, Hv, HO⟩
  rw [wp_ret]
  imodintro
  iapply HK
  isplitl [HD]; · iexact HD
  isplitl [Hv]; · iexact Hv
  iapply (owesS_insert (F := F) d i hW') $$ HO

theorem enq_out {Q : PUnit → sProp 𝕄} (a : Memref sig .scVector .hbm S13056x128 .f32) (g g' : Buf (Elt F) (a.view.loc (thr d i))) (m : Memref sig .scVector .vmem S2x128x128 .f32)
    (v : DmaSems sig S2) (b t : ℕ) (w : S128x128.Idx → Elt F .f32) (hg : (rBlock a b).view.read (Elt F) g' = w)
    {o1 : Fin 3 → ℕ} {o2 : Fin 2 → ℕ} {o3 : Fin 1 → ℕ} (e1 : o1 = oS t) (e2 : o2 = oR b) (e3 : o3 = oM t)
    {h1 : ∀ a, o1 a + S1x128x128.size a ≤ S2x128x128.size a} {h2 : ∀ a, o2 a + S128x128.size a ≤ S13056x128.size a} {h3 : ∀ a, o3 a + S1.size a ≤ S2.size a}
    {hsrc : (rSl m o1 h1).view.WordExact} {hdst : (gSl a o2 h2).view.WordExact}
    {hsem : DmaTarget.Typed (nD := nD) (p := (thr d i).2) .vmem (.dma (sSl v o3 h3)) (.here (gSl a o2 h2))} :
    iprop(rPt d i a g b ∗ rHold d i m t w ∗ sem0 (F := F) d i (semAt v t))
      ⊢ iprop((rFly d i a g' m v b t -∗ Q ⟨⟩)
          -∗ Wp d i (Prog.lift (.enqueueDma (rSl m o1 h1) (.here (gSl a o2 h2)) (.dma (sSl v o3 h3)) hsrc hdst hsem)) Q) := by
  subst e1 e2 e3
  iintro ⟨Hb, ⟨%f, Hs, %hf⟩, Hv⟩ HK
  iapply (Transfers.wp_dmaLocal countersEmb 𝒱₀ (thr d i) none (default : HIx 1) (rBlock a b).view.dmaCredit rfl
    (View.dmaCredit_pos _ (by decide)) (Finset.Subset.refl _)) $$ [Hb Hs Hv]
  · isplitl [Hs]; · iexact Hs
    isplitl [Hb]; · iexact Hb
    iexact Hv
  iintro Hfl
  rw [wp_ret]
  imodintro
  iapply HK
  iapply (Transfers.Flight_mono countersEmb (thr d i) (D' := iprop(rPt d i a g' b ∗ rOwn d i m t)) (by
    iintro ⟨Hb, Hs⟩
    isplitl [Hb]
    · iapply (Entails.of_eq (pointsTo_congr (f := View.write (Elt F) (rBlock a b).view g ((rSlot m t).view.read (Elt F) f) Finset.univ) (g := g') ?_)) $$ Hb
      exact write_eq_of_read _ _ (hf.trans hg.symm)
    · iexists _; iexact Hs)) $$ Hfl

theorem wait_out {Q : PUnit → sProp 𝕄} (a : Memref sig .scVector .hbm S13056x128 .f32) (g' : Buf (Elt F) (a.view.loc (thr d i))) (m : Memref sig .scVector .vmem S2x128x128 .f32)
    (v : DmaSems sig S2) (b t : ℕ)
    {o1 : Fin 3 → ℕ} {o2 : Fin 2 → ℕ} {o3 : Fin 1 → ℕ} (e2 : o2 = oR b) (e3 : o3 = oM t)
    {h1 : ∀ a, o1 a + S1x128x128.size a ≤ S2x128x128.size a} {h2 : ∀ a, o2 a + S128x128.size a ≤ S13056x128.size a} {h3 : ∀ a, o3 a + S1.size a ≤ S2.size a}
    {hsrc : (rSl m o1 h1).view.WordExact} {hdst : (gSl a o2 h2).view.WordExact} {O : CellTallies nD τ sig (HIx 1)} {W : Waits sig (HIx 1)} :
    iprop(rFly d i a g' m v b t ∗ Transfers.MayWaits (thr d i) (default : HIx 1) O ∗ owesS (F := F) d i O W)
      ⊢ iprop((iprop((rPt d i a g' b ∗ rOwn d i m t) ∗ sem0 (F := F) d i (semAt v t) ∗ owesS (F := F) d i O W) -∗ Q ⟨⟩)
          -∗ Wp d i (Prog.lift (.waitDma2 (sSl v o3 h3) (rSl m o1 h1) (gSl a o2 h2) hsrc hdst)) Q) := by
  subst e2 e3
  iintro ⟨Hfl, #Hmw, %W', %hW', HO⟩ HK
  iapply (Transfers.wp_waitLocalO countersEmb 𝒱₀ (thr d i) none (default : HIx 1) (rfl : (rBlock a b).view.dmaCredit = _)) $$ [Hfl HO]
  · isplitl [Hfl]; · iexact Hfl
    isplitl [HO]; · iexact HO
    iapply (Transfers.MayWaits.elim (SemLoc.dma (semAt v t))) $$ Hmw
  iintro ⟨HD, Hv, HO⟩
  rw [wp_ret]
  imodintro
  iapply HK
  isplitl [HD]; · iexact HD
  isplitl [Hv]; · iexact Hv
  iapply (owesS_insert (F := F) d i hW') $$ HO

/-! ### The gather -/

omit [FloatOps F] in
/-- The offset list covers its slot. -/
theorem oList_set (m : Memref sig .scVector .vmem S1x128 .i32) : (oList m).view.set = m.view.set := by
  refine (View.set_reshape _ _).trans ((View.set_slice m.view _).trans ?_)
  have : (Rect.unit (s := S1x128) ![0, 0] S1x128.size inb_S1x128_S1x128_0_0).set = Finset.univ := by
    ext x; simp only [Finset.mem_univ, iff_true]
    refine Rect.mem_set_unit.mpr fun a => ?_
    match a with
    | 0 => exact ⟨Nat.zero_le _, by have := (x 0).isLt; exact (Nat.zero_add 1).symm ▸ this⟩
    | 1 => exact ⟨Nat.zero_le _, by have := (x 1).isLt; exact (Nat.zero_add 128).symm ▸ this⟩
  rw [this]; rfl

theorem oList_read (m : Memref sig .scVector .vmem S1x128 .i32) (f : m.view.ty.Contents (Elt F)) (x : S128.Idx) :
    (oList m).view.read (Elt F) f x = m.view.read (Elt F) f (fun c => match c with | 0 => ⟨0, by decide⟩ | 1 => x 0) := by
  refine (congrFun (Memref.read_squeeze_full m inb_S1x128_S1x128_0_0 squeezes_S1x128_S128 f) x).trans ?_
  refine congrArg (m.view.read (Elt F) f) ?_
  refine (Shape.reshapeEquiv_cons_one _ x).trans ?_
  funext c
  match c with
  | 0 => rfl
  | 1 => rfl

theorem payload_eq (X : S10000x128.Idx → Elt F .f32) (w : S1x128.Idx → Elt F .i32) (l : S128.Idx → Elt F .i32)
    (hl : ∀ x, l x = w (fun c => match c with | 0 => ⟨0, by decide⟩ | 1 => x 0))
    (hin : ∀ x, (l x).toNat < S10000x128.size gathers_S10000x128_S128x128.axis) (hn : S128.numel = S128x128.size gathers_S10000x128_S128x128.axis') :
    SparseCore.gatherPayload gathers_S10000x128_S128x128 X (SparseCore.rows l hn hin) = gath X w := by
  funext x
  unfold SparseCore.gatherPayload gath
  refine congrArg X ?_
  funext a
  match a with
  | 0 =>
    refine (Shape.Gathers.idx_axis gathers_S10000x128_S128x128 _ x).trans (Fin.ext ?_)
    have hx : S128.rowMajor.symm ((x gathers_S10000x128_S128x128.axis').cast hn.symm) = fun c => match c with | 0 => x 0 := by
      rw [Equiv.symm_apply_eq]
      refine Fin.ext ?_
      exact (Shape.rowMajor_val_one (d := ![128]) (fun c => match c with | 0 => x 0)).symm
    show (l (S128.rowMajor.symm _)).toNat = _
    rw [hx, hl]
    refine (Nat.mod_eq_of_lt ?_).symm
    have := hin (fun c => match c with | 0 => x 0)
    rw [hl] at this
    exact this
  | 1 =>
    exact Fin.ext (Shape.Gathers.idx_of_ne gathers_S10000x128_S128x128 _ x 1 (by decide))

theorem gather_credit (r : Memref sig .scVector .vmem S2x128x128 .f32) (s : ℕ) (h : S10000x128.Gathers 0 S128x128) :
    ∑ j, ((rSlot r s).slice (S128x128.rowRect h.axis' j) (S128x128.stride_rowRect h.axis' j)).view.dmaCredit = (rSlot r s).view.dmaCredit := by
  have hsum : ∑ _j : Fin 128, RefSig.bitCredit (S128x128.rowShape 0) .f32 = RefSig.bitCredit S128x128 .f32 := by
    rw [Finset.sum_const, smul_eq_mul, Finset.card_univ, Fintype.card_fin]; decide
  exact hsum

/-- The gather of the rows a slot's numbers name, and its wait. -/
theorem gather_step {α : Type} {Q : α → sProp 𝕄} {k : PUnit → Prog (TpuEff nD τ sig (Elt F) Λ₀ (thr d i).2) α}
    (x : Memref sig .scVector .hbm S10000x128 .f32) (q : PosShare TreeShare) (g : Buf (Elt F) (x.view.loc (thr d i)))
    (r : Memref sig .scVector .vmem S2x128x128 .f32) (m : Memref sig .scVector .vmem S2x1x128 .i32) (sm : DmaSem sig)
    (s t : ℕ) (w : S1x128.Idx → Elt F .i32) (hw : ∀ y, (w y).toNat < 10000)
    {o1 : Fin 3 → ℕ} {o2 : Fin 3 → ℕ} (e1 : o1 = oS s) (e2 : o2 = oS t)
    {h1 : ∀ a, o1 a + S1x128x128.size a ≤ S2x128x128.size a} {h2 : ∀ a, o2 a + S1x1x128.size a ≤ S2x1x128.size a}
    {hn hp hwx hr hsp hwr hwx'}
    {O : CellTallies nD τ sig (HIx 1)} {W : Waits sig (HIx 1)} :
    iprop(xPt d i x q g ∗ rOwn d i r s ∗ iHold d i m t w ∗ sem0 (F := F) d i sm ∗ Transfers.MayWaits (thr d i) (default : HIx 1) O ∗ owesS (F := F) d i O W)
      ⊢ iprop((iprop(xPt d i x q g ∗ rHold d i r s (gath ((xAll x).view.read (Elt F) g) w) ∗ iHold d i m t w ∗ sem0 (F := F) d i sm
              ∗ owesS (F := F) d i O W) -∗ Wp d i (k ⟨⟩) Q)
          -∗ Wp d i (SparseCore.enqueueIndirectGather (F := F) (nD := nD) (p := (thr d i).2) hp (xAll x) (rSl r o1 h1) gathers_S10000x128_S128x128 (oList (iSl m o2 h2)) hn sm hwx rfl hsp hr >>= fun _ =>
              SparseCore.waitIndirectGather sm (xAll x) (rSl r o1 h1) hwr hwx' >>= k) Q) := by
  subst e1 e2
  iintro ⟨Hx, ⟨%fd, Hd⟩, ⟨%fo, Ho, %hfo⟩, Hv, #Hmw, %W', %hW', HO⟩ HK
  have hN : ∀ h : S10000x128.Gathers 0 S128x128, ∑ j, ((rSlot r s).slice (S128x128.rowRect h.axis' j) (S128x128.stride_rowRect h.axis' j)).view.dmaCredit
      = (rSlot r s).view.dmaCredit := gather_credit r s
  have hl : ∀ y, (oList (iSlot m t)).view.read (Elt F) fo y = w (fun c => match c with | 0 => ⟨0, by decide⟩ | 1 => y 0) := by
    intro y; rw [oList_read, hfo]
  have hin : ∀ y, ((oList (iSlot m t)).view.read (Elt F) fo y).toNat < S10000x128.size gathers_S10000x128_S128x128.axis := by
    intro y; rw [hl]; exact hw _
  ihave Ho := (Entails.of_eq (show ((iSlot m t).view.loc (thr d i) ↦[(iSlot m t).view.set]{fullShare} fo : sProp 𝕄)
      = ((oList (iSlot m t)).view.loc (thr d i) ↦[(oList (iSlot m t)).view.set]{fullShare} fo) by rw [oList_set])) $$ Ho
  iapply (SparseCore.wp_indirectGatherLocal countersEmb 𝒱₀ (thr d i) none (hg := gathers_S10000x128_S128x128) (default : HIx 1)
      (rSlot r s).view.dmaCredit (hN _) (by decide) hin) $$ [Hx Hd Ho Hv]
  · isplitl [Hx]; · iexact Hx
    isplitl [Hd]; · iexact Hd
    isplitl [Ho]; · iexact Ho
    iexact Hv
  iintro Hfl
  iapply (Transfers.wp_waitLocalO countersEmb 𝒱₀ (thr d i) none (default : HIx 1) (rfl : (rSlot r s).view.dmaCredit = _)) $$ [Hfl HO]
  · isplitl [Hfl]; · iexact Hfl
    isplitl [HO]; · iexact HO
    iapply (Transfers.MayWaits.elim (SemLoc.dma sm)) $$ Hmw
  iintro ⟨⟨Hd, Hx, Ho⟩, Hv, HO⟩
  iapply HK
  isplitl [Hx]; · iexact Hx
  isplitl [Hd]
  · iexists _; isplitl [Hd]; · iexact Hd
    ipureintro
    exact (View.read_write_univ _ _).trans (payload_eq _ _ _ hl hin _)
  isplitl [Ho]
  · iexists _; isplitl [Ho]
    · iapply (Entails.of_eq (show ((iSlot m t).view.loc (thr d i) ↦[(iSlot m t).view.set]{fullShare} fo : sProp 𝕄)
        = ((oList (iSlot m t)).view.loc (thr d i) ↦[(oList (iSlot m t)).view.set]{fullShare} fo) by rw [oList_set]).symm) $$ Ho
    ipureintro; exact hfo
  isplitl [Hv]; · iexact Hv
  iapply (owesS_insert (F := F) d i hW') $$ HO

end Tile

end Cert.Proof
-- ==== Proof.Words.lean ====
/-
  What the words of one tile of the gathering call are: which blocks it has, at each trip which conditions hold, which
  slot, block and semaphore each offset names, and the words the next trip starts from. Each is a finite check over the
  thirty-two tiles and their trips.
-/
module

public import proofs.«01_k».proof.Proof.Steps

@[expose] public section

noncomputable section

namespace Cert.Proof

open Cert.KernelIdeal Cert.KernelIdeal.Gen
open Idealize.ShloMosaic

/-- The tile at core `c`, subcore `s`. -/
def tileAt (c : Fin 2) (s : Fin 16) : grid1.Coords :=
  fun | 0 => c | 1 => s | ⟨_ + 2, h⟩ => absurd h (Nat.not_lt.2 (Nat.le_add_left _ _))

theorem tileAt_eta (i : grid1.Coords) : tileAt (i 0) (i 1) = i := by
  funext a
  match a with
  | 0 => rfl
  | 1 => rfl

/-- A tile's number. -/
def idT (i : grid1.Coords) : ℕ := (i 1).val + 16 * (i 0).val
/-- How many blocks a tile has: the first six tiles one more than the rest. -/
def nT (i : grid1.Coords) : ℕ := if idT i < 6 then 4 else 3
/-- A tile's first block. -/
def bT (i : grid1.Coords) : ℕ := if idT i < 6 then 4 * idT i else 3 * idT i + 6

abbrev wd (n : ℕ) : BitVec 32 := BitVec.ofNat 32 n
abbrev W9 : Type := BitVec 32 × BitVec 32 × BitVec 32 × BitVec 32 × BitVec 32 × BitVec 32 × BitVec 32 × BitVec 32 × BitVec 32

/-- The words a trip starts from. -/
def accW (i : grid1.Coords) (t : ℕ) : W9 :=
  (wd (min (t + 1) (nT i)), wd t, wd (min (t + 1) (nT i)), wd t, wd t, wd (t - 1), wd t, wd (t - 1), wd (t % nT i))

def v3W (i : grid1.Coords) : BitVec 32 :=
  Scalar.addi (Scalar.addi 0#32 (Scalar.muli (BitVec.ofNat 32 (i 1).val) 1#32)) (Scalar.muli (BitVec.ofNat 32 (i 0).val) 16#32)
def v5W (i : grid1.Coords) : BitVec 32 := Scalar.select (Scalar.cmpi .slt (v3W i) 6#32) 4#32 3#32
def v10W (i : grid1.Coords) : BitVec 32 :=
  Scalar.select (Scalar.cmpi .slt (v3W i) 6#32) (Scalar.muli (v3W i) (v5W i)) (Scalar.addi (Scalar.muli (v3W i) 3#32) 6#32)

/-- The words a trip ends with, as the program computes them. -/
def nextW (i : grid1.Coords) (k1_t1 : Fin (k1_t1_loop i).trips) (a : W9) : W9 :=
  let v5 := v5W i
  let v10 := v10W i
  let (arg8, arg9, arg10, arg11, arg12, arg13, arg14, arg15, arg16) := a
  let arg7 : BitVec 32 := Scf.iv 0#32 1#32 k1_t1
  let v93 : BitVec 32 := Scalar.muli 1#32 v5
  let v94 : BitVec 1 := Scalar.cmpi .eq arg7 0#32
  let v95 : BitVec 32 := Scalar.subi v93 1#32
  let v96 : BitVec 1 := Scalar.cmpi .eq arg7 v95
  let v97 : BitVec 32 := Scalar.addi arg16 v10
  let v98 : BitVec 32 := Scalar.subi arg16 1#32
  let v99 : BitVec 32 := Scalar.select 1#1 v98 arg16
  let v100 : BitVec 1 := Scalar.cmpi .eq v99 4294967295#32
  let v101 : BitVec 32 := Scalar.subi v5 1#32
  let v102 : BitVec 32 := Scalar.select v100 v101 v99
  let v103 : BitVec 32 := Scalar.addi v102 v10
  let v104 : BitVec 32 := Scalar.addi arg16 1#32
  let v105 : BitVec 32 := Scalar.select 1#1 v104 arg16
  let v106 : BitVec 1 := Scalar.cmpi .eq v105 v5
  let v107 : BitVec 32 := Scalar.select v106 0#32 v105
  let v108 : BitVec 32 := Scalar.addi v107 v10
  let v114 : BitVec 1 := Scalar.cmpi .ne v97 v108
  let v115 : BitVec 32 := Scalar.subi v93 2#32
  let v116 : BitVec 32 := Scalar.addi v115 1#32
  let v117 : BitVec 1 := Scalar.cmpi .sge arg7 v116
  let v118 : BitVec 1 := Scalar.xori v117 1#1
  let v119 : BitVec 1 := Scalar.andi v114 v118
  let v123 : BitVec 1 := Scalar.andi v119 1#1
  let v124 : BitVec 32 := Scalar.addi arg8 1#32
  let v125 : BitVec 32 := Scalar.select v123 v124 arg8
  let v126 : BitVec 1 := Scalar.cmpi .ne v97 v108
  let v127 : BitVec 32 := Scalar.subi v93 2#32
  let v128 : BitVec 32 := Scalar.addi v127 1#32
  let v129 : BitVec 1 := Scalar.cmpi .sge arg7 v128
  let v130 : BitVec 1 := Scalar.xori v129 1#1
  let v131 : BitVec 1 := Scalar.andi v126 v130
  let v135 : BitVec 1 := Scalar.andi v131 1#1
  let v136 : BitVec 32 := Scalar.addi arg10 1#32
  let v137 : BitVec 32 := Scalar.select v135 v136 arg10
  let v188 : BitVec 1 := Scalar.cmpi .ne v97 v108
  let v189 : BitVec 1 := Scalar.ori v188 v96
  let v192 : BitVec 1 := Scalar.andi v189 1#1
  let v193 : BitVec 32 := Scalar.addi arg12 1#32
  let v194 : BitVec 32 := Scalar.select v192 v193 arg12
  let v195 : BitVec 1 := Scalar.cmpi .ne v97 v108
  let v196 : BitVec 1 := Scalar.ori v195 v96
  let v199 : BitVec 1 := Scalar.andi v196 1#1
  let v200 : BitVec 32 := Scalar.addi arg14 1#32
  let v201 : BitVec 32 := Scalar.select v199 v200 arg14
  let v214 : BitVec 1 := Scalar.cmpi .ne v97 v103
  let v215 : BitVec 1 := Scalar.xori v94 1#1
  let v216 : BitVec 1 := Scalar.andi v214 v215
  let v219 : BitVec 1 := Scalar.andi v216 1#1
  let v220 : BitVec 32 := Scalar.addi arg13 1#32
  let v221 : BitVec 32 := Scalar.select v219 v220 arg13
  let v222 : BitVec 1 := Scalar.cmpi .ne v97 v103
  let v223 : BitVec 1 := Scalar.xori v94 1#1
  let v224 : BitVec 1 := Scalar.andi v222 v223
  let v227 : BitVec 1 := Scalar.andi v224 1#1
  let v228 : BitVec 32 := Scalar.addi arg15 1#32
  let v229 : BitVec 32 := Scalar.select v227 v228 arg15
  let v230 : BitVec 1 := Scalar.cmpi .ne v97 v108
  let v231 : BitVec 1 := Scalar.ori v230 v96
  let v232 : BitVec 32 := Scalar.addi arg9 1#32
  let v233 : BitVec 32 := Scalar.select v231 v232 arg9
  let v234 : BitVec 1 := Scalar.cmpi .ne v97 v108
  let v235 : BitVec 1 := Scalar.ori v234 v96
  let v236 : BitVec 32 := Scalar.addi arg11 1#32
  let v237 : BitVec 32 := Scalar.select v235 v236 arg11
  let v238 : BitVec 32 := Scalar.addi arg16 1#32
  let v239 : BitVec 32 := Scalar.select 1#1 v238 arg16
  let v240 : BitVec 1 := Scalar.cmpi .eq v239 v5
  let v241 : BitVec 32 := Scalar.select v240 0#32 v239
  (v125, v233, v137, v237, v194, v221, v201, v229, v241)

theorem trips_eq' : ∀ (c : Fin 2) (s : Fin 16), (k1_t1_loop (tileAt c s)).trips = nT (tileAt c s) := by decide +kernel
theorem trips_eq (i : grid1.Coords) : (k1_t1_loop i).trips = nT i := by
  rw [← tileAt_eta i]; exact trips_eq' _ _
theorem trips2_eq' : ∀ (c : Fin 2) (s : Fin 16), (k1_t2_loop (tileAt c s)).trips = 0 := by decide +kernel
theorem trips2_eq (i : grid1.Coords) : (k1_t2_loop i).trips = 0 := by
  rw [← tileAt_eta i]; exact trips2_eq' _ _

/-- What holds of the words at trip `t`. -/
structure TripOK (i : grid1.Coords) (t : Fin (k1_t1_loop i).trips) : Prop where
  f0 : k1_cond4 i t (wd (t % nT i)) = if t.val + 1 < nT i then 1#1 else 0#1
  f1 : k1_cond5 i t (wd (t % nT i)) = if t.val + 1 < nT i then 1#1 else 0#1
  f2 : k1_cond6 i t (wd (t % nT i)) = 1#1
  f3 : k1_cond7 i t (wd (t % nT i)) = 1#1
  f4 : k1_cond12 i t (wd (t % nT i)) = 1#1
  f5 : k1_cond13 i t (wd (t % nT i)) = 1#1
  f6 : k1_cond16 i t (wd (t % nT i)) = if 0 < t.val then 1#1 else 0#1
  f7 : k1_cond17 i t (wd (t % nT i)) = if 0 < t.val then 1#1 else 0#1
  f8 : (t.val + 1 < nT i → k1_off8 i (wd (t % nT i)) = oB (bT i + (t + 1)))
  f9 : (t.val + 1 < nT i → k1_off11 i (wd (t % nT i)) = oB (bT i + (t + 1)))
  f10 : k1_off24 i (wd (t % nT i)) = oR (bT i + t)
  f11 : k1_off27 i (wd (t % nT i)) = oR (bT i + t)
  f12 : (0 < t.val → k1_off30 i (wd (t % nT i)) = oR (bT i + (t - 1)))
  f13 : (0 < t.val → k1_off33 i (wd (t % nT i)) = oR (bT i + (t - 1)))
  f14 : k1_chk1 i t (accW i t).1 (accW i t).2.1 (accW i t).2.2.1 (accW i t).2.2.2.1 (accW i t).2.2.2.2.1 (accW i t).2.2.2.2.2.1 (accW i t).2.2.2.2.2.2.1 (accW i t).2.2.2.2.2.2.2.1 (accW i t).2.2.2.2.2.2.2.2
  f15 : k1_chk2 i (wd t)
  f16 : k1_chk3 i (wd t)
  f17 : k1_chk4 i (wd t)
  f18 : k1_chk5 i (wd t)
  f19 : nextW i t (accW i t) = accW i (t + 1)

theorem trip0 : ∀ (c : Fin 2) (s : Fin 16) (t : Fin (k1_t1_loop (tileAt c s)).trips), (fun (i : grid1.Coords) (t : Fin (k1_t1_loop i).trips) => k1_cond4 i t (wd (t % nT i)) = if t.val + 1 < nT i then 1#1 else 0#1) (tileAt c s) t := by
  decide +kernel
theorem trip1 : ∀ (c : Fin 2) (s : Fin 16) (t : Fin (k1_t1_loop (tileAt c s)).trips), (fun (i : grid1.Coords) (t : Fin (k1_t1_loop i).trips) => k1_cond5 i t (wd (t % nT i)) = if t.val + 1 < nT i then 1#1 else 0#1) (tileAt c s) t := by
  decide +kernel
theorem trip2 : ∀ (c : Fin 2) (s : Fin 16) (t : Fin (k1_t1_loop (tileAt c s)).trips), (fun (i : grid1.Coords) (t : Fin (k1_t1_loop i).trips) => k1_cond6 i t (wd (t % nT i)) = 1#1) (tileAt c s) t := by
  decide +kernel
theorem trip3 : ∀ (c : Fin 2) (s : Fin 16) (t : Fin (k1_t1_loop (tileAt c s)).trips), (fun (i : grid1.Coords) (t : Fin (k1_t1_loop i).trips) => k1_cond7 i t (wd (t % nT i)) = 1#1) (tileAt c s) t := by
  decide +kernel
theorem trip4 : ∀ (c : Fin 2) (s : Fin 16) (t : Fin (k1_t1_loop (tileAt c s)).trips), (fun (i : grid1.Coords) (t : Fin (k1_t1_loop i).trips) => k1_cond12 i t (wd (t % nT i)) = 1#1) (tileAt c s) t := by
  decide +kernel
theorem trip5 : ∀ (c : Fin 2) (s : Fin 16) (t : Fin (k1_t1_loop (tileAt c s)).trips), (fun (i : grid1.Coords) (t : Fin (k1_t1_loop i).trips) => k1_cond13 i t (wd (t % nT i)) = 1#1) (tileAt c s) t := by
  decide +kernel
theorem trip6 : ∀ (c : Fin 2) (s : Fin 16) (t : Fin (k1_t1_loop (tileAt c s)).trips), (fun (i : grid1.Coords) (t : Fin (k1_t1_loop i).trips) => k1_cond16 i t (wd (t % nT i)) = if 0 < t.val then 1#1 else 0#1) (tileAt c s) t := by
  decide +kernel
theorem trip7 : ∀ (c : Fin 2) (s : Fin 16) (t : Fin (k1_t1_loop (tileAt c s)).trips), (fun (i : grid1.Coords) (t : Fin (k1_t1_loop i).trips) => k1_cond17 i t (wd (t % nT i)) = if 0 < t.val then 1#1 else 0#1) (tileAt c s) t := by
  decide +kernel
theorem trip8 : ∀ (c : Fin 2) (s : Fin 16) (t : Fin (k1_t1_loop (tileAt c s)).trips), (fun (i : grid1.Coords) (t : Fin (k1_t1_loop i).trips) => (t.val + 1 < nT i → k1_off8 i (wd (t % nT i)) = oB (bT i + (t + 1)))) (tileAt c s) t := by
  decide +kernel
theorem trip9 : ∀ (c : Fin 2) (s : Fin 16) (t : Fin (k1_t1_loop (tileAt c s)).trips), (fun (i : grid1.Coords) (t : Fin (k1_t1_loop i).trips) => (t.val + 1 < nT i → k1_off11 i (wd (t % nT i)) = oB (bT i + (t + 1)))) (tileAt c s) t := by
  decide +kernel
theorem trip10 : ∀ (c : Fin 2) (s : Fin 16) (t : Fin (k1_t1_loop (tileAt c s)).trips), (fun (i : grid1.Coords) (t : Fin (k1_t1_loop i).trips) => k1_off24 i (wd (t % nT i)) = oR (bT i + t)) (tileAt c s) t := by
  decide +kernel
theorem trip11 : ∀ (c : Fin 2) (s : Fin 16) (t : Fin (k1_t1_loop (tileAt c s)).trips), (fun (i : grid1.Coords) (t : Fin (k1_t1_loop i).trips) => k1_off27 i (wd (t % nT i)) = oR (bT i + t)) (tileAt c s) t := by
  decide +kernel
theorem trip12 : ∀ (c : Fin 2) (s : Fin 16) (t : Fin (k1_t1_loop (tileAt c s)).trips), (fun (i : grid1.Coords) (t : Fin (k1_t1_loop i).trips) => (0 < t.val → k1_off30 i (wd (t % nT i)) = oR (bT i + (t - 1)))) (tileAt c s) t := by
  decide +kernel
theorem trip13 : ∀ (c : Fin 2) (s : Fin 16) (t : Fin (k1_t1_loop (tileAt c s)).trips), (fun (i : grid1.Coords) (t : Fin (k1_t1_loop i).trips) => (0 < t.val → k1_off33 i (wd (t % nT i)) = oR (bT i + (t - 1)))) (tileAt c s) t := by
  decide +kernel
theorem trip14 : ∀ (c : Fin 2) (s : Fin 16) (t : Fin (k1_t1_loop (tileAt c s)).trips), (fun (i : grid1.Coords) (t : Fin (k1_t1_loop i).trips) => k1_chk1 i t (accW i t).1 (accW i t).2.1 (accW i t).2.2.1 (accW i t).2.2.2.1 (accW i t).2.2.2.2.1 (accW i t).2.2.2.2.2.1 (accW i t).2.2.2.2.2.2.1 (accW i t).2.2.2.2.2.2.2.1 (accW i t).2.2.2.2.2.2.2.2) (tileAt c s) t := by
  decide +kernel
theorem trip15 : ∀ (c : Fin 2) (s : Fin 16) (t : Fin (k1_t1_loop (tileAt c s)).trips), (fun (i : grid1.Coords) (t : Fin (k1_t1_loop i).trips) => k1_chk2 i (wd t)) (tileAt c s) t := by
  decide +kernel
theorem trip16 : ∀ (c : Fin 2) (s : Fin 16) (t : Fin (k1_t1_loop (tileAt c s)).trips), (fun (i : grid1.Coords) (t : Fin (k1_t1_loop i).trips) => k1_chk3 i (wd t)) (tileAt c s) t := by
  decide +kernel
theorem trip17 : ∀ (c : Fin 2) (s : Fin 16) (t : Fin (k1_t1_loop (tileAt c s)).trips), (fun (i : grid1.Coords) (t : Fin (k1_t1_loop i).trips) => k1_chk4 i (wd t)) (tileAt c s) t := by
  decide +kernel
theorem trip18 : ∀ (c : Fin 2) (s : Fin 16) (t : Fin (k1_t1_loop (tileAt c s)).trips), (fun (i : grid1.Coords) (t : Fin (k1_t1_loop i).trips) => k1_chk5 i (wd t)) (tileAt c s) t := by
  decide +kernel
set_option synthInstance.maxSize 100000 in set_option synthInstance.maxHeartbeats 0 in
theorem trip19 : ∀ (c : Fin 2) (s : Fin 16) (t : Fin (k1_t1_loop (tileAt c s)).trips), (fun (i : grid1.Coords) (t : Fin (k1_t1_loop i).trips) => nextW i t (accW i t) = accW i (t + 1)) (tileAt c s) t := by
  decide +kernel
theorem off7_eq : ∀ n : ℕ, n < 6 → k1_off7 (wd n) = oS n := by decide +kernel
theorem off10_eq : ∀ n : ℕ, n < 6 → k1_off10 (wd n) = oS n := by decide +kernel
theorem off13_eq : ∀ n : ℕ, n < 6 → k1_off13 (wd n) = oS n := by decide +kernel
theorem off16_eq : ∀ n : ℕ, n < 6 → k1_off16 (wd n) = oS n := by decide +kernel
theorem off19_eq : ∀ n : ℕ, n < 6 → k1_off19 (wd n) = oS n := by decide +kernel
theorem off20_eq : ∀ n : ℕ, n < 6 → k1_off20 (wd n) = oS n := by decide +kernel
theorem off21_eq : ∀ n : ℕ, n < 6 → k1_off21 (wd n) = oS n := by decide +kernel
theorem off22_eq : ∀ n : ℕ, n < 6 → k1_off22 (wd n) = oS n := by decide +kernel
theorem off23_eq : ∀ n : ℕ, n < 6 → k1_off23 (wd n) = oS n := by decide +kernel
theorem off26_eq : ∀ n : ℕ, n < 6 → k1_off26 (wd n) = oS n := by decide +kernel
theorem off29_eq : ∀ n : ℕ, n < 6 → k1_off29 (wd n) = oS n := by decide +kernel
theorem off32_eq : ∀ n : ℕ, n < 6 → k1_off32 (wd n) = oS n := by decide +kernel
theorem off66_eq : ∀ n : ℕ, n < 6 → k1_off66 (wd n) = oS n := by decide +kernel
theorem off67_eq : ∀ n : ℕ, n < 6 → k1_off67 (wd n) = oS n := by decide +kernel
theorem off9_eq : ∀ n : ℕ, n < 6 → k1_off9 (wd n) = oM n := by decide +kernel
theorem off12_eq : ∀ n : ℕ, n < 6 → k1_off12 (wd n) = oM n := by decide +kernel
theorem off15_eq : ∀ n : ℕ, n < 6 → k1_off15 (wd n) = oM n := by decide +kernel
theorem off18_eq : ∀ n : ℕ, n < 6 → k1_off18 (wd n) = oM n := by decide +kernel
theorem off25_eq : ∀ n : ℕ, n < 6 → k1_off25 (wd n) = oM n := by decide +kernel
theorem off28_eq : ∀ n : ℕ, n < 6 → k1_off28 (wd n) = oM n := by decide +kernel
theorem off31_eq : ∀ n : ℕ, n < 6 → k1_off31 (wd n) = oM n := by decide +kernel
theorem off34_eq : ∀ n : ℕ, n < 6 → k1_off34 (wd n) = oM n := by decide +kernel
theorem off65_eq : ∀ n : ℕ, n < 6 → k1_off65 (wd n) = oM n := by decide +kernel
theorem off69_eq : ∀ n : ℕ, n < 6 → k1_off69 (wd n) = oM n := by decide +kernel
theorem cond1_eq' : ∀ (c : Fin 2) (s : Fin 16), (fun i : grid1.Coords => k1_cond1 i = 1#1) (tileAt c s) := by decide +kernel
theorem cond1_eq (i : grid1.Coords) : k1_cond1 i = 1#1 := by
  have := cond1_eq' (i 0) (i 1); rw [tileAt_eta] at this; exact this
theorem cond2_eq' : ∀ (c : Fin 2) (s : Fin 16), (fun i : grid1.Coords => k1_cond2 i = 1#1) (tileAt c s) := by decide +kernel
theorem cond2_eq (i : grid1.Coords) : k1_cond2 i = 1#1 := by
  have := cond2_eq' (i 0) (i 1); rw [tileAt_eta] at this; exact this
theorem cond3_eq' : ∀ (c : Fin 2) (s : Fin 16), (fun i : grid1.Coords => k1_cond3 i = 1#1) (tileAt c s) := by decide +kernel
theorem cond3_eq (i : grid1.Coords) : k1_cond3 i = 1#1 := by
  have := cond3_eq' (i 0) (i 1); rw [tileAt_eta] at this; exact this
theorem cond34_eq' : ∀ (c : Fin 2) (s : Fin 16), (fun i : grid1.Coords => k1_cond34 i = 1#1) (tileAt c s) := by decide +kernel
theorem cond34_eq (i : grid1.Coords) : k1_cond34 i = 1#1 := by
  have := cond34_eq' (i 0) (i 1); rw [tileAt_eta] at this; exact this
theorem cond35_eq' : ∀ (c : Fin 2) (s : Fin 16), (fun i : grid1.Coords => k1_cond35 i = 1#1) (tileAt c s) := by decide +kernel
theorem cond35_eq (i : grid1.Coords) : k1_cond35 i = 1#1 := by
  have := cond35_eq' (i 0) (i 1); rw [tileAt_eta] at this; exact this
theorem off1_eq : k1_off1 = oS 0 := by decide +kernel
theorem off4_eq : k1_off4 = oS 0 := by decide +kernel
theorem off3_eq : k1_off3 = oM 0 := by decide +kernel
theorem off6_eq : k1_off6 = oM 0 := by decide +kernel
theorem off2_eq' : ∀ (c : Fin 2) (s : Fin 16), (fun i : grid1.Coords => k1_off2 i = oB (bT i)) (tileAt c s) := by decide +kernel
theorem off2_eq (i : grid1.Coords) : k1_off2 i = oB (bT i) := by
  have := off2_eq' (i 0) (i 1); rw [tileAt_eta] at this; exact this
theorem off5_eq' : ∀ (c : Fin 2) (s : Fin 16), (fun i : grid1.Coords => k1_off5 i = oB (bT i)) (tileAt c s) := by decide +kernel
theorem off5_eq (i : grid1.Coords) : k1_off5 i = oB (bT i) := by
  have := off5_eq' (i 0) (i 1); rw [tileAt_eta] at this; exact this
theorem off64_eq' : ∀ (c : Fin 2) (s : Fin 16), (fun i : grid1.Coords => k1_off64 i (wd (nT i % nT i)) = oR (bT i + (nT i - 1))) (tileAt c s) := by decide +kernel
theorem off64_eq (i : grid1.Coords) : k1_off64 i (wd (nT i % nT i)) = oR (bT i + (nT i - 1)) := by
  have := off64_eq' (i 0) (i 1); rw [tileAt_eta] at this; exact this
theorem off68_eq' : ∀ (c : Fin 2) (s : Fin 16), (fun i : grid1.Coords => k1_off68 i (wd (nT i % nT i)) = oR (bT i + (nT i - 1))) (tileAt c s) := by decide +kernel
theorem off68_eq (i : grid1.Coords) : k1_off68 i (wd (nT i % nT i)) = oR (bT i + (nT i - 1)) := by
  have := off68_eq' (i 0) (i 1); rw [tileAt_eta] at this; exact this
theorem chk11_ok' : ∀ (c : Fin 2) (s : Fin 16), (fun i : grid1.Coords => k1_chk11 i (wd (nT i - 1))) (tileAt c s) := by decide +kernel
theorem chk11_ok (i : grid1.Coords) : k1_chk11 i (wd (nT i - 1)) := by
  have := chk11_ok' (i 0) (i 1); rw [tileAt_eta] at this; exact this
theorem chk12_ok' : ∀ (c : Fin 2) (s : Fin 16), (fun i : grid1.Coords => k1_chk12 i (wd (nT i % nT i))) (tileAt c s) := by decide +kernel
theorem chk12_ok (i : grid1.Coords) : k1_chk12 i (wd (nT i % nT i)) := by
  have := chk12_ok' (i 0) (i 1); rw [tileAt_eta] at this; exact this
theorem chk13_ok' : ∀ (c : Fin 2) (s : Fin 16), (fun i : grid1.Coords => k1_chk13 i (wd (nT i - 1))) (tileAt c s) := by decide +kernel
theorem chk13_ok (i : grid1.Coords) : k1_chk13 i (wd (nT i - 1)) := by
  have := chk13_ok' (i 0) (i 1); rw [tileAt_eta] at this; exact this
theorem init_eq' : ∀ (c : Fin 2) (s : Fin 16), (fun i : grid1.Coords => Scalar.select (Scalar.andi 1#1 (Scalar.cmpi .sgt (Scalar.muli 1#32 (v5W i)) 0#32)) (Scalar.addi 0#32 1#32) 0#32 = wd (min (0 + 1) (nT i))) (tileAt c s) := by decide +kernel
theorem init_eq (i : grid1.Coords) : Scalar.select (Scalar.andi 1#1 (Scalar.cmpi .sgt (Scalar.muli 1#32 (v5W i)) 0#32)) (Scalar.addi 0#32 1#32) 0#32 = wd (min (0 + 1) (nT i)) := by
  have := init_eq' (i 0) (i 1); rw [tileAt_eta] at this; exact this
theorem nT_bd' : ∀ (c : Fin 2) (s : Fin 16), (fun i : grid1.Coords => 3 ≤ nT i ∧ nT i ≤ 4 ∧ bT i + nT i ≤ 102) (tileAt c s) := by decide +kernel
theorem nT_bd (i : grid1.Coords) : 3 ≤ nT i ∧ nT i ≤ 4 ∧ bT i + nT i ≤ 102 := by
  have := nT_bd' (i 0) (i 1); rw [tileAt_eta] at this; exact this

theorem tripOK (i : grid1.Coords) (t : Fin (k1_t1_loop i).trips) : TripOK i t := by
  have h : ∀ (c : Fin 2) (s : Fin 16) (t : Fin (k1_t1_loop (tileAt c s)).trips), TripOK (tileAt c s) t := fun c s t =>
    ⟨trip0 c s t, trip1 c s t, trip2 c s t, trip3 c s t, trip4 c s t, trip5 c s t, trip6 c s t, trip7 c s t, trip8 c s t, trip9 c s t, trip10 c s t, trip11 c s t, trip12 c s t, trip13 c s t, trip14 c s t, trip15 c s t, trip16 c s t, trip17 c s t, trip18 c s t, trip19 c s t⟩
  have := h (i 0) (i 1)
  rw [tileAt_eta] at this
  exact this t

end Cert.Proof
-- ==== Proof.Parts.lean ====
/-
  The five parts of one trip of a tile's loop.
-/
module

public import proofs.«01_k».proof.Proof.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- What part 1 of a trip hands on, as the program computes it. -/
def p1R (i : grid1.Coords) (v5 : BitVec 32) (v10 : BitVec 32) (k1_h1 : k1_cond1 i = 1#1) (c0_i32_39 : BitVec 32) (c1_i32_48 : BitVec 32) (k1_t1 : Fin (k1_t1_loop i).trips) (arg8 : BitVec 32) (arg9 : BitVec 32) (arg10 : BitVec 32) (arg11 : BitVec 32) (arg12 : BitVec 32) (arg13 : BitVec 32) (arg14 : BitVec 32) (arg15 : BitVec 32) (arg16 : BitVec 32) (k1_hw5 : k1_chk5 i arg11) (k1_hw4 : k1_chk4 i arg14) (k1_hw3 : k1_chk3 i arg9) (k1_hw2 : k1_chk2 i arg12) (k1_hw1 : k1_chk1 i k1_t1 arg8 arg9 arg10 arg11 arg12 arg13 arg14 arg15 arg16) :
    Σ' (k1_hw5 : k1_chk5 i arg11) (k1_hw4 : k1_chk4 i arg14) (k1_hw3 : k1_chk3 i arg9) (k1_hw2 : k1_chk2 i arg12) (k1_hw1 : k1_chk1 i k1_t1 arg8 arg9 arg10 arg11 arg12 arg13 arg14 arg15 arg16) (arg7 : BitVec 32) (v93 : BitVec 32) (v94 : BitVec 1) (v96 : BitVec 1) (v97 : BitVec 32) (v103 : BitVec 32) (v108 : BitVec 32), BitVec 32 :=
  let arg7 : BitVec 32 := Scf.iv c0_i32_39 c1_i32_48 k1_t1
  let v93 : BitVec 32 := Scalar.muli 1#32 v5
  let v94 : BitVec 1 := Scalar.cmpi .eq arg7 0#32
  let v95 : BitVec 32 := Scalar.subi v93 1#32
  let v96 : BitVec 1 := Scalar.cmpi .eq arg7 v95
  let v97 : BitVec 32 := Scalar.addi arg16 v10
  let v98 : BitVec 32 := Scalar.subi arg16 1#32
  let v99 : BitVec 32 := Scalar.select 1#1 v98 arg16
  let v100 : BitVec 1 := Scalar.cmpi .eq v99 4294967295#32
  let v101 : BitVec 32 := Scalar.subi v5 1#32
  let v102 : BitVec 32 := Scalar.select v100 v101 v99
  let v103 : BitVec 32 := Scalar.addi v102 v10
  let v104 : BitVec 32 := Scalar.addi arg16 1#32
  let v105 : BitVec 32 := Scalar.select 1#1 v104 arg16
  let v106 : BitVec 1 := Scalar.cmpi .eq v105 v5
  let v107 : BitVec 32 := Scalar.select v106 0#32 v105
  let v108 : BitVec 32 := Scalar.addi v107 v10
  let v114 : BitVec 1 := Scalar.cmpi .ne v97 v108
  let v115 : BitVec 32 := Scalar.subi v93 2#32
  let v116 : BitVec 32 := Scalar.addi v115 1#32
  let v117 : BitVec 1 := Scalar.cmpi .sge arg7 v116
  let v118 : BitVec 1 := Scalar.xori v117 1#1
  let v119 : BitVec 1 := Scalar.andi v114 v118
  let v123 : BitVec 1 := Scalar.andi v119 1#1
  let v124 : BitVec 32 := Scalar.addi arg8 1#32
  let v125 : BitVec 32 := Scalar.select v123 v124 arg8
  ⟨k1_hw5, k1_hw4, k1_hw3, k1_hw2, k1_hw1, arg7, v93, v94, v96, v97, v103, v108, v125⟩

/-- What part 2 of a trip hands on, as the program computes it. -/
def p2R (i : grid1.Coords) (k1_h1 : k1_cond1 i = 1#1) (k1_t1 : Fin (k1_t1_loop i).trips) (arg8 : BitVec 32) (arg9 : BitVec 32) (arg10 : BitVec 32) (arg11 : BitVec 32) (arg12 : BitVec 32) (arg13 : BitVec 32) (arg14 : BitVec 32) (arg15 : BitVec 32) (arg16 : BitVec 32) (k1_hw1 : k1_chk1 i k1_t1 arg8 arg9 arg10 arg11 arg12 arg13 arg14 arg15 arg16) (arg7 : BitVec 32) (v93 : BitVec 32) (v94 : BitVec 1) (v97 : BitVec 32) (v103 : BitVec 32) (v108 : BitVec 32) :
    Σ' (v137 : BitVec 32) (v163 : BitVec 1), BitVec 1 :=
  let v126 : BitVec 1 := Scalar.cmpi .ne v97 v108
  let v127 : BitVec 32 := Scalar.subi v93 2#32
  let v128 : BitVec 32 := Scalar.addi v127 1#32
  let v129 : BitVec 1 := Scalar.cmpi .sge arg7 v128
  let v130 : BitVec 1 := Scalar.xori v129 1#1
  let v131 : BitVec 1 := Scalar.andi v126 v130
  let v135 : BitVec 1 := Scalar.andi v131 1#1
  let v136 : BitVec 32 := Scalar.addi arg10 1#32
  let v137 : BitVec 32 := Scalar.select v135 v136 arg10
  let v162 : BitVec 1 := Scalar.cmpi .ne v97 v103
  let v163 : BitVec 1 := Scalar.ori v162 v94
  let v164 : BitVec 1 := Scalar.cmpi .sge arg7 0#32
  ⟨v137, v163, v164⟩

/-- What part 4 of a trip hands on, as the program computes it. -/
def p4R (i : grid1.Coords) (k1_h1 : k1_cond1 i = 1#1) (k1_t1 : Fin (k1_t1_loop i).trips) (arg8 : BitVec 32) (arg9 : BitVec 32) (arg10 : BitVec 32) (arg11 : BitVec 32) (arg12 : BitVec 32) (arg13 : BitVec 32) (arg14 : BitVec 32) (arg15 : BitVec 32) (arg16 : BitVec 32) (k1_hw5 : k1_chk5 i arg11) (k1_hw4 : k1_chk4 i arg14) (k1_hw1 : k1_chk1 i k1_t1 arg8 arg9 arg10 arg11 arg12 arg13 arg14 arg15 arg16) (v96 : BitVec 1) (v97 : BitVec 32) (v108 : BitVec 32) :
    Σ' (v194 : BitVec 32) (v199 : BitVec 1), BitVec 32 :=
  let v188 : BitVec 1 := Scalar.cmpi .ne v97 v108
  let v189 : BitVec 1 := Scalar.ori v188 v96
  let v192 : BitVec 1 := Scalar.andi v189 1#1
  let v193 : BitVec 32 := Scalar.addi arg12 1#32
  let v194 : BitVec 32 := Scalar.select v192 v193 arg12
  let v195 : BitVec 1 := Scalar.cmpi .ne v97 v108
  let v196 : BitVec 1 := Scalar.ori v195 v96
  let v199 : BitVec 1 := Scalar.andi v196 1#1
  ⟨v194, v199, 1#32⟩

/-- What part 5 of a trip hands on, as the program computes it. -/
def p5R (i : grid1.Coords) (k1_h1 : k1_cond1 i = 1#1) (k1_t1 : Fin (k1_t1_loop i).trips) (arg8 : BitVec 32) (arg9 : BitVec 32) (arg10 : BitVec 32) (arg11 : BitVec 32) (arg12 : BitVec 32) (arg13 : BitVec 32) (arg14 : BitVec 32) (arg15 : BitVec 32) (arg16 : BitVec 32) (k1_hw1 : k1_chk1 i k1_t1 arg8 arg9 arg10 arg11 arg12 arg13 arg14 arg15 arg16) (v94 : BitVec 1) (v96 : BitVec 1) (v97 : BitVec 32) (v103 : BitVec 32) (v108 : BitVec 32) (v199 : BitVec 1) (c1_i32_126 : BitVec 32) :
    Σ' (v201 : BitVec 32) (v221 : BitVec 32) (v229 : BitVec 32) (v233 : BitVec 32) (v237 : BitVec 32), BitVec 32 :=
  let v200 : BitVec 32 := Scalar.addi arg14 c1_i32_126
  let v201 : BitVec 32 := Scalar.select v199 v200 arg14
  let v214 : BitVec 1 := Scalar.cmpi .ne v97 v103
  let v215 : BitVec 1 := Scalar.xori v94 1#1
  let v216 : BitVec 1 := Scalar.andi v214 v215
  let v219 : BitVec 1 := Scalar.andi v216 1#1
  let v220 : BitVec 32 := Scalar.addi arg13 1#32
  let v221 : BitVec 32 := Scalar.select v219 v220 arg13
  let v222 : BitVec 1 := Scalar.cmpi .ne v97 v103
  let v223 : BitVec 1 := Scalar.xori v94 1#1
  let v224 : BitVec 1 := Scalar.andi v222 v223
  let v227 : BitVec 1 := Scalar.andi v224 1#1
  let v228 : BitVec 32 := Scalar.addi arg15 1#32
  let v229 : BitVec 32 := Scalar.select v227 v228 arg15
  let v230 : BitVec 1 := Scalar.cmpi .ne v97 v108
  let v231 : BitVec 1 := Scalar.ori v230 v96
  let v232 : BitVec 32 := Scalar.addi arg9 1#32
  let v233 : BitVec 32 := Scalar.select v231 v232 arg9
  let v234 : BitVec 1 := Scalar.cmpi .ne v97 v108
  let v235 : BitVec 1 := Scalar.ori v234 v96
  let v236 : BitVec 32 := Scalar.addi arg11 1#32
  let v237 : BitVec 32 := Scalar.select v235 v236 arg11
  let v238 : BitVec 32 := Scalar.addi arg16 1#32
  ⟨v201, v221, v229, v233, v237, v238⟩

section Body

variable (d : Dev nD) (i : grid1.Coords)
variable (arg2 : Memref sig .scVector .hbm S10000x128 .f32) (harg2 : arg2.IsWhole)
variable (arg3 : Memref sig .scVector .hbm S1x13056 .i32) (harg3 : arg3.IsWhole) (arg4 : Memref sig .scVector .hbm S1x13056 .i32) (harg4 : arg4.IsWhole)
variable (arg5 : Memref sig .scVector .hbm S13056x128 .f32) (harg5 : arg5.IsWhole) (arg6 : Memref sig .scVector .hbm S13056x128 .f32) (harg6 : arg6.IsWhole)
variable (m3 : Memref sig .scVector .vmem S2x1x128 .i32) (hm3 : m3.IsWhole) (s3 : DmaSems sig S2)
variable (m4 : Memref sig .scVector .vmem S2x1x128 .i32) (hm4 : m4.IsWhole) (s4 : DmaSems sig S2)
variable (m5 : Memref sig .scVector .vmem S2x128x128 .f32) (hm5 : m5.IsWhole) (s5 : DmaSems sig S2)
variable (m6 : Memref sig .scVector .vmem S2x128x128 .f32) (hm6 : m6.IsWhole) (s6 : DmaSems sig S2)
variable (q1 q2 q3 q4 : DmaSems sig S_)
variable {O : CellTallies nD τ sig (HIx 1)} {W : Waits sig (HIx 1)}

/-! ### The five parts of a trip -/

theorem off_of {c : BitVec 1} (h : c = 0#1) : ¬ c = 1#1 := by subst h; decide

theorem tlt (t : Fin (k1_t1_loop i).trips) : t.val < nT i := lt_of_lt_of_eq t.isLt (trips_eq i)

theorem wp_done {α : Type} {Q : α → sProp 𝕄} (a : α) : Q a ⊢ Wp d i (Pure.pure a) Q := by
  show _ ⊢ Wp d i (Prog.ret a) Q
  unfold Wp
  rw [wp_ret]
  iintro H
  imodintro
  iexact H

theorem asm_wp {α : Type} {Q : α → sProp 𝕄} {P : Prop} {dec : Decidable P} {k : PLift P → Prog (TpuEff nD τ sig (Elt F) Λ₀ (thr d i).2) α} (h : P) :
    Wp d i (k ⟨h⟩) Q ⊢ Wp d i (Prog.lift (.assume P dec) >>= k) Q :=
  wp_assume 𝒱₀ (thr d i) none Set.univ h

theorem chk1_t (t : Fin (k1_t1_loop i).trips) : k1_chk1 i t (wd (min (t + 1) (nT i))) (wd t) (wd (min (t + 1) (nT i))) (wd t) (wd t) (wd (t - 1)) (wd t) (wd (t - 1)) (wd (t % nT i)) := (tripOK i t).f14

/-- A slot that is to be fetched into if the block is one of the tile's. -/
abbrev inN (a : Memref sig .scVector .hbm S1x13056 .i32) (g : Buf (Elt F) (a.view.loc (thr d i))) (m : Memref sig .scVector .vmem S2x1x128 .i32)
    (v : DmaSems sig S2) (t : ℕ) : sProp 𝕄 :=
  if t < nT i then iFly d i a g m v (bT i + t) t else iprop(iOwn d i m t ∗ sem0 (F := F) d i (semAt v t))
/-- A slot whose block, if there is one, is being written out. -/
abbrev outN (a : Memref sig .scVector .hbm S13056x128 .f32) (g : Buf (Elt F) (a.view.loc (thr d i))) (m : Memref sig .scVector .vmem S2x128x128 .f32)
    (v : DmaSems sig S2) (t : ℕ) : sProp 𝕄 :=
  if 0 < t then rFly d i a g m v (bT i + (t - 1)) (t + 1) else iprop(rOwn d i m (t + 1) ∗ sem0 (F := F) d i (semAt v (t + 1)))

set_option maxHeartbeats 4000000 in
set_option pp.maxSteps 200 in
theorem part1_wp (h1 : k1_cond1 i = 1#1) (t : Fin (k1_t1_loop i).trips) (g : Buf (Elt F) (arg3.view.loc (thr d i))) {Q} :
    iprop(iOwn d i m3 (t + 1) ∗ sem0 (F := F) d i (semAt s3 (t + 1)) ∗ if t + 1 < nT i then iPt d i arg3 g (bT i + (t + 1)) else emp)
      ⊢ iprop((inN d i arg3 g m3 s3 (t + 1) -∗ Q (p1R i (v5W i) (v10W i) h1 0#32 1#32 t (wd (min (t + 1) (nT i))) (wd t) (wd (min (t + 1) (nT i))) (wd t) (wd t) (wd (t - 1)) (wd t) (wd (t - 1)) (wd (t % nT i))
            (tripOK i t).f18 (tripOK i t).f17 (tripOK i t).f16 (tripOK i t).f15 (chk1_t i t)))
        -∗ Wp d i (k1_part1 (F := F) i arg2 harg2 arg3 harg3 arg4 harg4 arg5 harg5 arg6 harg6 m3 hm3 s3 m4 hm4 s4 m5 hm5 s5 m6 hm6 s6 q1 q2 q3 q4 (v5W i) (v10W i) h1 0#32 1#32 t (wd (min (t + 1) (nT i))) (wd t) (wd (min (t + 1) (nT i))) (wd t) (wd t) (wd (t - 1)) (wd t) (wd (t - 1)) (wd (t % nT i))) Q) := by
  have ok := tripOK i t
  have hb := nT_bd i
  rw [k1_part1_eq_skeleton]
  unfold k1_part1_skel p1R inN
  simp only [bind_assoc, pure_bind]
  refine BIClass.wand_intro ?_
  refine .trans ?_ (asm_wp d i ok.f18)
  refine .trans ?_ (asm_wp d i ok.f17)
  refine .trans ?_ (asm_wp d i ok.f16)
  refine .trans ?_ (asm_wp d i ok.f15)
  refine .trans ?_ (asm_wp d i (chk1_t i t))
  unfold Wp
  by_cases hc : t.val + 1 < nT i
  · have hcond := ok.f0; rw [if_pos hc] at hcond
    rw [dif_pos hcond]
    simp only [if_pos hc]
    rw [wp_bind]
    iintro ⟨⟨Ho, Hv, Hb⟩, HK⟩
    iapply (enq_in d i arg3 g m3 s3 (bT i + (t + 1)) (t + 1) ((by rw [Nat.min_eq_left hc.le]; exact off7_eq _ (by omega))) (ok.f8 hc)
      (by rw [Nat.min_eq_left hc.le]; exact off9_eq _ (by omega))) $$ [Ho Hv Hb]
    · isplitl [Hb]; · iexact Hb
      isplitl [Ho] <;> iassumption
    iintro Hfl
    iapply wp_done
    iapply HK
    iexact Hfl
  · have hcond := ok.f0; rw [if_neg hc] at hcond
    rw [dif_neg (off_of hcond)]
    simp only [if_neg hc]
    iintro ⟨⟨Ho, Hv, Hb⟩, HK⟩
    iapply wp_done
    iapply HK
    isplitl [Ho] <;> iassumption

set_option maxHeartbeats 4000000 in
set_option pp.maxSteps 200 in
theorem part2_wp (h1 : k1_cond1 i = 1#1) (t : Fin (k1_t1_loop i).trips) (v7 v93 : BitVec 32) (v94 : BitVec 1) (v97 v103 v108 : BitVec 32)
    (g3 : Buf (Elt F) (arg3.view.loc (thr d i))) (g : Buf (Elt F) (arg4.view.loc (thr d i))) {Q} :
    iprop((iOwn d i m4 (t + 1) ∗ sem0 (F := F) d i (semAt s4 (t + 1)) ∗ if t + 1 < nT i then iPt d i arg4 g (bT i + (t + 1)) else emp)
        ∗ iFly d i arg3 g3 m3 s3 (bT i + t) t ∗ iFly d i arg4 g m4 s4 (bT i + t) t ∗ Transfers.MayWaits (thr d i) (default : HIx 1) O ∗ owesS (F := F) d i O W)
      ⊢ iprop((iprop(inN d i arg4 g m4 s4 (t + 1)
            ∗ (iHold d i m3 t ((iBlock arg3 (bT i + t)).view.read (Elt F) g3) ∗ iPt d i arg3 g3 (bT i + t) ∗ sem0 (F := F) d i (semAt s3 t))
            ∗ (iHold d i m4 t ((iBlock arg4 (bT i + t)).view.read (Elt F) g) ∗ iPt d i arg4 g (bT i + t) ∗ sem0 (F := F) d i (semAt s4 t)) ∗ owesS (F := F) d i O W)
          -∗ Q (p2R i h1 t (wd (min (t + 1) (nT i))) (wd t) (wd (min (t + 1) (nT i))) (wd t) (wd t) (wd (t - 1)) (wd t) (wd (t - 1)) (wd (t % nT i)) (chk1_t i t) v7 v93 v94 v97 v103 v108))
        -∗ Wp d i (k1_part2 (F := F) i arg2 harg2 arg3 harg3 arg4 harg4 arg5 harg5 arg6 harg6 m3 hm3 s3 m4 hm4 s4 m5 hm5 s5 m6 hm6 s6 q1 q2 q3 q4 h1 t (wd (min (t + 1) (nT i))) (wd t) (wd (min (t + 1) (nT i))) (wd t) (wd t) (wd (t - 1)) (wd t) (wd (t - 1)) (wd (t % nT i)) (chk1_t i t) v7 v93 v94 v97 v103 v108) Q) := by
  have ok := tripOK i t
  have hb := nT_bd i
  have ht : t.val < 6 := by have := tlt i t; omega
  rw [k1_part2_eq_skeleton]
  unfold k1_part2_skel p2R
  simp only [bind_assoc, pure_bind]
  by_cases hc : t.val + 1 < nT i
  · have hcond := ok.f1; rw [if_pos hc] at hcond
    rw [dif_pos hcond, dif_pos ok.f2, dif_pos ok.f3]
    simp only [wp_bind, bind_assoc, pure_bind]
    rw [if_pos hc]
    iintro ⟨⟨Ho, Hv, Hb⟩, Hf3, Hf4, #Hmw, HO⟩ HK
    iapply (enq_in d i arg4 g m4 s4 (bT i + (t + 1)) (t + 1) ((by rw [Nat.min_eq_left hc.le]; exact off10_eq _ (by omega))) (ok.f9 hc)
      (by rw [Nat.min_eq_left hc.le]; exact off12_eq _ (by omega))) $$ [Ho Hv Hb]
    · isplitl [Hb]; · iexact Hb
      isplitl [Ho] <;> iassumption
    iintro Hfl
    iapply (wait_in d i arg3 g3 m3 s3 (bT i + t) t (off13_eq _ ht) (off15_eq _ ht)) $$ [Hf3 HO]
    · isplitl [Hf3]; · iexact Hf3
      isplitr; · iexact Hmw
      iexact HO
    iintro ⟨⟨Hh3, Hp3⟩, Hs3, HO⟩
    iapply (wait_in d i arg4 g m4 s4 (bT i + t) t (off16_eq _ ht) (off18_eq _ ht)) $$ [Hf4 HO]
    · isplitl [Hf4]; · iexact Hf4
      isplitr; · iexact Hmw
      iexact HO
    iintro ⟨⟨Hh4, Hp4⟩, Hs4, HO⟩
    iapply wp_done
    iapply HK
    unfold inN
    rw [if_pos hc]
    isplitl [Hfl]; · iexact Hfl
    isplitl [Hh3 Hp3 Hs3]
    · isplitl [Hh3]; · iexact Hh3
      isplitl [Hp3] <;> iassumption
    isplitl [Hh4 Hp4 Hs4]
    · isplitl [Hh4]; · iexact Hh4
      isplitl [Hp4] <;> iassumption
    iexact HO
  · have hcond := ok.f1; rw [if_neg hc] at hcond
    rw [dif_neg (off_of hcond), dif_pos ok.f2, dif_pos ok.f3]
    simp only [wp_bind, bind_assoc, pure_bind]
    unfold inN
    simp only [if_neg hc]
    iintro ⟨⟨Ho, Hv, Hb⟩, Hf3, Hf4, #Hmw, HO⟩ HK
    iapply (wait_in d i arg3 g3 m3 s3 (bT i + t) t (off13_eq _ ht) (off15_eq _ ht)) $$ [Hf3 HO]
    · isplitl [Hf3]; · iexact Hf3
      isplitr; · iexact Hmw
      iexact HO
    iintro ⟨⟨Hh3, Hp3⟩, Hs3, HO⟩
    iapply (wait_in d i arg4 g m4 s4 (bT i + t) t (off16_eq _ ht) (off18_eq _ ht)) $$ [Hf4 HO]
    · isplitl [Hf4]; · iexact Hf4
      isplitr; · iexact Hmw
      iexact HO
    iintro ⟨⟨Hh4, Hp4⟩, Hs4, HO⟩
    iapply wp_done
    iapply HK
    isplitl [Ho Hv]; · isplitl [Ho] <;> iassumption
    isplitl [Hh3 Hp3 Hs3]
    · isplitl [Hh3]; · iexact Hh3
      isplitl [Hp3] <;> iassumption
    isplitl [Hh4 Hp4 Hs4]
    · isplitl [Hh4]; · iexact Hh4
      isplitl [Hp4] <;> iassumption
    iexact HO

set_option maxHeartbeats 4000000 in
set_option pp.maxSteps 200 in
theorem part3_wp (h1 : k1_cond1 i = 1#1) (t : Fin (k1_t1_loop i).trips) (hw4 : k1_chk4 i (wd t)) (hw3 : k1_chk3 i (wd t)) (hw2 : k1_chk2 i (wd t))
    (v7 : BitVec 32) (v94 : BitVec 1) (v97 v103 : BitVec 32) (v163 v164 : BitVec 1)
    (qx : PosShare TreeShare) (gx : Buf (Elt F) (arg2.view.loc (thr d i))) (w : S1x128.Idx → Elt F .i32) (hw : ∀ y, (w y).toNat < 10000) {Q : PUnit → sProp 𝕄} :
    iprop(xPt d i arg2 qx gx ∗ rOwn d i m5 t ∗ iHold d i m3 t w ∗ sem0 (F := F) d i q1.sem ∗ Transfers.MayWaits (thr d i) (default : HIx 1) O ∗ owesS (F := F) d i O W)
      ⊢ iprop((iprop(xPt d i arg2 qx gx ∗ rHold d i m5 t (gath ((xAll arg2).view.read (Elt F) gx) w) ∗ iHold d i m3 t w ∗ sem0 (F := F) d i q1.sem
              ∗ owesS (F := F) d i O W) -∗ Q ⟨⟩)
        -∗ Wp d i (k1_part3 (F := F) i arg2 harg2 arg3 harg3 arg4 harg4 arg5 harg5 arg6 harg6 m3 hm3 s3 m4 hm4 s4 m5 hm5 s5 m6 hm6 s6 q1 q2 q3 q4 h1 (wd t) (wd t) (wd t) (wd t) hw4 hw3 hw2 v7 v94 v97 v103 v163 v164) Q) := by
  have hb := nT_bd i
  have ht : t.val < 6 := by have := tlt i t; omega
  rw [k1_part3_eq_skeleton]
  unfold k1_part3_skel
  simp only [ite_self, pure_bind]
  iintro H HK
  iapply (gather_step d i arg2 qx gx m5 m3 q1.sem t t w hw (off19_eq _ ht) (off20_eq _ ht)) $$ H
  iintro H
  iapply wp_done
  iapply HK
  iexact H

set_option maxHeartbeats 4000000 in
set_option pp.maxSteps 200 in
theorem part4_wp (h1 : k1_cond1 i = 1#1) (t : Fin (k1_t1_loop i).trips) (hw5 : k1_chk5 i (wd t)) (hw4 : k1_chk4 i (wd t))
    (v96 : BitVec 1) (v97 v108 : BitVec 32)
    (qx : PosShare TreeShare) (gx : Buf (Elt F) (arg2.view.loc (thr d i))) (w : S1x128.Idx → Elt F .i32) (hw : ∀ y, (w y).toNat < 10000)
    (u : S128x128.Idx → Elt F .f32) (f5 g5 : Buf (Elt F) (arg5.view.loc (thr d i))) (f6 g6 : Buf (Elt F) (arg6.view.loc (thr d i)))
    (hg5 : (rBlock arg5 (bT i + t)).view.read (Elt F) g5 = u) (hg6 : (rBlock arg6 (bT i + t)).view.read (Elt F) g6 = gath ((xAll arg2).view.read (Elt F) gx) w) {Q} :
    iprop((xPt d i arg2 qx gx ∗ rOwn d i m6 t ∗ iHold d i m4 t w ∗ sem0 (F := F) d i q2.sem ∗ Transfers.MayWaits (thr d i) (default : HIx 1) O ∗ owesS (F := F) d i O W)
        ∗ (rPt d i arg5 f5 (bT i + t) ∗ rHold d i m5 t u ∗ sem0 (F := F) d i (semAt s5 t)) ∗ (rPt d i arg6 f6 (bT i + t) ∗ sem0 (F := F) d i (semAt s6 t)))
      ⊢ iprop((iprop(xPt d i arg2 qx gx ∗ iHold d i m4 t w ∗ sem0 (F := F) d i q2.sem ∗ owesS (F := F) d i O W
              ∗ rFly d i arg5 g5 m5 s5 (bT i + t) t ∗ rFly d i arg6 g6 m6 s6 (bT i + t) t)
            -∗ Q (p4R i h1 t (wd (min (t + 1) (nT i))) (wd t) (wd (min (t + 1) (nT i))) (wd t) (wd t) (wd (t - 1)) (wd t) (wd (t - 1)) (wd (t % nT i)) hw5 hw4 (chk1_t i t) v96 v97 v108))
        -∗ Wp d i (k1_part4 (F := F) i arg2 harg2 arg3 harg3 arg4 harg4 arg5 harg5 arg6 harg6 m3 hm3 s3 m4 hm4 s4 m5 hm5 s5 m6 hm6 s6 q1 q2 q3 q4 h1 t (wd (min (t + 1) (nT i))) (wd t) (wd (min (t + 1) (nT i))) (wd t) (wd t) (wd (t - 1)) (wd t) (wd (t - 1)) (wd (t % nT i)) hw5 hw4 (chk1_t i t) v96 v97 v108) Q) := by
  have ok := tripOK i t
  have hb := nT_bd i
  have ht : t.val < 6 := by have := tlt i t; omega
  rw [k1_part4_eq_skeleton]
  unfold k1_part4_skel p4R
  simp only [ite_self, bind_assoc, pure_bind]
  rw [dif_pos ok.f4, dif_pos ok.f5]
  iintro ⟨H, ⟨Ho5, Hh5, Hv5⟩, Ho6, Hv6⟩ HK
  iapply (gather_step d i arg2 qx gx m6 m4 q2.sem t t w hw (off21_eq _ ht) (off22_eq _ ht)) $$ H
  iintro ⟨Hx, Hh6, Hl, Hq, HO⟩
  unfold Wp
  rw [wp_bind]
  iapply (enq_out d i arg5 f5 g5 m5 s5 (bT i + t) t u hg5 (off23_eq _ ht) ok.f10 (off25_eq _ ht)) $$ [Ho5 Hh5 Hv5]
  · isplitl [Ho5]; · iexact Ho5
    isplitl [Hh5] <;> iassumption
  iintro Hf5
  rw [wp_bind]
  iapply (enq_out d i arg6 f6 g6 m6 s6 (bT i + t) t _ hg6 (off26_eq _ ht) ok.f11 (off28_eq _ ht)) $$ [Ho6 Hh6 Hv6]
  · isplitl [Ho6]; · iexact Ho6
    isplitl [Hh6] <;> iassumption
  iintro Hf6
  iapply wp_done
  iapply HK
  isplitl [Hx]; · iexact Hx
  isplitl [Hl]; · iexact Hl
  isplitl [Hq]; · iexact Hq
  isplitl [HO]; · iexact HO
  isplitl [Hf5] <;> iassumption

/-- A slot and the block that was written out from it, once it has arrived. -/
abbrev outD (a : Memref sig .scVector .hbm S13056x128 .f32) (g : Buf (Elt F) (a.view.loc (thr d i))) (m : Memref sig .scVector .vmem S2x128x128 .f32)
    (v : DmaSems sig S2) (t : ℕ) : sProp 𝕄 :=
  iprop((rOwn d i m (t + 1) ∗ sem0 (F := F) d i (semAt v (t + 1))) ∗ if 0 < t then rPt d i a g (bT i + (t - 1)) else emp)

theorem oM_back {t : ℕ} (h : 0 < t) : oM (t - 1) = oM (t + 1) := by
  have : (t - 1) % 2 = (t + 1) % 2 := by omega
  simp only [oM, this]

set_option maxHeartbeats 4000000 in
set_option pp.maxSteps 200 in
theorem part5_wp (h1 : k1_cond1 i = 1#1) (t : Fin (k1_t1_loop i).trips) (v94 v96 : BitVec 1) (v97 v103 v108 : BitVec 32) (v199 : BitVec 1) (c1 : BitVec 32)
    (g5 : Buf (Elt F) (arg5.view.loc (thr d i))) (g6 : Buf (Elt F) (arg6.view.loc (thr d i))) {Q} :
    iprop(outN d i arg5 g5 m5 s5 t ∗ outN d i arg6 g6 m6 s6 t ∗ Transfers.MayWaits (thr d i) (default : HIx 1) O ∗ owesS (F := F) d i O W)
      ⊢ iprop((iprop(outD d i arg5 g5 m5 s5 t ∗ outD d i arg6 g6 m6 s6 t ∗ owesS (F := F) d i O W)
            -∗ Q (p5R i h1 t (wd (min (t + 1) (nT i))) (wd t) (wd (min (t + 1) (nT i))) (wd t) (wd t) (wd (t - 1)) (wd t) (wd (t - 1)) (wd (t % nT i)) (chk1_t i t) v94 v96 v97 v103 v108 v199 c1))
        -∗ Wp d i (k1_part5 (F := F) i arg2 harg2 arg3 harg3 arg4 harg4 arg5 harg5 arg6 harg6 m3 hm3 s3 m4 hm4 s4 m5 hm5 s5 m6 hm6 s6 q1 q2 q3 q4 h1 t (wd (min (t + 1) (nT i))) (wd t) (wd (min (t + 1) (nT i))) (wd t) (wd t) (wd (t - 1)) (wd t) (wd (t - 1)) (wd (t % nT i)) (chk1_t i t) v94 v96 v97 v103 v108 v199 c1) Q) := by
  have ok := tripOK i t
  have hb := nT_bd i
  have ht : t.val - 1 < 6 := by have := tlt i t; omega
  rw [k1_part5_eq_skeleton]
  unfold k1_part5_skel p5R outN outD
  simp only [ite_self, bind_assoc, pure_bind]
  by_cases hc : 0 < t.val
  · have h16 := ok.f6; rw [if_pos hc] at h16
    have h17 := ok.f7; rw [if_pos hc] at h17
    rw [dif_pos h16, dif_pos h17]
    simp only [wp_bind, bind_assoc, pure_bind]
    simp only [if_pos hc]
    iintro ⟨Hf5, Hf6, #Hmw, HO⟩ HK
    iapply (wait_out d i arg5 g5 m5 s5 (bT i + (t - 1)) (t + 1) (ok.f12 hc) ((off31_eq _ ht).trans (oM_back hc))) $$ [Hf5 HO]
    · isplitl [Hf5]; · iexact Hf5
      isplitr; · iexact Hmw
      iexact HO
    iintro ⟨⟨Hp5, Hr5⟩, Hs5, HO⟩
    iapply (wait_out d i arg6 g6 m6 s6 (bT i + (t - 1)) (t + 1) (ok.f13 hc) ((off34_eq _ ht).trans (oM_back hc))) $$ [Hf6 HO]
    · isplitl [Hf6]; · iexact Hf6
      isplitr; · iexact Hmw
      iexact HO
    iintro ⟨⟨Hp6, Hr6⟩, Hs6, HO⟩
    iapply wp_done
    iapply HK
    isplitl [Hr5 Hs5 Hp5]
    · isplitr [Hp5]; · isplitl [Hr5] <;> iassumption
      iexact Hp5
    isplitl [Hr6 Hs6 Hp6]
    · isplitr [Hp6]; · isplitl [Hr6] <;> iassumption
      iexact Hp6
    iexact HO
  · have h16 := ok.f6; rw [if_neg hc] at h16
    have h17 := ok.f7; rw [if_neg hc] at h17
    rw [dif_neg (off_of h16), dif_neg (off_of h17)]
    simp only [if_neg hc, pure_bind]
    iintro ⟨Hf5, Hf6, #Hmw, HO⟩ HK
    iapply wp_done
    iapply HK
    isplitl [Hf5]
    · isplitl [Hf5]; · iexact Hf5
      iempintro
    isplitl [Hf6]
    · isplitl [Hf6]; · iexact Hf6
      iempintro
    iexact HO

end Body

end Cert.Proof
-- ==== Proof.Trip.lean ====
/-
  One trip of a tile's loop: what it holds before and after, and its run.
-/
module

public import proofs.«01_k».proof.Proof.Parts

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Body

variable (d : Dev nD) (i : grid1.Coords)
variable (arg2 : Memref sig .scVector .hbm S10000x128 .f32) (harg2 : arg2.IsWhole)
variable (arg3 : Memref sig .scVector .hbm S1x13056 .i32) (harg3 : arg3.IsWhole) (arg4 : Memref sig .scVector .hbm S1x13056 .i32) (harg4 : arg4.IsWhole)
variable (arg5 : Memref sig .scVector .hbm S13056x128 .f32) (harg5 : arg5.IsWhole) (arg6 : Memref sig .scVector .hbm S13056x128 .f32) (harg6 : arg6.IsWhole)
variable (m3 : Memref sig .scVector .vmem S2x1x128 .i32) (hm3 : m3.IsWhole) (s3 : DmaSems sig S2)
variable (m4 : Memref sig .scVector .vmem S2x1x128 .i32) (hm4 : m4.IsWhole) (s4 : DmaSems sig S2)
variable (m5 : Memref sig .scVector .vmem S2x128x128 .f32) (hm5 : m5.IsWhole) (s5 : DmaSems sig S2)
variable (m6 : Memref sig .scVector .vmem S2x128x128 .f32) (hm6 : m6.IsWhole) (s6 : DmaSems sig S2)
variable (q1 q2 q3 q4 : DmaSems sig S_)
variable {O : CellTallies nD τ sig (HIx 1)} {W : Waits sig (HIx 1)}

/-! ### What a tile holds between trips -/

/-- An index array's side before trip `t`: block `t` on its way into its slot, the other slot free, the later and the earlier blocks at rest. -/
abbrev inSt (a : Memref sig .scVector .hbm S1x13056 .i32) (g : Buf (Elt F) (a.view.loc (thr d i))) (m : Memref sig .scVector .vmem S2x1x128 .i32)
    (v : DmaSems sig S2) (t : ℕ) : sProp 𝕄 :=
  iprop(inN d i a g m v t ∗ (iOwn d i m (t + 1) ∗ sem0 (F := F) d i (semAt v (t + 1)))
    ∗ bigSep (Finset.Ico (t + 1) (nT i)) (fun b => iPt d i a g (bT i + b)) ∗ bigSep (Finset.range t) (fun b => iPt d i a g (bT i + b)))
/-- An output's side before trip `t`: the block before on its way out, the other slot free, the later blocks as they were, the earlier ones written. -/
abbrev outSt (a : Memref sig .scVector .hbm S13056x128 .f32) (f g : Buf (Elt F) (a.view.loc (thr d i))) (m : Memref sig .scVector .vmem S2x128x128 .f32)
    (v : DmaSems sig S2) (t : ℕ) : sProp 𝕄 :=
  iprop(outN d i a g m v t ∗ (rOwn d i m t ∗ sem0 (F := F) d i (semAt v t))
    ∗ bigSep (Finset.Ico t (nT i)) (fun b => rPt d i a f (bT i + b)) ∗ bigSep (Finset.range (t - 1)) (fun b => rPt d i a g (bT i + b)))

theorem slot_mod (t : ℕ) : (t + 2) % 2 = t % 2 := by omega

theorem iOwn_off (m : Memref sig .scVector .vmem S2x1x128 .i32) {o o' : Fin 3 → ℕ} (e : o = o') (h h') :
    (iprop(∃ f, (iSl m o h).view.loc (thr d i) ↦[(iSl m o h).view.set]{fullShare} f) : sProp 𝕄)
      = iprop(∃ f, (iSl m o' h').view.loc (thr d i) ↦[(iSl m o' h').view.set]{fullShare} f) := by
  subst e; rfl
theorem rOwn_off (m : Memref sig .scVector .vmem S2x128x128 .f32) {o o' : Fin 3 → ℕ} (e : o = o') (h h') :
    (iprop(∃ f, (rSl m o h).view.loc (thr d i) ↦[(rSl m o h).view.set]{fullShare} f) : sProp 𝕄)
      = iprop(∃ f, (rSl m o' h').view.loc (thr d i) ↦[(rSl m o' h').view.set]{fullShare} f) := by
  subst e; rfl
theorem oS_two (t : ℕ) : oS (t + 2) = oS t := by simp only [oS, slot_mod]
theorem iOwn_two (m : Memref sig .scVector .vmem S2x1x128 .i32) (t : ℕ) : iOwn (F := F) d i m (t + 2) = iOwn d i m t :=
  iOwn_off d i m (oS_two t) _ _
theorem rOwn_two (m : Memref sig .scVector .vmem S2x128x128 .f32) (t : ℕ) : rOwn (F := F) d i m (t + 2) = rOwn d i m t :=
  rOwn_off d i m (oS_two t) _ _
theorem semAt_two (v : DmaSems sig S2) (t : ℕ) : semAt v (t + 2) = semAt v t := by
  simp only [semAt, oM, slot_mod]
theorem rFly_two (a : Memref sig .scVector .hbm S13056x128 .f32) (g : Buf (Elt F) (a.view.loc (thr d i))) (m : Memref sig .scVector .vmem S2x128x128 .f32)
    (v : DmaSems sig S2) (b t : ℕ) : rFly d i a g m v b (t + 2) = rFly d i a g m v b t := by
  unfold rFly
  rw [rOwn_two, semAt_two]

theorem ico_open (f : ℕ → sProp 𝕄) (a n : ℕ) : bigSep (Finset.Ico a n) f ⊢ iprop((if a < n then f a else emp) ∗ bigSep (Finset.Ico (a + 1) n) f) := by
  by_cases h : a < n
  · rw [if_pos h, ← Finset.insert_Ico_succ_left_eq_Ico h, bigSep_insert (by simp)]
    exact .rfl
  · rw [if_neg h, Finset.Ico_eq_empty (by omega), Finset.Ico_eq_empty (by omega), bigSep_empty]
    iintro H
    isplitl [H]; · iexact H
    iempintro

theorem range_close (f : ℕ → sProp 𝕄) (t : ℕ) : iprop(f t ∗ bigSep (Finset.range t) f) ⊢ bigSep (Finset.range (t + 1)) f := by
  rw [Finset.range_add_one, bigSep_insert (by simp)]
  exact .rfl

theorem inSt_open (a : Memref sig .scVector .hbm S1x13056 .i32) (g : Buf (Elt F) (a.view.loc (thr d i))) (m : Memref sig .scVector .vmem S2x1x128 .i32)
    (v : DmaSems sig S2) (t : ℕ) (ht : t < nT i) :
    inSt d i a g m v t ⊢ iprop((iOwn d i m (t + 1) ∗ sem0 (F := F) d i (semAt v (t + 1)) ∗ if t + 1 < nT i then iPt d i a g (bT i + (t + 1)) else emp)
      ∗ iFly d i a g m v (bT i + t) t
      ∗ bigSep (Finset.Ico (t + 2) (nT i)) (fun b => iPt d i a g (bT i + b)) ∗ bigSep (Finset.range t) (fun b => iPt d i a g (bT i + b))) := by
  unfold inSt inN
  rw [if_pos ht]
  iintro ⟨Hf, ⟨Ho, Hs⟩, Hi, Hr⟩
  ihave Hi := (ico_open (fun b => iPt d i a g (bT i + b)) (t + 1) (nT i)) $$ Hi
  icases Hi with ⟨Hn, Hi⟩
  isplitl [Ho Hs Hn]
  · isplitl [Ho]; · iexact Ho
    isplitl [Hs]; · iexact Hs
    iexact Hn
  isplitl [Hf]; · iexact Hf
  isplitl [Hi] <;> iassumption

theorem inSt_close (a : Memref sig .scVector .hbm S1x13056 .i32) (g : Buf (Elt F) (a.view.loc (thr d i))) (m : Memref sig .scVector .vmem S2x1x128 .i32)
    (v : DmaSems sig S2) (t : ℕ) (w : S1x128.Idx → Elt F .i32) :
    iprop(inN d i a g m v (t + 1) ∗ (iHold d i m t w ∗ iPt d i a g (bT i + t) ∗ sem0 (F := F) d i (semAt v t))
      ∗ bigSep (Finset.Ico (t + 2) (nT i)) (fun b => iPt d i a g (bT i + b)) ∗ bigSep (Finset.range t) (fun b => iPt d i a g (bT i + b)))
      ⊢ inSt d i a g m v (t + 1) := by
  iintro ⟨Hn, ⟨⟨%f, Hf, -⟩, Hp, Hs⟩, Hi, Hr⟩
  unfold inSt
  isplitl [Hn]; · iexact Hn
  isplitl [Hf Hs]
  · rw [show t + 1 + 1 = t + 2 from rfl, iOwn_two, semAt_two]
    isplitl [Hf]; · iexists f; iexact Hf
    iexact Hs
  isplitl [Hi]; · iexact Hi
  iapply (range_close (fun b => iPt d i a g (bT i + b)) t)
  isplitl [Hp] <;> iassumption

theorem outSt_open (a : Memref sig .scVector .hbm S13056x128 .f32) (f g : Buf (Elt F) (a.view.loc (thr d i))) (m : Memref sig .scVector .vmem S2x128x128 .f32)
    (v : DmaSems sig S2) (t : ℕ) (ht : t < nT i) :
    outSt d i a f g m v t ⊢ iprop(rOwn d i m t ∗ (rPt d i a f (bT i + t) ∗ sem0 (F := F) d i (semAt v t)) ∗ outN d i a g m v t
      ∗ bigSep (Finset.Ico (t + 1) (nT i)) (fun b => rPt d i a f (bT i + b)) ∗ bigSep (Finset.range (t - 1)) (fun b => rPt d i a g (bT i + b))) := by
  unfold outSt
  iintro ⟨Hn, ⟨Ho, Hs⟩, Hi, Hr⟩
  ihave Hi := (ico_open (fun b => rPt d i a f (bT i + b)) t (nT i)) $$ Hi
  rw [if_pos ht]
  icases Hi with ⟨Hp, Hi⟩
  isplitl [Ho]; · iexact Ho
  isplitl [Hp Hs]; · isplitl [Hp] <;> iassumption
  isplitl [Hn]; · iexact Hn
  isplitl [Hi] <;> iassumption

theorem outSt_close (a : Memref sig .scVector .hbm S13056x128 .f32) (f g : Buf (Elt F) (a.view.loc (thr d i))) (m : Memref sig .scVector .vmem S2x128x128 .f32)
    (v : DmaSems sig S2) (t : ℕ) :
    iprop(rFly d i a g m v (bT i + t) t ∗ outD d i a g m v t
      ∗ bigSep (Finset.Ico (t + 1) (nT i)) (fun b => rPt d i a f (bT i + b)) ∗ bigSep (Finset.range (t - 1)) (fun b => rPt d i a g (bT i + b)))
      ⊢ outSt d i a f g m v (t + 1) := by
  unfold outSt outN outD
  rw [if_pos (Nat.succ_pos t), show t + 1 + 1 = t + 2 from rfl, rFly_two, show t + 1 - 1 = t from rfl]
  by_cases h : 0 < t
  · rw [if_pos h]
    obtain ⟨k, rfl⟩ : ∃ k, t = k + 1 := ⟨t - 1, by omega⟩
    rw [show k + 1 - 1 = k from rfl]
    iintro ⟨Hf, ⟨Ho, Hp⟩, Hi, Hr⟩
    isplitl [Hf]; · iexact Hf
    isplitl [Ho]; · iexact Ho
    isplitl [Hi]; · iexact Hi
    iapply (range_close (fun b => rPt d i a g (bT i + b)) k)
    isplitl [Hp] <;> iassumption
  · obtain rfl : t = 0 := by omega
    iintro ⟨Hf, ⟨Ho, Hp⟩, Hi, Hr⟩
    isplitl [Hf]; · iexact Hf
    isplitl [Ho]; · iexact Ho
    isplitl [Hi]; · iexact Hi
    iexact Hr

/-- All a tile holds before trip `t` of its loop. -/
abbrev tripSt (O : CellTallies nD τ sig (HIx 1)) (W : Waits sig (HIx 1)) (qx : PosShare TreeShare) (gx : Buf (Elt F) (arg2.view.loc (thr d i)))
    (g3 : Buf (Elt F) (arg3.view.loc (thr d i))) (g4 : Buf (Elt F) (arg4.view.loc (thr d i)))
    (f5 g5 : Buf (Elt F) (arg5.view.loc (thr d i))) (f6 g6 : Buf (Elt F) (arg6.view.loc (thr d i))) (t : ℕ) : sProp 𝕄 :=
  iprop(xPt d i arg2 qx gx ∗ inSt d i arg3 g3 m3 s3 t ∗ inSt d i arg4 g4 m4 s4 t ∗ outSt d i arg5 f5 g5 m5 s5 t ∗ outSt d i arg6 f6 g6 m6 s6 t
    ∗ sem0 (F := F) d i q1.sem ∗ sem0 (F := F) d i q2.sem ∗ owesS (F := F) d i O W)

set_option maxHeartbeats 8000000 in
set_option pp.maxSteps 200 in
theorem trip_wp (h1 : k1_cond1 i = 1#1) (t : Fin (k1_t1_loop i).trips) (v11 v22 v43 : BitVec 32) (v45 : BitVec 1) (c0 : BitVec 32) (qx : PosShare TreeShare) (gx : Buf (Elt F) (arg2.view.loc (thr d i)))
    (g3 : Buf (Elt F) (arg3.view.loc (thr d i))) (g4 : Buf (Elt F) (arg4.view.loc (thr d i)))
    (f5 g5 : Buf (Elt F) (arg5.view.loc (thr d i))) (f6 g6 : Buf (Elt F) (arg6.view.loc (thr d i)))
    (hw3 : ∀ b y, ((iBlock arg3 b).view.read (Elt F) g3 y).toNat < 10000) (hw4 : ∀ b y, ((iBlock arg4 b).view.read (Elt F) g4 y).toNat < 10000)
    (hg5 : ∀ b, (rBlock arg5 b).view.read (Elt F) g5 = gath ((xAll arg2).view.read (Elt F) gx) ((iBlock arg3 b).view.read (Elt F) g3))
    (hg6 : ∀ b, (rBlock arg6 b).view.read (Elt F) g6 = gath ((xAll arg2).view.read (Elt F) gx) ((iBlock arg4 b).view.read (Elt F) g4))
    {Q : W9 → sProp 𝕄} :
    iprop(tripSt d i arg2 arg3 arg4 arg5 arg6 m3 s3 m4 s4 m5 s5 m6 s6 q1 q2 O W qx gx g3 g4 f5 g5 f6 g6 t ∗ Transfers.MayWaits (thr d i) (default : HIx 1) O)
      ⊢ iprop((tripSt d i arg2 arg3 arg4 arg5 arg6 m3 s3 m4 s4 m5 s5 m6 s6 q1 q2 O W qx gx g3 g4 f5 g5 f6 g6 (t + 1) -∗ Q (accW i (t + 1)))
        -∗ Wp d i (k1_t1_body (F := F) i arg2 harg2 arg3 harg3 arg4 harg4 arg5 harg5 arg6 harg6 m3 hm3 s3 m4 hm4 s4 m5 hm5 s5 m6 hm6 s6 q1 q2 q3 q4 (v5W i) (v10W i) v11 h1 v22 v43 v45 c0 t (accW i t)) Q) := by
  have ht : t.val < nT i := tlt i t
  rw [← (tripOK i t).f19]
  unfold tripSt nextW k1_t1_body
  simp only [accW]
  iintro ⟨⟨Hx, Hi3, Hi4, Ho5, Ho6, Hq1, Hq2, HO⟩, #Hmw⟩ HK
  ihave Hi3 := (inSt_open d i arg3 g3 m3 s3 t ht) $$ Hi3
  icases Hi3 with ⟨Hn3, Hf3, Hr3⟩
  ihave Hi4 := (inSt_open d i arg4 g4 m4 s4 t ht) $$ Hi4
  icases Hi4 with ⟨Hn4, Hf4, Hr4⟩
  ihave Ho5 := (outSt_open d i arg5 f5 g5 m5 s5 t ht) $$ Ho5
  icases Ho5 with ⟨Hs5, ⟨Hp5, Hv5⟩, Hn5, Hr5⟩
  ihave Ho6 := (outSt_open d i arg6 f6 g6 m6 s6 t ht) $$ Ho6
  icases Ho6 with ⟨Hs6, ⟨Hp6, Hv6⟩, Hn6, Hr6⟩
  unfold Wp
  rw [wp_bind]
  iapply (part1_wp d i arg2 harg2 arg3 harg3 arg4 harg4 arg5 harg5 arg6 harg6 m3 hm3 s3 m4 hm4 s4 m5 hm5 s5 m6 hm6 s6 q1 q2 q3 q4 h1 t g3) $$ Hn3
  iintro Hn3
  rw [wp_bind]
  iapply (part2_wp (O := O) (W := W) d i arg2 harg2 arg3 harg3 arg4 harg4 arg5 harg5 arg6 harg6 m3 hm3 s3 m4 hm4 s4 m5 hm5 s5 m6 hm6 s6 q1 q2 q3 q4 h1 t _ _ _ _ _ _ g3 g4) $$ [Hn4 Hf3 Hf4 HO]
  · isplitl [Hn4]; · iexact Hn4
    isplitl [Hf3]; · iexact Hf3
    isplitl [Hf4]; · iexact Hf4
    isplitr; · iexact Hmw
    iexact HO
  iintro ⟨Hn4, ⟨Hh3, Hb3⟩, ⟨Hh4, Hb4⟩, HO⟩
  rw [wp_bind]
  iapply (part3_wp (O := O) (W := W) d i arg2 harg2 arg3 harg3 arg4 harg4 arg5 harg5 arg6 harg6 m3 hm3 s3 m4 hm4 s4 m5 hm5 s5 m6 hm6 s6 q1 q2 q3 q4 h1 t _ _ _ _ _ _ _ _ _ qx gx _ (hw3 _)) $$ [Hx Hs5 Hh3 Hq1 HO]
  · isplitl [Hx]; · iexact Hx
    isplitl [Hs5]; · iexact Hs5
    isplitl [Hh3]; · iexact Hh3
    isplitl [Hq1]; · iexact Hq1
    isplitr; · iexact Hmw
    iexact HO
  iintro ⟨Hx, Hh5, Hh3, Hq1, HO⟩
  rw [wp_bind]
  iapply (part4_wp (O := O) (W := W) d i arg2 harg2 arg3 harg3 arg4 harg4 arg5 harg5 arg6 harg6 m3 hm3 s3 m4 hm4 s4 m5 hm5 s5 m6 hm6 s6 q1 q2 q3 q4 h1 t _ _ _ _ _ qx gx _ (hw4 _) _ f5 g5 f6 g6 (hg5 _) (hg6 _)) $$ [Hx Hs6 Hh4 Hq2 HO Hp5 Hh5 Hv5 Hp6 Hv6]
  · isplitl [Hx Hs6 Hh4 Hq2 HO]
    · isplitl [Hx]; · iexact Hx
      isplitl [Hs6]; · iexact Hs6
      isplitl [Hh4]; · iexact Hh4
      isplitl [Hq2]; · iexact Hq2
      isplitr; · iexact Hmw
      iexact HO
    isplitl [Hp5 Hh5 Hv5]
    · isplitl [Hp5]; · iexact Hp5
      isplitl [Hh5] <;> iassumption
    isplitl [Hp6] <;> iassumption
  iintro ⟨Hx, Hh4, Hq2, HO, Hf5, Hf6⟩
  rw [wp_bind]
  iapply (part5_wp (O := O) (W := W) d i arg2 harg2 arg3 harg3 arg4 harg4 arg5 harg5 arg6 harg6 m3 hm3 s3 m4 hm4 s4 m5 hm5 s5 m6 hm6 s6 q1 q2 q3 q4 h1 t _ _ _ _ _ _ _ g5 g6) $$ [Hn5 Hn6 HO]
  · isplitl [Hn5]; · iexact Hn5
    isplitl [Hn6]; · iexact Hn6
    isplitr; · iexact Hmw
    iexact HO
  iintro ⟨Hd5, Hd6, HO⟩
  iapply wp_done
  simp only [p1R, p2R, p4R, p5R]
  iapply HK
  isplitl [Hx]; · iexact Hx
  isplitl [Hn3 Hh3 Hb3 Hr3]
  · iapply (inSt_close d i arg3 g3 m3 s3 t)
    isplitl [Hn3]; · iexact Hn3
    isplitl [Hh3 Hb3]
    · isplitl [Hh3] <;> iassumption
    iexact Hr3
  isplitl [Hn4 Hh4 Hb4 Hr4]
  · iapply (inSt_close d i arg4 g4 m4 s4 t)
    isplitl [Hn4]; · iexact Hn4
    isplitl [Hh4 Hb4]
    · isplitl [Hh4] <;> iassumption
    iexact Hr4
  isplitl [Hf5 Hd5 Hr5]
  · iapply (outSt_close d i arg5 f5 g5 m5 s5 t)
    isplitl [Hf5]; · iexact Hf5
    isplitl [Hd5] <;> iassumption
  isplitl [Hf6 Hd6 Hr6]
  · iapply (outSt_close d i arg6 f6 g6 m6 s6 t)
    isplitl [Hf6]; · iexact Hf6
    isplitl [Hd6] <;> iassumption
  isplitl [Hq1]; · iexact Hq1
  isplitl [Hq2] <;> iassumption

end Body

end Cert.Proof
-- ==== Proof.Tile.lean ====
/-
  The whole of a tile's task.
-/
module

public import proofs.«01_k».proof.Proof.Trip

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Body

variable (d : Dev nD) (i : grid1.Coords)
variable (arg2 : Memref sig .scVector .hbm S10000x128 .f32) (harg2 : arg2.IsWhole)
variable (arg3 : Memref sig .scVector .hbm S1x13056 .i32) (harg3 : arg3.IsWhole) (arg4 : Memref sig .scVector .hbm S1x13056 .i32) (harg4 : arg4.IsWhole)
variable (arg5 : Memref sig .scVector .hbm S13056x128 .f32) (harg5 : arg5.IsWhole) (arg6 : Memref sig .scVector .hbm S13056x128 .f32) (harg6 : arg6.IsWhole)
variable (m3 : Memref sig .scVector .vmem S2x1x128 .i32) (hm3 : m3.IsWhole) (s3 : DmaSems sig S2)
variable (m4 : Memref sig .scVector .vmem S2x1x128 .i32) (hm4 : m4.IsWhole) (s4 : DmaSems sig S2)
variable (m5 : Memref sig .scVector .vmem S2x128x128 .f32) (hm5 : m5.IsWhole) (s5 : DmaSems sig S2)
variable (m6 : Memref sig .scVector .vmem S2x128x128 .f32) (hm6 : m6.IsWhole) (s6 : DmaSems sig S2)
variable (q1 q2 q3 q4 : DmaSems sig S_)
variable {O : CellTallies nD τ sig (HIx 1)} {W : Waits sig (HIx 1)}

theorem loop_wp {σ α : Type} {l : Scf.Loop 32} {ok} {init : σ} {body : Fin l.trips → σ → Prog (TpuEff nD τ sig (Elt F) Λ₀ (thr d i).2) σ}
    (I : ℕ → σ → sProp 𝕄) (hbody : ∀ (k : Fin l.trips) (acc : σ), I k acc ⊢ Wp d i (body k acc) (I (k.val + 1)))
    {kk : σ → Prog (TpuEff nD τ sig (Elt F) Λ₀ (thr d i).2) α} {Q : α → sProp 𝕄} :
    I 0 init ⊢ iprop((∀ acc, I l.trips acc -∗ Wp d i (kk acc) Q) -∗ Wp d i (Scf.Loop.for l ok init body >>= kk) Q) :=
  Scf.wp_for_bind _ _ _ _ _ _ ok init body I hbody

theorem acc_zero : accW i 0 = (wd (min (0 + 1) (nT i)), 0#32, wd (min (0 + 1) (nT i)), 0#32, 0#32, 0#32, 0#32, 0#32, 0#32) := by
  simp only [accW, Nat.zero_mod, Nat.zero_sub]

/-- The loop's run, from the first trip's state to the last's. -/
theorem loop1_wp (h1 : k1_cond1 i = 1#1) (v11 v22 v43 : BitVec 32) (v45 : BitVec 1) (c0 : BitVec 32) (qx : PosShare TreeShare) (gx : Buf (Elt F) (arg2.view.loc (thr d i)))
    (g3 : Buf (Elt F) (arg3.view.loc (thr d i))) (g4 : Buf (Elt F) (arg4.view.loc (thr d i)))
    (f5 g5 : Buf (Elt F) (arg5.view.loc (thr d i))) (f6 g6 : Buf (Elt F) (arg6.view.loc (thr d i)))
    (hw3 : ∀ b y, ((iBlock arg3 b).view.read (Elt F) g3 y).toNat < 10000) (hw4 : ∀ b y, ((iBlock arg4 b).view.read (Elt F) g4 y).toNat < 10000)
    (hg5 : ∀ b, (rBlock arg5 b).view.read (Elt F) g5 = gath ((xAll arg2).view.read (Elt F) gx) ((iBlock arg3 b).view.read (Elt F) g3))
    (hg6 : ∀ b, (rBlock arg6 b).view.read (Elt F) g6 = gath ((xAll arg2).view.read (Elt F) gx) ((iBlock arg4 b).view.read (Elt F) g4))
    {α : Type} {ok} {kk : W9 → Prog (TpuEff nD τ sig (Elt F) Λ₀ (thr d i).2) α} {Q : α → sProp 𝕄} :
    iprop(tripSt d i arg2 arg3 arg4 arg5 arg6 m3 s3 m4 s4 m5 s5 m6 s6 q1 q2 O W qx gx g3 g4 f5 g5 f6 g6 0 ∗ Transfers.MayWaits (thr d i) (default : HIx 1) O)
      ⊢ iprop((tripSt d i arg2 arg3 arg4 arg5 arg6 m3 s3 m4 s4 m5 s5 m6 s6 q1 q2 O W qx gx g3 g4 f5 g5 f6 g6 (nT i) -∗ Wp d i (kk (accW i (nT i))) Q)
        -∗ Wp d i (Scf.Loop.for (k1_t1_loop i) ok (wd (min (0 + 1) (nT i)), 0#32, wd (min (0 + 1) (nT i)), 0#32, 0#32, 0#32, 0#32, 0#32, 0#32)
            (k1_t1_body (F := F) i arg2 harg2 arg3 harg3 arg4 harg4 arg5 harg5 arg6 harg6 m3 hm3 s3 m4 hm4 s4 m5 hm5 s5 m6 hm6 s6 q1 q2 q3 q4 (v5W i) (v10W i) v11 h1 v22 v43 v45 c0) >>= kk) Q) := by
  iintro ⟨HT, #Hmw⟩ HK
  iapply (loop_wp d i (fun t acc => iprop((tripSt d i arg2 arg3 arg4 arg5 arg6 m3 s3 m4 s4 m5 s5 m6 s6 q1 q2 O W qx gx g3 g4 f5 g5 f6 g6 t ∗ Transfers.MayWaits (thr d i) (default : HIx 1) O) ∗ ⌜acc = accW i t⌝)) (by
    intro k acc
    iintro ⟨⟨H, #Hmw⟩, %e⟩
    subst e
    iapply (trip_wp d i arg2 harg2 arg3 harg3 arg4 harg4 arg5 harg5 arg6 harg6 m3 hm3 s3 m4 hm4 s4 m5 hm5 s5 m6 hm6 s6 q1 q2 q3 q4 h1 k v11 v22 v43 v45 c0 qx gx g3 g4 f5 g5 f6 g6 hw3 hw4 hg5 hg6) $$ [H]
    · isplitl [H]; · iexact H
      iexact Hmw
    iintro H
    isplitl [H]
    · isplitl [H]; · iexact H
      iexact Hmw
    ipureintro; rfl)) $$ [HT]
  · isplitl [HT]
    · isplitl [HT]; · iexact HT
      iexact Hmw
    ipureintro; exact (acc_zero i).symm
  iintro %acc ⟨⟨H, -⟩, %e⟩
  rw [trips_eq] at e
  subst e
  rw [trips_eq]
  iapply HK
  iexact H

/-- A loop of no trips. -/
theorem loop2_wp {σ α : Type} {l : Scf.Loop 32} (hl : l.trips = 0) {ok} {init : σ} {body : Fin l.trips → σ → Prog (TpuEff nD τ sig (Elt F) Λ₀ (thr d i).2) σ}
    {kk : σ → Prog (TpuEff nD τ sig (Elt F) Λ₀ (thr d i).2) α} {Q : α → sProp 𝕄} :
    Wp d i (kk init) Q ⊢ Wp d i (Scf.Loop.for l ok init body >>= kk) Q := by
  iintro H
  iapply (loop_wp d i (fun _ acc => iprop(⌜acc = init⌝)) (fun k => (hl ▸ k).elim0)) $$ []
  · ipureintro; rfl
  iintro %acc %e
  subst e
  iexact H

set_option pp.maxSteps 200 in
theorem part11_wp (h1 : k1_cond1 i = 1#1) (g : Buf (Elt F) (arg3.view.loc (thr d i))) {Q} :
    iprop(iPt d i arg3 g (bT i) ∗ iOwn d i m3 0 ∗ sem0 (F := F) d i (semAt s3 0))
      ⊢ iprop((iFly d i arg3 g m3 s3 (bT i) 0 -∗ Q ⟨Scalar.addi 0#32 (v10W i), wd (min (0 + 1) (nT i)), (Scalar.andi 1#1 (Scalar.cmpi .sgt (Scalar.muli 1#32 (v5W i)) 0#32)), 0#32⟩)
        -∗ Wp d i (k1_part11 (F := F) i arg2 harg2 arg3 harg3 arg4 harg4 arg5 harg5 arg6 harg6 m3 hm3 s3 m4 hm4 s4 m5 hm5 s5 m6 hm6 s6 q1 q2 q3 q4 (v5W i) (v10W i) h1) Q) := by
  rw [k1_part11_eq_skeleton, ← init_eq]
  unfold k1_part11_skel
  simp only [bind_assoc, pure_bind]
  rw [dif_pos (cond2_eq i)]
  unfold Wp
  simp only [bind_assoc, pure_bind, wp_bind]
  iintro H HK
  iapply (enq_in d i arg3 g m3 s3 (bT i) 0 off1_eq (off2_eq i) off3_eq) $$ H
  iintro H
  iapply wp_done
  iapply HK
  iexact H

set_option pp.maxSteps 200 in
theorem part12_wp (h1 : k1_cond1 i = 1#1) (v11 v22 : BitVec 32) (c0 : BitVec 32) (qx : PosShare TreeShare) (gx : Buf (Elt F) (arg2.view.loc (thr d i)))
    (g3 : Buf (Elt F) (arg3.view.loc (thr d i))) (g4 : Buf (Elt F) (arg4.view.loc (thr d i)))
    (f5 g5 : Buf (Elt F) (arg5.view.loc (thr d i))) (f6 g6 : Buf (Elt F) (arg6.view.loc (thr d i)))
    (hw3 : ∀ b y, ((iBlock arg3 b).view.read (Elt F) g3 y).toNat < 10000) (hw4 : ∀ b y, ((iBlock arg4 b).view.read (Elt F) g4 y).toNat < 10000)
    (hg5 : ∀ b, (rBlock arg5 b).view.read (Elt F) g5 = gath ((xAll arg2).view.read (Elt F) gx) ((iBlock arg3 b).view.read (Elt F) g3))
    (hg6 : ∀ b, (rBlock arg6 b).view.read (Elt F) g6 = gath ((xAll arg2).view.read (Elt F) gx) ((iBlock arg4 b).view.read (Elt F) g4)) {Q} :
    iprop((iPt d i arg4 g4 (bT i) ∗ iOwn d i m4 0 ∗ sem0 (F := F) d i (semAt s4 0)) ∗ (iFly d i arg4 g4 m4 s4 (bT i) 0 -∗ tripSt d i arg2 arg3 arg4 arg5 arg6 m3 s3 m4 s4 m5 s5 m6 s6 q1 q2 O W qx gx g3 g4 f5 g5 f6 g6 0)
        ∗ Transfers.MayWaits (thr d i) (default : HIx 1) O)
      ⊢ iprop((∀ v67 v68 v76, tripSt d i arg2 arg3 arg4 arg5 arg6 m3 s3 m4 s4 m5 s5 m6 s6 q1 q2 O W qx gx g3 g4 f5 g5 f6 g6 (nT i) -∗ Q ⟨wd (nT i - 1), wd (nT i - 1), wd (nT i % nT i), chk13_ok i, chk12_ok i, chk11_ok i, v67, v68, v76⟩)
        -∗ Wp d i (k1_part12 (F := F) i arg2 harg2 arg3 harg3 arg4 harg4 arg5 harg5 arg6 harg6 m3 hm3 s3 m4 hm4 s4 m5 hm5 s5 m6 hm6 s6 q1 q2 q3 q4 (v5W i) (v10W i) v11 h1 v22 (wd (min (0 + 1) (nT i))) (Scalar.andi 1#1 (Scalar.cmpi .sgt (Scalar.muli 1#32 (v5W i)) 0#32)) c0) Q) := by
  rw [k1_part12_eq_skeleton]
  unfold k1_part12_skel
  simp only [bind_assoc, pure_bind, init_eq]
  rw [dif_pos (cond3_eq i)]
  unfold Wp
  simp only [bind_assoc, pure_bind]
  rw [wp_bind]
  iintro ⟨H, HT, #Hmw⟩ HK
  iapply (enq_in d i arg4 g4 m4 s4 (bT i) 0 off4_eq (off5_eq i) off6_eq) $$ H
  iintro H
  ihave H := HT $$ H
  iapply (loop1_wp d i arg2 harg2 arg3 harg3 arg4 harg4 arg5 harg5 arg6 harg6 m3 hm3 s3 m4 hm4 s4 m5 hm5 s5 m6 hm6 s6 q1 q2 q3 q4 h1 v11 v22 _ _ c0 qx gx g3 g4 f5 g5 f6 g6 hw3 hw4 hg5 hg6) $$ [H]
  · isplitl [H]; · iexact H
    iexact Hmw
  iintro H
  iapply (loop2_wp d i (trips2_eq i))
  simp only [accW]
  iapply (asm_wp d i (chk13_ok i))
  iapply (asm_wp d i (chk12_ok i))
  iapply (asm_wp d i (chk11_ok i))
  iapply wp_done
  iapply HK
  iexact H

/-- What a tile's task starts from: the table's share, the tile's blocks of the four arrays, its slots and its semaphores. -/
abbrev tileSt (O : CellTallies nD τ sig (HIx 1)) (W : Waits sig (HIx 1)) (qx : PosShare TreeShare) (gx : Buf (Elt F) (arg2.view.loc (thr d i)))
    (g3 : Buf (Elt F) (arg3.view.loc (thr d i))) (g4 : Buf (Elt F) (arg4.view.loc (thr d i)))
    (f5 : Buf (Elt F) (arg5.view.loc (thr d i))) (f6 : Buf (Elt F) (arg6.view.loc (thr d i))) : sProp 𝕄 :=
  iprop((xPt d i arg2 qx gx ∗ bigSep (Finset.range (nT i)) (fun b => iPt d i arg3 g3 (bT i + b)) ∗ bigSep (Finset.range (nT i)) (fun b => iPt d i arg4 g4 (bT i + b))
      ∗ bigSep (Finset.range (nT i)) (fun b => rPt d i arg5 f5 (bT i + b)) ∗ bigSep (Finset.range (nT i)) (fun b => rPt d i arg6 f6 (bT i + b)))
    ∗ ((iOwn d i m3 0 ∗ iOwn d i m3 1) ∗ (iOwn d i m4 0 ∗ iOwn d i m4 1) ∗ (rOwn d i m5 0 ∗ rOwn d i m5 1) ∗ (rOwn d i m6 0 ∗ rOwn d i m6 1))
    ∗ ((sem0 (F := F) d i (semAt s3 0) ∗ sem0 (F := F) d i (semAt s3 1)) ∗ (sem0 (F := F) d i (semAt s4 0) ∗ sem0 (F := F) d i (semAt s4 1))
      ∗ (sem0 (F := F) d i (semAt s5 0) ∗ sem0 (F := F) d i (semAt s5 1)) ∗ (sem0 (F := F) d i (semAt s6 0) ∗ sem0 (F := F) d i (semAt s6 1)))
    ∗ (sem0 (F := F) d i q1.sem ∗ sem0 (F := F) d i q2.sem) ∗ owesS (F := F) d i O W)

theorem oS_par {t : ℕ} {k : ℕ} (h : t % 2 = k % 2) : oS t = oS k := by simp only [oS, h]
theorem iOwn_par (m : Memref sig .scVector .vmem S2x1x128 .i32) {t k : ℕ} (h : t % 2 = k % 2) : iOwn (F := F) d i m t = iOwn d i m k :=
  iOwn_off d i m (oS_par h) _ _
theorem rOwn_par (m : Memref sig .scVector .vmem S2x128x128 .f32) {t k : ℕ} (h : t % 2 = k % 2) : rOwn (F := F) d i m t = rOwn d i m k :=
  rOwn_off d i m (oS_par h) _ _
theorem semAt_par (v : DmaSems sig S2) {t k : ℕ} (h : t % 2 = k % 2) : semAt v t = semAt v k := by simp only [semAt, oM, h]

/-- Two slots named by any two neighbours are the slots of nought and one. -/
theorem iPair (m : Memref sig .scVector .vmem S2x1x128 .i32) (v : DmaSems sig S2) (t : ℕ) :
    iprop((iOwn (F := F) d i m t ∗ sem0 (F := F) d i (semAt v t)) ∗ iOwn (F := F) d i m (t + 1) ∗ sem0 (F := F) d i (semAt v (t + 1)))
      ⊢ iprop((iOwn (F := F) d i m 0 ∗ iOwn d i m 1) ∗ sem0 (F := F) d i (semAt v 0) ∗ sem0 (F := F) d i (semAt v 1)) := by
  rcases Nat.mod_two_eq_zero_or_one t with h | h
  · rw [iOwn_par d i m (t := t) (k := 0) (by omega), iOwn_par d i m (t := t + 1) (k := 1) (by omega), semAt_par v (t := t) (k := 0) (by omega),
      semAt_par v (t := t + 1) (k := 1) (by omega)]
    iintro ⟨⟨H0, H1⟩, H2, H3⟩
    isplitl [H0 H2]; · isplitl [H0] <;> iassumption
    isplitl [H1] <;> iassumption
  · rw [iOwn_par d i m (t := t) (k := 1) (by omega), iOwn_par d i m (t := t + 1) (k := 0) (by omega), semAt_par v (t := t) (k := 1) (by omega),
      semAt_par v (t := t + 1) (k := 0) (by omega)]
    iintro ⟨⟨H0, H1⟩, H2, H3⟩
    isplitl [H0 H2]; · isplitl [H2] <;> iassumption
    isplitl [H3] <;> iassumption
theorem rPair (m : Memref sig .scVector .vmem S2x128x128 .f32) (v : DmaSems sig S2) (t : ℕ) :
    iprop((rOwn (F := F) d i m t ∗ sem0 (F := F) d i (semAt v t)) ∗ rOwn (F := F) d i m (t + 1) ∗ sem0 (F := F) d i (semAt v (t + 1)))
      ⊢ iprop((rOwn (F := F) d i m 0 ∗ rOwn d i m 1) ∗ sem0 (F := F) d i (semAt v 0) ∗ sem0 (F := F) d i (semAt v 1)) := by
  rcases Nat.mod_two_eq_zero_or_one t with h | h
  · rw [rOwn_par d i m (t := t) (k := 0) (by omega), rOwn_par d i m (t := t + 1) (k := 1) (by omega), semAt_par v (t := t) (k := 0) (by omega),
      semAt_par v (t := t + 1) (k := 1) (by omega)]
    iintro ⟨⟨H0, H1⟩, H2, H3⟩
    isplitl [H0 H2]; · isplitl [H0] <;> iassumption
    isplitl [H1] <;> iassumption
  · rw [rOwn_par d i m (t := t) (k := 1) (by omega), rOwn_par d i m (t := t + 1) (k := 0) (by omega), semAt_par v (t := t) (k := 1) (by omega),
      semAt_par v (t := t + 1) (k := 0) (by omega)]
    iintro ⟨⟨H0, H1⟩, H2, H3⟩
    isplitl [H0 H2]; · isplitl [H2] <;> iassumption
    isplitl [H3] <;> iassumption

theorem in_end (a : Memref sig .scVector .hbm S1x13056 .i32) (g : Buf (Elt F) (a.view.loc (thr d i))) (m : Memref sig .scVector .vmem S2x1x128 .i32)
    (v : DmaSems sig S2) : inSt d i a g m v (nT i) ⊢ iprop(((iOwn (F := F) d i m 0 ∗ iOwn d i m 1) ∗ sem0 (F := F) d i (semAt v 0) ∗ sem0 (F := F) d i (semAt v 1))
      ∗ bigSep (Finset.range (nT i)) (fun b => iPt d i a g (bT i + b))) := by
  unfold inSt inN
  rw [if_neg (lt_irrefl _)]
  iintro ⟨H0, H1, -, H2⟩
  isplitr [H2]
  · iapply (iPair d i m v (nT i))
    isplitl [H0] <;> iassumption
  iexact H2

theorem out_end (a : Memref sig .scVector .hbm S13056x128 .f32) (g : Buf (Elt F) (a.view.loc (thr d i))) (m : Memref sig .scVector .vmem S2x128x128 .f32)
    (v : DmaSems sig S2) : iprop(((rPt d i a g (bT i + (nT i - 1)) ∗ rOwn d i m (nT i + 1)) ∗ sem0 (F := F) d i (semAt v (nT i + 1)))
        ∗ (rOwn d i m (nT i) ∗ sem0 (F := F) d i (semAt v (nT i))) ∗ bigSep (Finset.range (nT i - 1)) (fun b => rPt d i a g (bT i + b)))
      ⊢ iprop(((rOwn (F := F) d i m 0 ∗ rOwn d i m 1) ∗ sem0 (F := F) d i (semAt v 0) ∗ sem0 (F := F) d i (semAt v 1))
      ∗ bigSep (Finset.range (nT i)) (fun b => rPt d i a g (bT i + b))) := by
  iintro ⟨⟨⟨Hp, Ho⟩, Hs⟩, H1, H2⟩
  isplitr [Hp H2]
  · iapply (rPair d i m v (nT i))
    isplitl [H1]; · iexact H1
    isplitl [Ho] <;> iassumption
  have hb := nT_bd i
  obtain ⟨k, hk⟩ : ∃ k, nT i = k + 1 := ⟨nT i - 1, by omega⟩
  have e : bigSep (Finset.range (nT i)) (fun b => rPt d i a g (bT i + b)) = bigSep (Finset.range (nT i - 1 + 1)) (fun b => rPt d i a g (bT i + b)) := by
    rw [show nT i - 1 + 1 = nT i by omega]
  ihave H := (range_close (fun b => rPt d i a g (bT i + b)) (nT i - 1)) $$ [Hp H2]
  · isplitl [Hp] <;> iassumption
  iapply (Entails.of_eq e.symm)
  iexact H

set_option pp.maxSteps 200 in
set_option maxHeartbeats 4000000 in
theorem tile_wp (qx : PosShare TreeShare) (gx : Buf (Elt F) (arg2.view.loc (thr d i)))
    (g3 : Buf (Elt F) (arg3.view.loc (thr d i))) (g4 : Buf (Elt F) (arg4.view.loc (thr d i)))
    (f5 g5 : Buf (Elt F) (arg5.view.loc (thr d i))) (f6 g6 : Buf (Elt F) (arg6.view.loc (thr d i)))
    (hw3 : ∀ b y, ((iBlock arg3 b).view.read (Elt F) g3 y).toNat < 10000) (hw4 : ∀ b y, ((iBlock arg4 b).view.read (Elt F) g4 y).toNat < 10000)
    (hg5 : ∀ b, (rBlock arg5 b).view.read (Elt F) g5 = gath ((xAll arg2).view.read (Elt F) gx) ((iBlock arg3 b).view.read (Elt F) g3))
    (hg6 : ∀ b, (rBlock arg6 b).view.read (Elt F) g6 = gath ((xAll arg2).view.read (Elt F) gx) ((iBlock arg4 b).view.read (Elt F) g4)) {Q : PUnit → sProp 𝕄} :
    iprop(tileSt d i arg2 arg3 arg4 arg5 arg6 m3 s3 m4 s4 m5 s5 m6 s6 q1 q2 O W qx gx g3 g4 f5 f6 ∗ Transfers.MayWaits (thr d i) (default : HIx 1) O)
      ⊢ iprop((tileSt d i arg2 arg3 arg4 arg5 arg6 m3 s3 m4 s4 m5 s5 m6 s6 q1 q2 O W qx gx g3 g4 g5 g6 -∗ Q ⟨⟩)
        -∗ Wp d i (cc1_k (F := F) i arg2 harg2 arg3 harg3 arg4 harg4 arg5 harg5 arg6 harg6 m3 hm3 s3 m4 hm4 s4 m5 hm5 s5 m6 hm6 s6 q1 q2 q3 q4) Q) := by
  have hb := nT_bd i
  rw [cc1_k_eq_skeleton]
  unfold cc1_k_skel tileSt
  simp only [ite_self, dite_eq_ite, bind_assoc, pure_bind, dif_pos (cond1_eq i), dif_pos (cond34_eq i), dif_pos (cond35_eq i)]
  unfold Wp
  iintro ⟨⟨⟨Hx, Hi3, Hi4, Ho5, Ho6⟩, ⟨⟨Ha3, Hb3⟩, ⟨Ha4, Hb4⟩, ⟨Ha5, Hb5⟩, Ha6, Hb6⟩, ⟨⟨Hs3, Ht3⟩, ⟨Hs4, Ht4⟩, ⟨Hs5, Ht5⟩, Hs6, Ht6⟩, ⟨Hq1, Hq2⟩, HO⟩, #Hmw⟩ HK
  have e0 : ∀ f : ℕ → sProp 𝕄, bigSep (Finset.range (nT i)) f ⊢ iprop(f 0 ∗ bigSep (Finset.Ico 1 (nT i)) f) := by
    intro f
    have := ico_open f 0 (nT i)
    rw [if_pos (by omega), ← Finset.range_eq_Ico] at this
    exact this
  ihave Hi3 := (e0 (fun b => iPt d i arg3 g3 (bT i + b))) $$ Hi3
  icases Hi3 with ⟨Hp3, Hi3⟩
  ihave Hi4 := (e0 (fun b => iPt d i arg4 g4 (bT i + b))) $$ Hi4
  icases Hi4 with ⟨Hp4, Hi4⟩
  rw [wp_bind]
  iapply (part11_wp d i arg2 harg2 arg3 harg3 arg4 harg4 arg5 harg5 arg6 harg6 m3 hm3 s3 m4 hm4 s4 m5 hm5 s5 m6 hm6 s6 q1 q2 q3 q4 (cond1_eq i) g3) $$ [Hp3 Ha3 Hs3]
  · isplitl [Hp3]; · iexact Hp3
    isplitl [Ha3] <;> iassumption
  iintro Hf3
  rw [wp_bind]
  iapply (part12_wp (O := O) (W := W) d i arg2 harg2 arg3 harg3 arg4 harg4 arg5 harg5 arg6 harg6 m3 hm3 s3 m4 hm4 s4 m5 hm5 s5 m6 hm6 s6 q1 q2 q3 q4 (cond1_eq i) _ _ _ qx gx g3 g4 f5 g5 f6 g6 hw3 hw4 hg5 hg6) $$ [Hx Hp4 Ha4 Hs4 Hf3 Hb3 Ht3 Hi3 Hb4 Ht4 Hi4 Ha5 Hb5 Hs5 Ht5 Ho5 Ha6 Hb6 Hs6 Ht6 Ho6 Hq1 Hq2 HO]
  · isplitl [Hp4 Ha4 Hs4]
    · isplitl [Hp4]; · iexact Hp4
      isplitl [Ha4] <;> iassumption
    isplitl
    · iintro Hf4
      isplitl [Hx]; · iexact Hx
      isplitl [Hf3 Hb3 Ht3 Hi3]
      · unfold inSt inN
        rw [if_pos (by omega)]
        isplitl [Hf3]; · iexact Hf3
        isplitl [Hb3 Ht3]; · isplitl [Hb3] <;> iassumption
        isplitl [Hi3]; · iexact Hi3
        rw [Finset.range_zero, bigSep_empty]
        iempintro
      isplitl [Hf4 Hb4 Ht4 Hi4]
      · unfold inSt inN
        rw [if_pos (by omega)]
        isplitl [Hf4]; · iexact Hf4
        isplitl [Hb4 Ht4]; · isplitl [Hb4] <;> iassumption
        isplitl [Hi4]; · iexact Hi4
        rw [Finset.range_zero, bigSep_empty]
        iempintro
      isplitl [Ha5 Hb5 Hs5 Ht5 Ho5]
      · unfold outSt outN
        rw [if_neg (lt_irrefl 0)]
        isplitl [Hb5 Ht5]; · isplitl [Hb5] <;> iassumption
        isplitl [Ha5 Hs5]; · isplitl [Ha5] <;> iassumption
        rw [← Finset.range_eq_Ico]
        isplitl [Ho5]; · iexact Ho5
        rw [Nat.zero_sub, Finset.range_zero, bigSep_empty]
        iempintro
      isplitl [Ha6 Hb6 Hs6 Ht6 Ho6]
      · unfold outSt outN
        rw [if_neg (lt_irrefl 0)]
        isplitl [Hb6 Ht6]; · isplitl [Hb6] <;> iassumption
        isplitl [Ha6 Hs6]; · isplitl [Ha6] <;> iassumption
        rw [← Finset.range_eq_Ico]
        isplitl [Ho6]; · iexact Ho6
        rw [Nat.zero_sub, Finset.range_zero, bigSep_empty]
        iempintro
      isplitl [Hq1]; · iexact Hq1
      isplitl [Hq2] <;> iassumption
    iexact Hmw
  iintro %v67 %v68 %v76 ⟨Hx, Hi3, Hi4, ⟨Hf5, Hn5, -, Hr5⟩, ⟨Hf6, Hn6, -, Hr6⟩, Hq1, Hq2, HO⟩
  have p0 : 0 < nT i := by omega
  have em : oM (nT i - 1) = oM (nT i + 1) := oM_back p0
  ihave Hf5 := (Entails.of_eq (if_pos p0)) $$ Hf5
  ihave Hf6 := (Entails.of_eq (if_pos p0)) $$ Hf6
  rw [wp_bind]
  iapply (wait_out d i arg5 g5 m5 s5 (bT i + (nT i - 1)) (nT i + 1) (off64_eq i) ((off65_eq _ (by omega)).trans em)) $$ [Hf5 HO]
  · isplitl [Hf5]; · iexact Hf5
    isplitr; · iexact Hmw
    iexact HO
  iintro ⟨Hf5, Hs5, HO⟩
  rw [wp_bind]
  iapply (wait_out d i arg6 g6 m6 s6 (bT i + (nT i - 1)) (nT i + 1) (off68_eq i) ((off69_eq _ (by omega)).trans em)) $$ [Hf6 HO]
  · isplitl [Hf6]; · iexact Hf6
    isplitr; · iexact Hmw
    iexact HO
  iintro ⟨Hf6, Hs6, HO⟩
  iapply wp_done
  iapply HK
  ihave Hi3 := (in_end d i arg3 g3 m3 s3) $$ Hi3
  icases Hi3 with ⟨⟨Hm3, Hv3⟩, Hi3⟩
  ihave Hi4 := (in_end d i arg4 g4 m4 s4) $$ Hi4
  icases Hi4 with ⟨⟨Hm4, Hv4⟩, Hi4⟩
  ihave Ho5 := (out_end d i arg5 g5 m5 s5) $$ [Hf5 Hs5 Hn5 Hr5]
  · isplitl [Hf5 Hs5]; · isplitl [Hf5] <;> iassumption
    isplitl [Hn5] <;> iassumption
  icases Ho5 with ⟨⟨Hm5, Hv5⟩, Ho5⟩
  ihave Ho6 := (out_end d i arg6 g6 m6 s6) $$ [Hf6 Hs6 Hn6 Hr6]
  · isplitl [Hf6 Hs6]; · isplitl [Hf6] <;> iassumption
    isplitl [Hn6] <;> iassumption
  icases Ho6 with ⟨⟨Hm6, Hv6⟩, Ho6⟩
  isplitl [Hx Hi3 Hi4 Ho5 Ho6]
  · isplitl [Hx]; · iexact Hx
    isplitl [Hi3]; · iexact Hi3
    isplitl [Hi4]; · iexact Hi4
    isplitl [Ho5] <;> iassumption
  isplitl [Hm3 Hm4 Hm5 Hm6]
  · isplitl [Hm3]; · iexact Hm3
    isplitl [Hm4]; · iexact Hm4
    isplitl [Hm5] <;> iassumption
  isplitl [Hv3 Hv4 Hv5 Hv6]
  · isplitl [Hv3]; · iexact Hv3
    isplitl [Hv4]; · iexact Hv4
    isplitl [Hv5] <;> iassumption
  isplitl [Hq1 Hq2]; · isplitl [Hq1] <;> iassumption
  iexact HO

end Body

end Cert.Proof
-- ==== Proof.Blocks.lean ====
/-
  The arrays of the SparseCore call in pieces: blocks of rows tile by tile, the table in shares, a tile's buffers in slots.
-/
module

public import proofs.«01_k».proof.Proof.Tile
public import Idealize.ShloMosaic.Lib.Ring

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-! ## The pieces' elements -/

theorem iBlockA_mem {b : ℕ} (hb : b < 102) (y : S1x13056.Idx) : y ∈ (iBlock (Memref.whole main_v21_scv) b).view.set ↔ (y 1).val / 128 = b := by
  rw [show (iBlock (Memref.whole main_v21_scv) b).view.set = (Rect.unit (s := S1x13056) (oB b) S1x128.size (oB_inb b)).set from
    ((View.whole (main_v21_scv : Ref sig .scVector)).set_slice _).trans Finset.map_refl, Rect.mem_set_unit]
  have h0 : (y 0).val < 1 := (y 0).isLt
  constructor
  · intro h
    have h1 : 128 * (b % 102) ≤ (y 1).val ∧ (y 1).val < 128 * (b % 102) + 128 := h 1
    omega
  · intro h a
    match a with
    | 0 => show 0 ≤ (y 0).val ∧ (y 0).val < 0 + 1; omega
    | 1 => show 128 * (b % 102) ≤ (y 1).val ∧ (y 1).val < 128 * (b % 102) + 128; omega

theorem iBlockB_mem {b : ℕ} (hb : b < 102) (y : S1x13056.Idx) : y ∈ (iBlock (Memref.whole main_v23_scv) b).view.set ↔ (y 1).val / 128 = b := by
  rw [show (iBlock (Memref.whole main_v23_scv) b).view.set = (Rect.unit (s := S1x13056) (oB b) S1x128.size (oB_inb b)).set from
    ((View.whole (main_v23_scv : Ref sig .scVector)).set_slice _).trans Finset.map_refl, Rect.mem_set_unit]
  have h0 : (y 0).val < 1 := (y 0).isLt
  constructor
  · intro h
    have h1 : 128 * (b % 102) ≤ (y 1).val ∧ (y 1).val < 128 * (b % 102) + 128 := h 1
    omega
  · intro h a
    match a with
    | 0 => show 0 ≤ (y 0).val ∧ (y 0).val < 0 + 1; omega
    | 1 => show 128 * (b % 102) ≤ (y 1).val ∧ (y 1).val < 128 * (b % 102) + 128; omega

theorem rBlockA_mem {b : ℕ} (hb : b < 102) (y : S13056x128.Idx) : y ∈ (rBlock (Memref.whole main_v24_0_scv) b).view.set ↔ (y 0).val / 128 = b := by
  rw [show (rBlock (Memref.whole main_v24_0_scv) b).view.set = (Rect.unit (s := S13056x128) (oR b) S128x128.size (oR_inb b)).set from
    ((View.whole (main_v24_0_scv : Ref sig .scVector)).set_slice _).trans Finset.map_refl, Rect.mem_set_unit]
  have h1 : (y 1).val < 128 := (y 1).isLt
  constructor
  · intro h
    have h1 : 128 * (b % 102) ≤ (y 0).val ∧ (y 0).val < 128 * (b % 102) + 128 := h 0
    omega
  · intro h a
    match a with
    | 0 => show 128 * (b % 102) ≤ (y 0).val ∧ (y 0).val < 128 * (b % 102) + 128; omega
    | 1 => show 0 ≤ (y 1).val ∧ (y 1).val < 0 + 128; omega

theorem rBlockB_mem {b : ℕ} (hb : b < 102) (y : S13056x128.Idx) : y ∈ (rBlock (Memref.whole main_v24_1_scv) b).view.set ↔ (y 0).val / 128 = b := by
  rw [show (rBlock (Memref.whole main_v24_1_scv) b).view.set = (Rect.unit (s := S13056x128) (oR b) S128x128.size (oR_inb b)).set from
    ((View.whole (main_v24_1_scv : Ref sig .scVector)).set_slice _).trans Finset.map_refl, Rect.mem_set_unit]
  have h1 : (y 1).val < 128 := (y 1).isLt
  constructor
  · intro h
    have h1 : 128 * (b % 102) ≤ (y 0).val ∧ (y 0).val < 128 * (b % 102) + 128 := h 0
    omega
  · intro h a
    match a with
    | 0 => show 128 * (b % 102) ≤ (y 0).val ∧ (y 0).val < 128 * (b % 102) + 128; omega
    | 1 => show 0 ≤ (y 1).val ∧ (y 1).val < 0 + 128; omega

theorem xAll_set : (xAll (Memref.whole main_v0_scv)).view.set = (Finset.univ : Finset S10000x128.Idx) := by
  rw [show (xAll (Memref.whole main_v0_scv)).view.set = (Rect.unit (s := S10000x128) ![0, 0] S10000x128.size inb_S10000x128_S10000x128_0_0).set from
    ((View.whole (main_v0_scv : Ref sig .scVector)).set_slice _).trans Finset.map_refl]
  ext y
  rw [Rect.mem_set_unit]
  have h0 : (y 0).val < 10000 := (y 0).isLt
  have h1 : (y 1).val < 128 := (y 1).isLt
  refine ⟨fun _ => Finset.mem_univ _, fun _ a => ?_⟩
  match a with
  | 0 => show 0 ≤ (y 0).val ∧ (y 0).val < 0 + 10000; omega
  | 1 => show 0 ≤ (y 1).val ∧ (y 1).val < 0 + 128; omega

/-! ## The tiles' blocks -/

theorem tiles_apart : ∀ c c' : Fin 2, ∀ s s' : Fin 16, (c, s) ≠ (c', s') →
    bT (tileAt c s) + nT (tileAt c s) ≤ bT (tileAt c' s') ∨ bT (tileAt c' s') + nT (tileAt c' s') ≤ bT (tileAt c s) := by decide +kernel
theorem tiles_cover : ∀ k : Fin 102, ∃ c : Fin 2, ∃ s : Fin 16, bT (tileAt c s) ≤ k.val ∧ k.val < bT (tileAt c s) + nT (tileAt c s) := by decide +kernel
theorem tiles_in : ∀ (c : Fin 2) (s : Fin 16), bT (tileAt c s) + nT (tileAt c s) ≤ 102 := by decide +kernel

/-- An array cut into a hundred and two blocks is the tiles' blocks, core by core and tile by tile. -/
theorem blocks_eq {ℓ : Loc nD τ sig} (blk : ℕ → Finset (Idx ℓ)) (key : Idx ℓ → ℕ) (hkey : ∀ y, key y < 102)
    (hmem : ∀ b, b < 102 → ∀ y, y ∈ blk b ↔ key y = b) (q : PosShare TreeShare) (f : Buf (Elt F) ℓ) :
    (ℓ ↦{q} f : sProp 𝕄)
      = bigSep Finset.univ fun c : Fin 2 => bigSep Finset.univ fun s : Fin 16 =>
          bigSep (Finset.range (nT (tileAt c s))) fun b => ℓ ↦[blk (bT (tileAt c s) + b)]{q} f := by
  classical
  have hT : ∀ c s y, y ∈ (Finset.range (nT (tileAt c s))).biUnion (fun b => blk (bT (tileAt c s) + b))
      ↔ bT (tileAt c s) ≤ key y ∧ key y < bT (tileAt c s) + nT (tileAt c s) := fun c s y => by
    have hin := tiles_in c s
    rw [Finset.mem_biUnion]
    constructor
    · rintro ⟨b, hb, hy⟩
      rw [Finset.mem_range] at hb
      rw [hmem _ (by omega)] at hy
      omega
    · rintro ⟨h1, h2⟩
      refine ⟨key y - bT (tileAt c s), Finset.mem_range.mpr (by omega), ?_⟩
      rw [hmem _ (by omega)]; omega
  have hC : ∀ c y, y ∈ (Finset.univ : Finset (Fin 16)).biUnion (fun s => (Finset.range (nT (tileAt c s))).biUnion (fun b => blk (bT (tileAt c s) + b)))
      ↔ ∃ s, bT (tileAt c s) ≤ key y ∧ key y < bT (tileAt c s) + nT (tileAt c s) := fun c y => by
    rw [Finset.mem_biUnion]
    exact ⟨fun ⟨s, _, h⟩ => ⟨s, (hT c s y).mp h⟩, fun ⟨s, h⟩ => ⟨s, Finset.mem_univ _, (hT c s y).mpr h⟩⟩
  have e0 : (Finset.univ : Finset (Idx ℓ)) = (Finset.univ : Finset (Fin 2)).biUnion
      (fun c => (Finset.univ : Finset (Fin 16)).biUnion (fun s => (Finset.range (nT (tileAt c s))).biUnion (fun b => blk (bT (tileAt c s) + b)))) := by
    ext y
    refine ⟨fun _ => ?_, fun _ => Finset.mem_univ _⟩
    obtain ⟨c, s, h⟩ := tiles_cover ⟨key y, hkey y⟩
    exact Finset.mem_biUnion.mpr ⟨c, Finset.mem_univ _, (hC c y).mpr ⟨s, h⟩⟩
  rw [e0, pointsTo_biUnion]
  · refine bigSep_congr fun c _ => ?_
    rw [pointsTo_biUnion]
    · refine bigSep_congr fun s _ => ?_
      rw [pointsTo_biUnion]
      intro b hb b' hb' hne
      have hin := tiles_in c s
      rw [Finset.mem_range] at hb hb'
      rw [Finset.disjoint_left]
      intro y h h'
      rw [hmem _ (by omega)] at h h'
      omega
    · intro s _ s' _ hne
      rw [Finset.disjoint_left]
      intro y h h'
      have h1 := (hT c s y).mp h
      have h2 := (hT c s' y).mp h'
      rcases tiles_apart c c s s' (fun e => hne (Prod.mk.inj e).2) with h | h <;> omega
  · intro c _ c' _ hne
    rw [Finset.disjoint_left]
    intro y h h'
    obtain ⟨s, h1⟩ := (hC c y).mp h
    obtain ⟨s', h2⟩ := (hC c' y).mp h'
    rcases tiles_apart c c' s s' (fun e => hne (Prod.mk.inj e).1) with h | h <;> omega

/-! ## The table's shares -/

/-- The `k`-th of the `2 ^ n` equal parts of a share. -/
def part : ℕ → PosShare TreeShare → ℕ → PosShare TreeShare
  | 0, q, _ => q
  | n + 1, q, k => if k % 2 = 0 then part n q.left (k / 2) else part n q.right (k / 2)

theorem parts_eq {ℓ : Loc nD τ sig} (f : Buf (Elt F) ℓ) : ∀ (n : ℕ) (q : PosShare TreeShare),
    (ℓ ↦{q} f : sProp 𝕄) = bigSep (Finset.range (2 ^ n)) fun k => ℓ ↦{part n q k} f
  | 0, q => by rw [pow_zero, Finset.range_one, bigSep_singleton]; rfl
  | n + 1, q => by
    rw [pow_succ, mul_comm, Idealize.ShloMosaic.Ring.bigSep_range_deinterleave,
      BI.Entails.antisymm (pointsTo_share (PosShare.mem_left_op_right q)).1 (pointsTo_share (PosShare.mem_left_op_right q)).2,
      parts_eq f n q.left, parts_eq f n q.right]
    congr 1 <;> refine bigSep_congr fun k _ => ?_
    · rw [part, if_pos (by omega), show 2 * k / 2 = k by omega]
    · rw [part, if_neg (by omega), show (2 * k + 1) / 2 = k by omega]

/-- The share of the table of the tile at core `c`, subcore `s`. -/
def xq (c : Fin 2) (s : Fin 16) : PosShare TreeShare := part 4 (part 1 fullShare c.val) s.val

theorem bigSep_fin {n : ℕ} (Φ : ℕ → sProp 𝕄) : (bigSep (Finset.range n) Φ) = bigSep Finset.univ fun k : Fin n => Φ k.val := by
  rw [show Finset.range n = (Finset.univ : Finset (Fin n)).map Fin.valEmbedding by rw [Fin.map_valEmbedding_univ, Nat.Iio_eq_range], bigSep_map]
  rfl

theorem table_eq {ℓ : Loc nD τ sig} (f : Buf (Elt F) ℓ) :
    (ℓ ↦{fullShare} f : sProp 𝕄) = bigSep Finset.univ fun c : Fin 2 => bigSep Finset.univ fun s : Fin 16 => ℓ ↦{xq c s} f := by
  rw [parts_eq f 1 fullShare, show (2 : ℕ) ^ 1 = 2 from rfl, bigSep_fin (n := 2)]
  refine bigSep_congr fun c _ => ?_
  rw [parts_eq f 4 (part 1 fullShare c.val), show (2 : ℕ) ^ 4 = 16 from rfl, bigSep_fin (n := 16)]
  rfl

end Cert.Proof
-- ==== Proof.TileBody.lean ====
/-
  A tile's task from what the launch hands a vector subcore: its buffers taken apart into slots, its semaphores picked out.
-/
module

public import proofs.«01_k».proof.Proof.Blocks

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-! ## A buffer in two slots -/

theorem slots_split {ℓ : Loc nD τ sig} (A B : Finset (Idx ℓ)) (hd : Disjoint A B) (hu : A ∪ B = Finset.univ) :
    iprop(∃ f : Buf (Elt F) ℓ, ℓ ↦{fullShare} f)
      ⊢ (iprop((∃ f : Buf (Elt F) ℓ, ℓ ↦[A]{fullShare} f) ∗ ∃ f : Buf (Elt F) ℓ, ℓ ↦[B]{fullShare} f) : sProp 𝕄) := by
  have e : Finset.univ \ A = B := by
    rw [← hu, Finset.union_sdiff_left]; exact Finset.sdiff_eq_self_of_disjoint hd.symm
  iintro ⟨%f, H⟩
  ihave H := (pointsTo_split_subset (q := fullShare) (f := f) (S := Finset.univ) (Finset.subset_univ A)).1 $$ H
  rw [e]
  icases H with ⟨HA, HB⟩
  isplitl [HA]; · iexists f; iexact HA
  iexists f; iexact HB

theorem slots_join {ℓ : Loc nD τ sig} (A B : Finset (Idx ℓ)) (hd : Disjoint A B) (hu : A ∪ B = Finset.univ) :
    iprop((∃ f : Buf (Elt F) ℓ, ℓ ↦[A]{fullShare} f) ∗ ∃ f : Buf (Elt F) ℓ, ℓ ↦[B]{fullShare} f)
      ⊢ (iprop(∃ f : Buf (Elt F) ℓ, ℓ ↦{fullShare} f) : sProp 𝕄) := by
  classical
  iintro ⟨⟨%f, HA⟩, %g, HB⟩
  have key := pointsTo_biUnion_join (ℓ := ℓ) (q := fullShare) (Val := Elt F) (Ix := HIx 1) (Name := ℕ) (U := UU) (Lvl := ℕ)
    (Finset.univ : Finset (Fin 2)) (fun k => if k = 0 then A else B) (fun k => if k = 0 then f else g) f
    (fun k _ k' _ hne => by
      fin_cases k <;> fin_cases k'
      · exact absurd rfl hne
      · exact hd
      · exact hd.symm
      · exact absurd rfl hne)
  rw [bigSep_univ_eq_bigSepL [(0 : Fin 2), (1 : Fin 2)] (by decide) (by decide),
    show (Finset.univ : Finset (Fin 2)).biUnion (fun k => if k = 0 then A else B) = Finset.univ from by
      rw [← hu, show (Finset.univ : Finset (Fin 2)) = {0, 1} by decide, Finset.biUnion_insert, Finset.singleton_biUnion]
      rfl] at key
  ihave H := (show iprop((ℓ ↦[A]{fullShare} f) ∗ ℓ ↦[B]{fullShare} g) ⊢ _ from key) $$ [HA HB]
  · isplitl [HA] <;> iassumption
  icases H with ⟨%h, -, H⟩
  iexists h; iexact H

theorem slotA_mem (t : ℕ) (y : S2x1x128.Idx) : y ∈ (iSlot (Memref.whole cc1_scoped0) t).view.set ↔ (y 0).val = t % 2 := by
  rw [show (iSlot (Memref.whole cc1_scoped0) t).view.set = (Rect.unit (s := S2x1x128) (oS t) S1x1x128.size (oS_inb_i t)).set from
    (View.set_reshape _ _).trans (((View.whole (cc1_scoped0 : Ref sig .scVector)).set_slice _).trans Finset.map_refl), Rect.mem_set_unit]
  have h1 : (y 1).val < 1 := (y 1).isLt
  have h2 : (y 2).val < 128 := (y 2).isLt
  constructor
  · intro h
    have h1 : t % 2 ≤ (y 0).val ∧ (y 0).val < t % 2 + 1 := h 0
    omega
  · intro h a
    match a with
    | 0 => show t % 2 ≤ (y 0).val ∧ (y 0).val < t % 2 + 1; omega
    | 1 => show 0 ≤ (y 1).val ∧ (y 1).val < 0 + 1; omega
    | 2 => show 0 ≤ (y 2).val ∧ (y 2).val < 0 + 128; omega

theorem slotB_mem (t : ℕ) (y : S2x1x128.Idx) : y ∈ (iSlot (Memref.whole cc1_scoped2) t).view.set ↔ (y 0).val = t % 2 := by
  rw [show (iSlot (Memref.whole cc1_scoped2) t).view.set = (Rect.unit (s := S2x1x128) (oS t) S1x1x128.size (oS_inb_i t)).set from
    (View.set_reshape _ _).trans (((View.whole (cc1_scoped2 : Ref sig .scVector)).set_slice _).trans Finset.map_refl), Rect.mem_set_unit]
  have h1 : (y 1).val < 1 := (y 1).isLt
  have h2 : (y 2).val < 128 := (y 2).isLt
  constructor
  · intro h
    have h1 : t % 2 ≤ (y 0).val ∧ (y 0).val < t % 2 + 1 := h 0
    omega
  · intro h a
    match a with
    | 0 => show t % 2 ≤ (y 0).val ∧ (y 0).val < t % 2 + 1; omega
    | 1 => show 0 ≤ (y 1).val ∧ (y 1).val < 0 + 1; omega
    | 2 => show 0 ≤ (y 2).val ∧ (y 2).val < 0 + 128; omega

theorem slotC_mem (t : ℕ) (y : S2x128x128.Idx) : y ∈ (rSlot (Memref.whole cc1_scoped4) t).view.set ↔ (y 0).val = t % 2 := by
  rw [show (rSlot (Memref.whole cc1_scoped4) t).view.set = (Rect.unit (s := S2x128x128) (oS t) S1x128x128.size (oS_inb_r t)).set from
    (View.set_reshape _ _).trans (((View.whole (cc1_scoped4 : Ref sig .scVector)).set_slice _).trans Finset.map_refl), Rect.mem_set_unit]
  have h1 : (y 1).val < 128 := (y 1).isLt
  have h2 : (y 2).val < 128 := (y 2).isLt
  constructor
  · intro h
    have h1 : t % 2 ≤ (y 0).val ∧ (y 0).val < t % 2 + 1 := h 0
    omega
  · intro h a
    match a with
    | 0 => show t % 2 ≤ (y 0).val ∧ (y 0).val < t % 2 + 1; omega
    | 1 => show 0 ≤ (y 1).val ∧ (y 1).val < 0 + 128; omega
    | 2 => show 0 ≤ (y 2).val ∧ (y 2).val < 0 + 128; omega

theorem slotD_mem (t : ℕ) (y : S2x128x128.Idx) : y ∈ (rSlot (Memref.whole cc1_scoped6) t).view.set ↔ (y 0).val = t % 2 := by
  rw [show (rSlot (Memref.whole cc1_scoped6) t).view.set = (Rect.unit (s := S2x128x128) (oS t) S1x128x128.size (oS_inb_r t)).set from
    (View.set_reshape _ _).trans (((View.whole (cc1_scoped6 : Ref sig .scVector)).set_slice _).trans Finset.map_refl), Rect.mem_set_unit]
  have h1 : (y 1).val < 128 := (y 1).isLt
  have h2 : (y 2).val < 128 := (y 2).isLt
  constructor
  · intro h
    have h1 : t % 2 ≤ (y 0).val ∧ (y 0).val < t % 2 + 1 := h 0
    omega
  · intro h a
    match a with
    | 0 => show t % 2 ≤ (y 0).val ∧ (y 0).val < t % 2 + 1; omega
    | 1 => show 0 ≤ (y 1).val ∧ (y 1).val < 0 + 128; omega
    | 2 => show 0 ≤ (y 2).val ∧ (y 2).val < 0 + 128; omega

/-- Two sets told apart by a bit are disjoint and all there is. -/
theorem two_sets {I : Type} [Fintype I] [DecidableEq I] {A B : Finset I} (k : I → ℕ) (hk : ∀ y, k y < 2) (hA : ∀ y, y ∈ A ↔ k y = 0 % 2) (hB : ∀ y, y ∈ B ↔ k y = 1 % 2) :
    Disjoint A B ∧ A ∪ B = Finset.univ := by
  constructor
  · rw [Finset.disjoint_left]; intro y h h'
    rw [hA] at h; rw [hB] at h'; omega
  · ext y
    have := hk y
    refine ⟨fun _ => Finset.mem_univ _, fun _ => ?_⟩
    rw [Finset.mem_union, hA, hB]; omega

variable (d : Dev nD) (i : grid1.Coords)

theorem slotsA : Disjoint (iSlot (Memref.whole cc1_scoped0) 0).view.set (iSlot (Memref.whole cc1_scoped0) 1).view.set
    ∧ (iSlot (Memref.whole cc1_scoped0) 0).view.set ∪ (iSlot (Memref.whole cc1_scoped0) 1).view.set = (Finset.univ : Finset S2x1x128.Idx) :=
  two_sets (fun y : S2x1x128.Idx => (y 0).val) (fun y => (y 0).isLt) (slotA_mem 0) (slotA_mem 1)
theorem slotsB : Disjoint (iSlot (Memref.whole cc1_scoped2) 0).view.set (iSlot (Memref.whole cc1_scoped2) 1).view.set
    ∧ (iSlot (Memref.whole cc1_scoped2) 0).view.set ∪ (iSlot (Memref.whole cc1_scoped2) 1).view.set = (Finset.univ : Finset S2x1x128.Idx) :=
  two_sets (fun y : S2x1x128.Idx => (y 0).val) (fun y => (y 0).isLt) (slotB_mem 0) (slotB_mem 1)
theorem slotsC : Disjoint (rSlot (Memref.whole cc1_scoped4) 0).view.set (rSlot (Memref.whole cc1_scoped4) 1).view.set
    ∧ (rSlot (Memref.whole cc1_scoped4) 0).view.set ∪ (rSlot (Memref.whole cc1_scoped4) 1).view.set = (Finset.univ : Finset S2x128x128.Idx) :=
  two_sets (fun y : S2x128x128.Idx => (y 0).val) (fun y => (y 0).isLt) (slotC_mem 0) (slotC_mem 1)
theorem slotsD : Disjoint (rSlot (Memref.whole cc1_scoped6) 0).view.set (rSlot (Memref.whole cc1_scoped6) 1).view.set
    ∧ (rSlot (Memref.whole cc1_scoped6) 0).view.set ∪ (rSlot (Memref.whole cc1_scoped6) 1).view.set = (Finset.univ : Finset S2x128x128.Idx) :=
  two_sets (fun y : S2x128x128.Idx => (y 0).val) (fun y => (y 0).isLt) (slotD_mem 0) (slotD_mem 1)

/-! ## A subcore's own buffers and semaphores -/

/-- The semaphores the task waits on, in the order the state lists them. -/
def semK : Fin 10 → DmaSem sig :=
  ![semAt cc1_scoped1 0, semAt cc1_scoped1 1, semAt cc1_scoped3 0, semAt cc1_scoped3 1, semAt cc1_scoped5 0, semAt cc1_scoped5 1,
    semAt cc1_scoped7 0, semAt cc1_scoped7 1, cc1_scoped8.sem, cc1_scoped9.sem]
theorem semK_inj : Function.Injective semK := by decide
theorem semK_scoped : ∀ k, (SemLoc.dma (semK k) : SemLoc sig).isScoped .scVector = true := by decide

def cellK : Fin 10 ↪ GSem nD τ sig :=
  ⟨fun k => (thr d i, SemLoc.dma (semK k)), fun k k' e => semK_inj (by injection (congrArg Prod.snd e))⟩

theorem sems_eq : (ownSems0 (thr d i) : sProp 𝕄)
    = iprop((semVal (cellK d i 0) 0 ∗ semVal (cellK d i 1) 0 ∗ semVal (cellK d i 2) 0 ∗ semVal (cellK d i 3) 0 ∗ semVal (cellK d i 4) 0
        ∗ semVal (cellK d i 5) 0 ∗ semVal (cellK d i 6) 0 ∗ semVal (cellK d i 7) 0 ∗ semVal (cellK d i 8) 0 ∗ semVal (cellK d i 9) 0)
      ∗ bigSep (ownCells (thr d i) \ Finset.univ.map (cellK d i)) fun g => semVal g 0) := by
  unfold SparseCore.Cfg.ownSems0
  rw [SparseCore.bigSep_sdiff_split' (t := Finset.univ.map (cellK d i)) (fun g hg => by
    obtain ⟨k, -, rfl⟩ := Finset.mem_map.mp hg
    exact mem_ownCells.mpr ⟨rfl, semK_scoped k⟩), bigSep_map,
    bigSep_univ_eq_bigSepL [(0 : Fin 10), 1, 2, 3, 4, 5, 6, 7, 8, 9] (by decide) (by decide)]
  rfl

def bufK : Fin 4 → Ref sig .scVector := ![cc1_scoped0, cc1_scoped2, cc1_scoped4, cc1_scoped6]
theorem bufK_inj : Function.Injective bufK := by decide

def refK : Fin 4 ↪ DevRef τ sig :=
  ⟨fun k => (Proc.scVector (cV i) (jV i)).devRef (bufK k), fun k k' e => bufK_inj (Proc.devRef_injective _ e)⟩

theorem bufs_eq : (ownBufs (thr d i) : sProp 𝕄)
    = iprop(((∃ f : Buf (Elt F) ((thr d i).loc cc1_scoped0), ((thr d i).loc cc1_scoped0) ↦{fullShare} f) ∗ (∃ f : Buf (Elt F) ((thr d i).loc cc1_scoped2), ((thr d i).loc cc1_scoped2) ↦{fullShare} f)
        ∗ (∃ f : Buf (Elt F) ((thr d i).loc cc1_scoped4), ((thr d i).loc cc1_scoped4) ↦{fullShare} f) ∗ (∃ f : Buf (Elt F) ((thr d i).loc cc1_scoped6), ((thr d i).loc cc1_scoped6) ↦{fullShare} f))
      ∗ bigSep (ownRefs (τ := τ) (.scVector (cV i) (jV i)) \ Finset.univ.map (refK i)) fun b => iprop(∃ f, ((d, b) : Loc nD τ sig) ↦{fullShare} f)) := by
  unfold SparseCore.Cfg.ownBufs
  show bigSep (ownRefs (τ := τ) (.scVector (cV i) (jV i))) _ = _
  rw [SparseCore.bigSep_sdiff_split' (t := Finset.univ.map (refK i)) (fun g hg => by
    obtain ⟨k, -, rfl⟩ := Finset.mem_map.mp hg
    fin_cases k <;> exact SparseCore.Cfg.mem_ownRefs_of_owner (p := Proc.scVector (cV i) (jV i)) rfl), bigSep_map,
    bigSep_univ_eq_bigSepL [(0 : Fin 4), 1, 2, 3] (by decide) (by decide)]
  rfl

/-! ## The task -/

variable [FloatOps F]

abbrev XM : Memref sig .scVector .hbm S10000x128 .f32 := Memref.whole main_v0_scv
abbrev JA : Memref sig .scVector .hbm S1x13056 .i32 := Memref.whole main_v21_scv
abbrev JB : Memref sig .scVector .hbm S1x13056 .i32 := Memref.whole main_v23_scv
abbrev GA : Memref sig .scVector .hbm S13056x128 .f32 := Memref.whole main_v24_0_scv
abbrev GB : Memref sig .scVector .hbm S13056x128 .f32 := Memref.whole main_v24_1_scv

/-- The parts of the five arrays a tile works on. -/
abbrev tileData (qx : PosShare TreeShare) (gx : Buf (Elt F) (XM.view.loc (thr d i))) (g3 : Buf (Elt F) (JA.view.loc (thr d i)))
    (g4 : Buf (Elt F) (JB.view.loc (thr d i))) (f5 : Buf (Elt F) (GA.view.loc (thr d i))) (f6 : Buf (Elt F) (GB.view.loc (thr d i))) : sProp 𝕄 :=
  iprop(xPt d i XM qx gx ∗ bigSep (Finset.range (nT i)) (fun b => iPt d i JA g3 (bT i + b)) ∗ bigSep (Finset.range (nT i)) (fun b => iPt d i JB g4 (bT i + b))
      ∗ bigSep (Finset.range (nT i)) (fun b => rPt d i GA f5 (bT i + b)) ∗ bigSep (Finset.range (nT i)) (fun b => rPt d i GB f6 (bT i + b)))

set_option maxHeartbeats 2000000 in
theorem tile_body (hF : (K (F := F)).Facts) (O : CellTallies nD τ sig (HIx 1)) (W : Waits sig (HIx 1)) (hO : ∀ g, O g none = 0)
    (qx : PosShare TreeShare) (gx : Buf (Elt F) (XM.view.loc (thr d i))) (g3 : Buf (Elt F) (JA.view.loc (thr d i)))
    (g4 : Buf (Elt F) (JB.view.loc (thr d i))) (f5 g5 : Buf (Elt F) (GA.view.loc (thr d i))) (f6 g6 : Buf (Elt F) (GB.view.loc (thr d i)))
    (hw3 : ∀ b y, ((iBlock JA b).view.read (Elt F) g3 y).toNat < 10000) (hw4 : ∀ b y, ((iBlock JB b).view.read (Elt F) g4 y).toNat < 10000)
    (hg5 : ∀ b, (rBlock GA b).view.read (Elt F) g5 = gath ((xAll XM).view.read (Elt F) gx) ((iBlock JA b).view.read (Elt F) g3))
    (hg6 : ∀ b, (rBlock GB b).view.read (Elt F) g6 = gath ((xAll XM).view.read (Elt F) gx) ((iBlock JB b).view.read (Elt F) g4)) :
    iprop(levAts (K (F := F)).L (K (F := F)).lev ∗ emp ∗ tileData d i qx gx g3 g4 f5 f6
        ∗ scopedBufs (thr d i) ∗ scopedSems0 (thr d i) ∗ owes (thr d i) O W)
      ⊢ wp frame (wpE (defs₀ (F := F)) 𝒱₀ (thr d i) none) Set.univ
          (cc1_k (F := F) i XM (Memref.isWhole_whole _) JA (Memref.isWhole_whole _) JB (Memref.isWhole_whole _) GA (Memref.isWhole_whole _) GB (Memref.isWhole_whole _)
            (Memref.whole cc1_scoped0) (Memref.isWhole_whole _) cc1_scoped1 (Memref.whole cc1_scoped2) (Memref.isWhole_whole _) cc1_scoped3
            (Memref.whole cc1_scoped4) (Memref.isWhole_whole _) cc1_scoped5 (Memref.whole cc1_scoped6) (Memref.isWhole_whole _) cc1_scoped7
            cc1_scoped8 cc1_scoped9 cc1_scoped10 cc1_scoped11)
          fun _ => iprop(tileData d i qx gx g3 g4 g5 g6 ∗ scopedBufs (thr d i) ∗ scopedSems0 (thr d i)
            ∗ ∃ W', ⌜∀ p ∈ W', p ∈ W ∨ p.2 = none⌝ ∗ owes (thr d i) O W') := by
  rw [(K (F := F)).scopedBufs_V hF d (cV i) (jV i), SparseCore.Cfg.scopedSems0_V (Val := Elt F) d (cV i) (jV i)]
  rw [show (ownSems0 (V d (cV i) (jV i)) : sProp 𝕄) = _ from sems_eq d i, show (ownBufs (V d (cV i) (jV i)) : sProp 𝕄) = _ from bufs_eq d i]
  iintro ⟨#Hlv, -, Hd, ⟨⟨HA, HB, HC, HD⟩, Hbufs⟩, ⟨⟨S0, S1, S2, S3, S4, S5, S6, S7, S8, S9⟩, Hsems⟩, HO⟩
  ihave Hmw := (show levAts (K (F := F)).L (K (F := F)).lev ⊢ Transfers.MayWaits (V d (cV i) (jV i)) (default : HIx 1) O from
    (K (F := F)).mayWaits_none (thr := V d (cV i) (jV i)) hO) $$ Hlv
  ihave HA := (slots_split (F := F) (ℓ := (thr d i).loc cc1_scoped0) _ _ slotsA.1 slotsA.2) $$ HA
  ihave HB := (slots_split (F := F) (ℓ := (thr d i).loc cc1_scoped2) _ _ slotsB.1 slotsB.2) $$ HB
  ihave HC := (slots_split (F := F) (ℓ := (thr d i).loc cc1_scoped4) _ _ slotsC.1 slotsC.2) $$ HC
  ihave HD := (slots_split (F := F) (ℓ := (thr d i).loc cc1_scoped6) _ _ slotsD.1 slotsD.2) $$ HD
  iapply (tile_wp d i XM (Memref.isWhole_whole _) JA (Memref.isWhole_whole _) JB (Memref.isWhole_whole _) GA (Memref.isWhole_whole _) GB (Memref.isWhole_whole _)
    (Memref.whole cc1_scoped0) (Memref.isWhole_whole _) cc1_scoped1 (Memref.whole cc1_scoped2) (Memref.isWhole_whole _) cc1_scoped3
    (Memref.whole cc1_scoped4) (Memref.isWhole_whole _) cc1_scoped5 (Memref.whole cc1_scoped6) (Memref.isWhole_whole _) cc1_scoped7
    cc1_scoped8 cc1_scoped9 cc1_scoped10 cc1_scoped11 (O := O) (W := W) qx gx g3 g4 f5 g5 f6 g6 hw3 hw4 hg5 hg6) $$ [Hd HA HB HC HD S0 S1 S2 S3 S4 S5 S6 S7 S8 S9 HO Hmw]
  · isplitr [Hmw]; swap; · iexact Hmw
    isplitl [Hd]; · iexact Hd
    isplitl [HA HB HC HD]
    · isplitl [HA]; · iexact HA
      isplitl [HB]; · iexact HB
      isplitl [HC]; · iexact HC
      iexact HD
    isplitl [S0 S1 S2 S3 S4 S5 S6 S7]
    · isplitl [S0 S1]; · isplitl [S0]; · iexact S0
                         iexact S1
      isplitl [S2 S3]; · isplitl [S2]; · iexact S2
                         iexact S3
      isplitl [S4 S5]; · isplitl [S4]; · iexact S4
                         iexact S5
      isplitl [S6]; · iexact S6
      iexact S7
    isplitl [S8 S9]; · isplitl [S8]; · iexact S8
                       iexact S9
    iexists W
    isplitr; · ipureintro; exact fun p hp => .inl hp
    iexact HO
  iintro ⟨Hd, ⟨HA, HB, HC, HD⟩, ⟨⟨S0, S1⟩, ⟨S2, S3⟩, ⟨S4, S5⟩, S6, S7⟩, ⟨S8, S9⟩, HO⟩
  isplitl [Hd]; · iexact Hd
  isplitl [HA HB HC HD Hbufs]
  · isplitr [Hbufs]; swap; · iexact Hbufs
    isplitl [HA]; · iapply (slots_join (F := F) (ℓ := (thr d i).loc cc1_scoped0) _ _ slotsA.1 slotsA.2); iexact HA
    isplitl [HB]; · iapply (slots_join (F := F) (ℓ := (thr d i).loc cc1_scoped2) _ _ slotsB.1 slotsB.2); iexact HB
    isplitl [HC]; · iapply (slots_join (F := F) (ℓ := (thr d i).loc cc1_scoped4) _ _ slotsC.1 slotsC.2); iexact HC
    iapply (slots_join (F := F) (ℓ := (thr d i).loc cc1_scoped6) _ _ slotsD.1 slotsD.2); iexact HD
  isplitl [S0 S1 S2 S3 S4 S5 S6 S7 S8 S9 Hsems]
  · isplitr [Hsems]; swap; · iexact Hsems
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iexact HO

end Cert.Proof
-- ==== Proof.Launch.lean ====
/- The gather's launch: what its tiles are handed and bring back, and the obligation each of them meets. -/
module

public import proofs.«01_k».proof.Proof.Host
public import proofs.«01_k».proof.Proof.TileBody

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ)

/-! ## The gathered rows, block by block -/

theorem gatA_block (X : Buf (Elt F) ((0 : Dev nD), dr main_v0)) (J : S1x13056.Idx → Elt F .i32) (b : ℕ) :
    (rBlock GA b).view.read (Elt F) (gatF X J) = gath ((xAll XM).view.read (Elt F) X) ((iBlock JA b).view.read (Elt F) J) := by
  funext x
  have hJ : J (fun c => match c with | 0 => ⟨0, by decide⟩ | 1 => (rBlock GA b).view.emb x 0)
      = (iBlock JA b).view.read (Elt F) J (fun c => match c with | 0 => ⟨0, by decide⟩ | 1 => x 0) := by
    refine congrArg J (funext fun c => ?_)
    match c with
    | 0 => rfl
    | 1 => rfl
  show X _ = X _
  refine congrArg X (funext fun a => ?_)
  match a with
  | 0 =>
    apply Fin.ext
    show (J _).toNat % 10000 = 0 + 1 * ((_ : BitVec 32).toNat % 10000)
    rw [Nat.zero_add, Nat.one_mul]
    exact congrArg (fun w : BitVec 32 => w.toNat % 10000) hJ
  | 1 => rfl

theorem gatB_block (X : Buf (Elt F) ((0 : Dev nD), dr main_v0)) (J : S1x13056.Idx → Elt F .i32) (b : ℕ) :
    (rBlock GB b).view.read (Elt F) (gatF X J) = gath ((xAll XM).view.read (Elt F) X) ((iBlock JB b).view.read (Elt F) J) :=
  gatA_block X J b

/-! ## What the call takes and brings back -/

theorem nCore_zero : (K (F := F)).nCore 0 = 2 := rfl
theorem nSub_zero : (K (F := F)).nSub 0 = 16 := rfl

/-- The rows the first list names, and the rows the second names. -/
def gA (d : Dev nD) : Buf (Elt F) (d, dr main_v24_0) := gatF (VC m d (dr main_v0)) (VC m d (dr main_v21))
def gB (d : Dev nD) : Buf (Elt F) (d, dr main_v24_1) := gatF (VC m d (dr main_v0)) (VC m d (dr main_v23))

/-- What a tile is handed: its share of the table, its blocks of the two lists and of the two results. -/
def tin (d : Dev nD) (c : Fin 2) (s : Fin 16) : sProp 𝕄 :=
  tileData d (tileAt c s) (xq c s) (VC m d (dr main_v0)) (VC m d (dr main_v21)) (VC m d (dr main_v23)) (VC m d (dr main_v24_0)) (VC m d (dr main_v24_1))
/-- What it brings back: the same, the blocks of the results at the rows they name. -/
def tout (d : Dev nD) (c : Fin 2) (s : Fin 16) : sProp 𝕄 :=
  tileData d (tileAt c s) (xq c s) (VC m d (dr main_v0)) (VC m d (dr main_v21)) (VC m d (dr main_v23)) (gA m d) (gB m d)

instance tin_storable (d : Dev nD) (c : Fin 2) (s : Fin 16) : BI.Storable (upEmb : UEmb _ 𝕄) (tin m d c s) := by unfold tin; infer_instance
instance tout_storable (d : Dev nD) (c : Fin 2) (s : Fin 16) : BI.Storable (upEmb : UEmb _ 𝕄) (tout m d c s) := by unfold tout; infer_instance

def P : (K (F := F)).Pay (nD := nD) (Val := Elt F) (Name := ℕ) (U := UU) where
  st := fun q d c => match q with | 0 => bigSep Finset.univ fun s : Fin 16 => tin m d (Fin.cast nCore_zero c) s
  dn := fun q d c => match q with | 0 => bigSep Finset.univ fun s : Fin 16 => tout m d (Fin.cast nCore_zero c) s
  go := fun q d c i => match q with | 0 => tin m d (Fin.cast nCore_zero c) (Fin.cast nSub_zero i)
  td := fun q d c i => match q with | 0 => tout m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => tin m d (Fin.cast nCore_zero c) s))
  dn q d c := match q with
    | 0 => (inferInstance : BI.Storable (upEmb : UEmb _ 𝕄) (bigSep Finset.univ fun s : Fin 16 => tout m d (Fin.cast nCore_zero c) s))
  go q d c i := match q with | 0 => tin_storable m d (Fin.cast nCore_zero c) (Fin.cast nSub_zero i)
  td q d c i := match q with | 0 => tout_storable m d (Fin.cast nCore_zero c) (Fin.cast nSub_zero i)

/-- Every row number the lists hold names a row. -/
def PreOK : Prop := ∀ (d : Dev nD) (y : S1x13056.Idx),
  BitVec.toNat (VC m d (dr main_v21) y : BitVec 32) < 10000 ∧ BitVec.toNat (VC m d (dr main_v23) y : BitVec 32) < 10000

/-! ## A tile's obligation -/

theorem defs₀_vector (c : Fin τ.nSC) (s : Fin τ.nSub) :
    defs₀ (F := F) (.scVector c s) 1 ()
      = SparseCore.onTile hcore1 hsub1 (fun c s => cc1_k (F := F) (tileAt c s) XM (Memref.isWhole_whole _) JA (Memref.isWhole_whole _) JB (Memref.isWhole_whole _) GA (Memref.isWhole_whole _) GB (Memref.isWhole_whole _)
            (Memref.whole cc1_scoped0) (Memref.isWhole_whole _) cc1_scoped1 (Memref.whole cc1_scoped2) (Memref.isWhole_whole _) cc1_scoped3
            (Memref.whole cc1_scoped4) (Memref.isWhole_whole _) cc1_scoped5 (Memref.whole cc1_scoped6) (Memref.isWhole_whole _) cc1_scoped7
            cc1_scoped8 cc1_scoped9 cc1_scoped10 cc1_scoped11) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem numA (hpre : PreOK m) (d : Dev nD) (b : ℕ) (y : S1x128.Idx) :
    BitVec.toNat ((iBlock JA b).view.read (Elt F) (VC m d (dr main_v21)) y : BitVec 32) < 10000 := (hpre d ((iBlock JA b).view.emb y)).1
theorem numB (hpre : PreOK m) (d : Dev nD) (b : ℕ) (y : S1x128.Idx) :
    BitVec.toNat ((iBlock JB b).view.read (Elt F) (VC m d (dr main_v23)) y : BitVec 32) < 10000 := (hpre d ((iBlock JB b).view.emb y)).2
theorem rowA (d : Dev nD) (b : ℕ) : (rBlock GA b).view.read (Elt F) (gA m d)
    = gath ((xAll XM).view.read (Elt F) (VC m d (dr main_v0))) ((iBlock JA b).view.read (Elt F) (VC m d (dr main_v21))) := by
  unfold gA; exact gatA_block _ _ b
theorem rowB (d : Dev nD) (b : ℕ) : (rBlock GB b).view.read (Elt F) (gB m d)
    = gath ((xAll XM).view.read (Elt F) (VC m d (dr main_v0))) ((iBlock JB b).view.read (Elt F) (VC m d (dr main_v23))) := by
  unfold gB; exact gatB_block _ _ b

set_option maxHeartbeats 4000000 in
theorem tile_run (hF : (K (F := F)).Facts) (hpre : PreOK m) (d : Dev nD) (c : Fin 2) (s : Fin 16) (O : CellTallies nD τ sig (HIx 1)) (W : Waits sig (HIx 1))
    (hO : ∀ g, O g none = 0) :
    iprop(levAts (K (F := F)).L (K (F := F)).lev ∗ emp ∗ tin m d c s
        ∗ scopedBufs (V d c s) ∗ scopedSems0 (V d c s) ∗ owes (V d c s) O W)
      ⊢ wp frame (wpE (defs₀ (F := F)) 𝒱₀ (V d c s) none) Set.univ
          (cc1_k (F := F) (tileAt c s) XM (Memref.isWhole_whole _) JA (Memref.isWhole_whole _) JB (Memref.isWhole_whole _) GA (Memref.isWhole_whole _) GB (Memref.isWhole_whole _)
            (Memref.whole cc1_scoped0) (Memref.isWhole_whole _) cc1_scoped1 (Memref.whole cc1_scoped2) (Memref.isWhole_whole _) cc1_scoped3
            (Memref.whole cc1_scoped4) (Memref.isWhole_whole _) cc1_scoped5 (Memref.whole cc1_scoped6) (Memref.isWhole_whole _) cc1_scoped7
            cc1_scoped8 cc1_scoped9 cc1_scoped10 cc1_scoped11)
          fun _ => iprop(tout m d c s ∗ scopedBufs (V d c s) ∗ scopedSems0 (V d c s)
            ∗ ∃ W', ⌜∀ p ∈ W', p ∈ W ∨ p.2 = none ∨ p.2 = some (0 : Fin 1)⌝ ∗ owes (V d c s) O W') :=
  (@tile_body F d (tileAt c s) _ hF O W hO (xq c s)
    (VC m d (dr main_v0)) (VC m d (dr main_v21)) (VC m d (dr main_v23)) (VC m d (dr main_v24_0))
    (gA m d) (VC m d (dr main_v24_1)) (gB m d)
    (numA m hpre d) (numB m hpre d) (rowA m d) (rowB m d)).trans (wp_mono frame _ _ fun _ => obl_post)

set_option maxHeartbeats 4000000 in
set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact @tile_run F _ m hF hpre d (Fin.cast nCore_zero c) (Fin.cast nSub_zero i) O W hO

theorem vecSplit : (K (F := F)).VecSplit' (P m) 0 := by
  intro d c
  show (bigSep Finset.univ fun s : Fin 16 => tin m d (Fin.cast nCore_zero c) s) ⊢ |={Set.univ}=> iprop(
      (bigSep Finset.univ fun s : Fin 16 => tin m d (Fin.cast nCore_zero c) s)
      ∗ ((bigSep Finset.univ fun s : Fin 16 => tout m d (Fin.cast nCore_zero c) s)
          -∗ (bigSep Finset.univ fun s : Fin 16 => tout m d (Fin.cast nCore_zero c) s)))
  iintro H; imodintro
  isplitl [H]; · iexact H
  iintro H; iexact H

/-! ## The launch element of the ghost state -/

abbrev adm : (p : Fin 2) → (pcfgs (F := F) p).Adm := fun p => (cfgs p).toPCfg_adm

def u₀ : UU := (initOf (K (F := F)).hsCells (K (F := F)).hsToks,
  (initOf (Pipeline.cells (nD := nD) (τ := τ) (Pipeline.pin (pcfgs (F := F)) adm) cellOf_inj) (Pipeline.launchToks (Pipeline.pin (pcfgs (F := F)) adm) cellOf_inj), 1))

/-- The two pipelines' ghost state on a device. -/
abbrev ghost (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

end Cert.Proof
-- ==== Proof.Run.lean ====
/- The whole program's run: the first matrix call, the host operations, the gather on the SparseCores, the last call. -/
module

public import proofs.«01_k».proof.Proof.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (seq held after)
open Idealize.ShloMosaic.Pipeline (ucRefs)
open Idealize.ShloMosaic.Rounds

variable {F : FTy → Type} [FloatOps F]

local notation "𝕄" => MM F

variable (m : (ℓ : Loc nD τ sig) → Buf (Elt F) ℓ) (ρ : Dev nD → PrngReg)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) (_ : UP × Counters)) $$ Hu
  icases H with ⟨HH, HR⟩
  ihave H := (own_pair_emb (embR : Emb (UP × Counters) 𝕄) (_ : UP) (1 : Counters)) $$ HR
  icases H with ⟨HP, -⟩
  rw [show (Emb.inl.trans embR : Emb UP 𝕄) = EP from rfl]
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The arrays of the gather, whole and dealt to the tiles -/

abbrev five : Finset (DevRef τ sig) := {dr main_v0, dr main_v21, dr main_v23, dr main_v24_0, dr main_v24_1}

theorem five_sub : five ⊆ ucRefs τ sig := by
  intro b hb
  simp only [five, Finset.mem_insert, Finset.mem_singleton] at hb
  refine Finset.mem_filter.mpr ?_
  rcases hb with rfl | rfl | rfl | rfl | rfl <;> exact ⟨StableHlo.devRef_mem_tcRefs _, by decide⟩

theorem held_five (d : Dev nD) (W : Valuation τ sig (Elt F)) :
    (held (T d) five W : sProp 𝕄)
      = iprop((((d, dr main_v0) : Loc nD τ sig) ↦{fullShare} W (dr main_v0)) ∗ (((d, dr main_v21) : Loc nD τ sig) ↦{fullShare} W (dr main_v21))
          ∗ (((d, dr main_v23) : Loc nD τ sig) ↦{fullShare} W (dr main_v23)) ∗ (((d, dr main_v24_0) : Loc nD τ sig) ↦{fullShare} W (dr main_v24_0))
          ∗ (((d, dr main_v24_1) : Loc nD τ sig) ↦{fullShare} W (dr main_v24_1))) := by
  unfold held five
  rw [SparseCore.bigSep_insert' (by decide), SparseCore.bigSep_insert' (by decide), SparseCore.bigSep_insert' (by decide),
    SparseCore.bigSep_insert' (by decide), bigSep_singleton]

theorem sep5 {A B C D E : sProp 𝕄} {a b c e f : Fin 2 → Fin 16 → sProp 𝕄}
    (hA : A = bigSep Finset.univ fun i => bigSep Finset.univ fun j => a i j) (hB : B = bigSep Finset.univ fun i => bigSep Finset.univ fun j => b i j)
    (hC : C = bigSep Finset.univ fun i => bigSep Finset.univ fun j => c i j) (hD : D = bigSep Finset.univ fun i => bigSep Finset.univ fun j => e i j)
    (hE : E = bigSep Finset.univ fun i => bigSep Finset.univ fun j => f i j) :
    iprop(A ∗ B ∗ C ∗ D ∗ E) = bigSep Finset.univ fun i => bigSep Finset.univ fun j => iprop(a i j ∗ b i j ∗ c i j ∗ e i j ∗ f i j) := by
  simp only [bigSep_sep']
  rw [hA, hB, hC, hD, hE]

set_option maxRecDepth 16384 in
/-- Five arrays whole are their parts, one tile's at a time. -/
theorem deal (d : Dev nD) (gx : Buf (Elt F) (d, dr main_v0)) (g3 : Buf (Elt F) (d, dr main_v21)) (g4 : Buf (Elt F) (d, dr main_v23))
    (f5 : Buf (Elt F) (d, dr main_v24_0)) (f6 : Buf (Elt F) (d, dr main_v24_1)) :
    (iprop((((d, dr main_v0) : Loc nD τ sig) ↦{fullShare} gx) ∗ (((d, dr main_v21) : Loc nD τ sig) ↦{fullShare} g3)
          ∗ (((d, dr main_v23) : Loc nD τ sig) ↦{fullShare} g4) ∗ (((d, dr main_v24_0) : Loc nD τ sig) ↦{fullShare} f5)
          ∗ (((d, dr main_v24_1) : Loc nD τ sig) ↦{fullShare} f6)) : sProp 𝕄)
      = bigSep Finset.univ fun c : Fin 2 => bigSep Finset.univ fun s : Fin 16 => tileData d (tileAt c s) (xq c s) gx g3 g4 f5 f6 :=
  sep5 (a := fun c s => xPt d (tileAt c s) XM (xq c s) gx)
    (b := fun c s => bigSep (Finset.range (nT (tileAt c s))) (fun b => iPt d (tileAt c s) JA g3 (bT (tileAt c s) + b)))
    (c := fun c s => bigSep (Finset.range (nT (tileAt c s))) (fun b => iPt d (tileAt c s) JB g4 (bT (tileAt c s) + b)))
    (e := fun c s => bigSep (Finset.range (nT (tileAt c s))) (fun b => rPt d (tileAt c s) GA f5 (bT (tileAt c s) + b)))
    (f := fun c s => bigSep (Finset.range (nT (tileAt c s))) (fun b => rPt d (tileAt c s) GB f6 (bT (tileAt c s) + b)))
    ((table_eq (F := F) (ℓ := (d, dr main_v0)) gx).trans (bigSep_congr fun c _ => bigSep_congr fun s _ => by
      show _ = (((d, dr main_v0) : Loc nD τ sig) ↦[(xAll (Memref.whole main_v0_scv)).view.set]{xq c s} gx : sProp 𝕄)
      rw [xAll_set]))
    (blocks_eq (F := F) (ℓ := (d, dr main_v21)) (fun b => (iBlock JA b).view.set) (fun y => (y 1).val / 128)
      (fun y => by have : (y 1).val < 13056 := (y 1).isLt; omega) (fun b hb y => iBlockA_mem hb y) fullShare g3)
    (blocks_eq (F := F) (ℓ := (d, dr main_v23)) (fun b => (iBlock JB b).view.set) (fun y => (y 1).val / 128)
      (fun y => by have : (y 1).val < 13056 := (y 1).isLt; omega) (fun b hb y => iBlockB_mem hb y) fullShare g4)
    (blocks_eq (F := F) (ℓ := (d, dr main_v24_0)) (fun b => (rBlock GA b).view.set) (fun y => (y 0).val / 128)
      (fun y => by have : (y 0).val < 13056 := (y 0).isLt; omega) (fun b hb y => rBlockA_mem hb y) fullShare f5)
    (blocks_eq (F := F) (ℓ := (d, dr main_v24_1)) (fun b => (rBlock GB b).view.set) (fun y => (y 0).val / 128)
      (fun y => by have : (y 0).val < 13056 := (y 0).isLt; omega) (fun b hb y => rBlockB_mem hb y) fullShare f6)

theorem Otc_none (d : Dev nD) (n : ℕ) (g : GSem nD τ sig) : (K (F := F)).Otc d n g none = 0 := by
  unfold SparseCore.Cfg.Otc
  refine Finset.sum_induction _ (fun O : CellTallies nD τ sig (HIx 1) => O g none = 0) (fun a b ha hb => ?_) rfl fun q _ => ?_
  · show a g none + b g none = 0; rw [ha, hb]
  · split
    · refine Finset.sum_induction _ (fun O : CellTallies nD τ sig (HIx 1) => O g none = 0) (fun a b ha hb => ?_) rfl fun c _ => ?_
      · show a g none + b g none = 0; rw [ha, hb]
      · unfold tallyAt tallyOn
        by_cases hg : g = (K (F := F)).startCell d ((K (F := F)).core q c)
        · subst hg; rw [Pi.single_eq_same]; simp
        · rw [Pi.single_eq_of_ne hg]; rfl
    · rfl

end Cert.Proof
-- ==== Proof.Calls.lean ====
/- The two calls on the matrix core, as the program makes them. -/
module

public import proofs.«01_k».proof.Proof.Run

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (seq held after)
open Idealize.ShloMosaic.Pipeline (ucRefs)
open Idealize.ShloMosaic.Rounds

variable {F : FTy → Type} [FloatOps F]

local notation "𝕄" => MM F

variable (m : (ℓ : Loc nD τ sig) → Buf (Elt F) ℓ) (ρ : Dev nD → PrngReg)

/-! ## The two matrix-core calls -/

variable [∀ e, Nonempty (Elt F e)]

section Gen

variable {p : Fin 2} {dats : (p : Fin 2) → (c : Dev nD) → Pipeline.Dat τ (Elt F) (HIx 1) ℕ UU ℕ (Pipeline.pin (pcfgs (F := F)) adm p) c}
  (R : Pipeline.RegionSeg (pcfgs (F := F)) adm dats (default : HIx 1) defs₀ 𝒱₀ (K (F := F)).L (K (F := F)).lev p)

set_option maxHeartbeats 400000 in
/-- A pipelined call, by its segment. -/
theorem callIn (d : Dev nD) (A : sProp 𝕄)
    (hA : A ⊢ iprop((iprop(boundary (d.tc : Thread nD τ) ∗ R.post d) -∗ wp frame (wpE (D (F := F)) 𝒱 (d.tc : Thread nD τ) none) Set.univ
            (Prog.ret PUnit.unit) fun _ => iprop(boundary (d.tc : Thread nD τ) ∗ R.post d))
        ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)) :
    A ⊢ wp frame (wpE (D (F := F)) 𝒱 (d.tc : Thread nD τ) none) Set.univ
          (Prog.op (.customCall (Pipeline.entry p) ()) Prog.ret) fun _ => iprop(boundary (d.tc : Thread nD τ) ∗ R.post d) :=
  BIBase.Entails.trans hA (@Pipeline.RegionSeg.wp nD τ sig (Elt F) (HIx 1) _ ℕ _ UU _ ℕ Λ₀ (Fin 2) _ (pcfgs (F := F)) adm dats (default : HIx 1) cellOf_inj EP defs₀ 𝒱₀
    (K (F := F)).L (K (F := F)).lev _ _ _ _ p R d none (fun u hu => nomatch hu) PUnit Prog.ret (fun _ => iprop(boundary (d.tc : Thread nD τ) ∗ R.post d)))

set_option maxHeartbeats 400000 in
theorem callOut (d : Dev nD) (A : sProp 𝕄) (Φ : PUnit → sProp 𝕄)
    (hA : A ⊢ wp frame (wpE (D (F := F)) 𝒱 (T d) none) Set.univ (Prog.op (.customCall (Pipeline.entry p) ()) Prog.ret) Φ) :
    A ⊢ wp frame (wpE ((K (F := F)).defs (D (F := F))) 𝒱 (T d) none) Set.univ
          (Prog.op (.customCall (SparseCore.inner (Pipeline.entry p)) ()) Prog.ret) Φ :=
  BIBase.Entails.trans hA (@SparseCore.Cfg.wp_liftProg nD τ sig (Elt F) (ΛP (F := F)) 1 ℕ _ UU _ (K (F := F)) 1 (D (F := F)) 𝒱 (T d) Set.univ none PUnit
    (Prog.op (.customCall (Pipeline.entry p) ()) Prog.ret) Φ)

/-- A pipelined call of the program, by its segment. -/
theorem call (d : Dev nD) :
    iprop(boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.op (.customCall (SparseCore.inner (Pipeline.entry p)) ()) Prog.ret) fun _ => iprop(boundary (T d) ∗ R.post d) := by
  refine callOut d _ _ (callIn R d _ ?_)
  iintro H
  isplitr [H]
  · rw [wp_ret]
    iintro H
    imodintro
    iexact H
  iexact H

end Gen

abbrev segA := reg0 (F := F) (fun c b => VA m c (dr b)) (fun c => (K (F := F)).Otc c 0) (8 * SparseCore.Cfg.Blocks.fst 1 1 0) adm (fun c b => VB m c (dr b))
  (fun c g => Otc_none c 0 g) (fun c => VB_v0 m c) (fun c r h => VB_ne m c r h)

abbrev segB := reg1 (F := F) (fun c b => VD m c (dr b)) (fun c => (K (F := F)).Otc c 1) (8 * SparseCore.Cfg.Blocks.fst 1 1 1) adm (fun c b => VE m c (dr b))
  (fun c g => Otc_none c 1 g) (fun c => VE_v25 m c) (fun c r h => VE_ne m c r h)

end Cert.Proof
-- ==== Proof.Main.lean ====
/- The program's run on a device: the first matrix call, the host operations, the gather, the last call. -/
module

public import proofs.«01_k».proof.Proof.Calls

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (seq held after)
open Idealize.ShloMosaic.Pipeline (ucRefs)
open Idealize.ShloMosaic.Rounds

variable {F : FTy → Type} [FloatOps F]

local notation "𝕄" => MM F

variable (m : (ℓ : Loc nD τ sig) → Buf (Elt F) ℓ) (ρ : Dev nD → PrngReg)

variable [∀ e, Nonempty (Elt F e)]

/-- The host operations. -/
theorem hostRun (d : Dev nD) (V : Valuation τ sig (Elt F)) :
    iprop(boundary (T d) ∗ held (T d) (ucRefs τ sig) V)
      ⊢ wp frame (wpE ((K (F := F)).defs (D (F := F))) 𝒱 (T d) none) Set.univ (seq hostOps)
          fun _ => (iprop(boundary (T d) ∗ held (T d) (ucRefs τ sig) (after hostOps V)) : sProp 𝕄) := by
  have h := @StableHlo.wp_seq nD τ sig (Elt F) (SparseCore.Sig (ΛP (F := F)) 1) (HIx 1) _ ℕ _ UU _ ℕ _ ((K (F := F)).defs (D (F := F))) 𝒱 none Set.univ d (ucRefs τ sig) PUnit pure
    (fun _ => iprop(boundary (d.tc : Thread nD τ) ∗ held (d.tc : Thread nD τ) (ucRefs τ sig) (after hostOps V))) hostOps hostOps_in hostOps_nofresh V
  rw [bind_pure, wp_pure] at h
  refine h.trans ?_
  iintro H
  iapply H
  iintro H
  imodintro
  iexact H

/-! ## The gather -/

theorem st_eq (d : Dev nD) :
    (bigSep Finset.univ fun c : Fin ((K (F := F)).nCore 0) => (P (F := F) m).st 0 d c) = (held (T d) five (VC m d) : sProp 𝕄) := by
  rw [held_five, deal]
  rfl

theorem dn_eq (d : Dev nD) :
    (bigSep Finset.univ fun c : Fin ((K (F := F)).nCore 0) => (P (F := F) m).dn 0 d c) = (held (T d) five (VD m d) : sProp 𝕄) := by
  rw [held_five, VD_v24_0, VD_v24_1, VD_ne m d (dr main_v0) (StableHlo.devRef_ne_of_ne (by decide)) (StableHlo.devRef_ne_of_ne (by decide)),
    VD_ne m d (dr main_v21) (StableHlo.devRef_ne_of_ne (by decide)) (StableHlo.devRef_ne_of_ne (by decide)),
    VD_ne m d (dr main_v23) (StableHlo.devRef_ne_of_ne (by decide)) (StableHlo.devRef_ne_of_ne (by decide)), deal]
  rfl

theorem rest_eq (d : Dev nD) : (held (T d) (ucRefs τ sig \ five) (VC m d) : sProp 𝕄) = held (T d) (ucRefs τ sig \ five) (VD m d) :=
  StableHlo.held_congr _ fun b hb => by
    have hb := (Finset.mem_sdiff.mp hb).2
    simp only [five, Finset.mem_insert, Finset.mem_singleton, not_or] at hb
    exact (VD_ne m d b hb.2.2.2.1 hb.2.2.2.2).symm

theorem gather (κ : GSem nD τ sig → ℕ) (d : Dev nD) :
    iprop((K (F := F)).ctx EH (P m) κ ∗ (K (F := F)).tcSt EH d 0 ∗ held (T d) (ucRefs τ sig) (VC m d))
      ⊢ wp frame (wpE ((K (F := F)).defs (D (F := F))) 𝒱 (T d) none) Set.univ ((K (F := F)).run d 0)
          fun _ => iprop((K (F := F)).tcSt EH d 1 ∗ held (T d) (ucRefs τ sig) (VD m d)) := by
  rw [StableHlo.held_sub_split (T d) five_sub (VC m d), StableHlo.held_sub_split (T d) five_sub (VD m d), rest_eq, ← st_eq, ← dn_eq]
  iintro ⟨#Hctx, Hst, Hf, Hr⟩
  iapply ((K (F := F)).wp_run (D (F := F)) 𝒱 (EH := EH) (P := P m) κ d 0) $$ [Hst Hf Hr]
  isplitr; · iexact Hctx
  isplitl [Hst]; · iexact Hst
  isplitl [Hf]; · iexact Hf
  iintro ⟨Hst, Hdn⟩
  isplitl [Hst]; · iexact Hst
  isplitl [Hdn]; · iexact Hdn
  iexact Hr

/-! ## The program -/

abbrev FIN (d : Dev nD) : sProp 𝕄 := held (T d) (ucRefs τ sig) (VE m d)

theorem ghost_eq (d : Dev nD) : ghost (F := F) d
    = iprop((Pipeline.cellsGhost (Pipeline.pin (pcfgs (F := F)) adm) EP 0 d ∗ Pipeline.cellsGhost (Pipeline.pin (pcfgs (F := F)) adm) EP 1 d)
      ∗ (Pipeline.toksInit (Pipeline.pin (pcfgs (F := F)) adm) EP 0 d ∗ Pipeline.toksInit (Pipeline.pin (pcfgs (F := F)) adm) EP 1 d)) := by
  unfold ghost
  rw [bigSep_univ_eq_bigSepL [(0 : Fin 2), 1] (by decide) (by decide), bigSep_univ_eq_bigSepL [(0 : Fin 2), 1] (by decide) (by decide)]
  rfl

theorem tcSt_eq (d : Dev nD) (n : ℕ) : ∃ R : sProp 𝕄, (K (F := F)).tcSt EH d n
    = iprop((∃ W, ⌜(K (F := F)).WBelow (T d) W (8 * SparseCore.Cfg.Blocks.fst 1 1 n)⌝ ∗ owes (T d) ((K (F := F)).Otc d n) W) ∗ R) := ⟨_, rfl⟩

theorem preA (d : Dev nD) : (segA (F := F) m).pre d
    = iprop(held (T d) (ucRefs τ sig) (VA m d) ∗ ∃ W, ⌜(K (F := F)).WBelow (T d) W (8 * SparseCore.Cfg.Blocks.fst 1 1 0)⌝ ∗ owes (T d) ((K (F := F)).Otc d 0) W) := by
  rw [← Pipeline.unscopedBufs_held]; rfl
theorem postA (d : Dev nD) : (segA (F := F) m).post d
    = iprop(held (T d) (ucRefs τ sig) (VB m d) ∗ ∃ W, ⌜(K (F := F)).WBelow (T d) W (8 * SparseCore.Cfg.Blocks.fst 1 1 0)⌝ ∗ owes (T d) ((K (F := F)).Otc d 0) W) := by
  rw [← Pipeline.unscopedBufs_held]; rfl
theorem preB (d : Dev nD) : (segB (F := F) m).pre d
    = iprop(held (T d) (ucRefs τ sig) (VD m d) ∗ ∃ W, ⌜(K (F := F)).WBelow (T d) W (8 * SparseCore.Cfg.Blocks.fst 1 1 1)⌝ ∗ owes (T d) ((K (F := F)).Otc d 1) W) := by
  rw [← Pipeline.unscopedBufs_held]; rfl
theorem postB (d : Dev nD) : (segB (F := F) m).post d
    = iprop(held (T d) (ucRefs τ sig) (VE m d) ∗ ∃ W, ⌜(K (F := F)).WBelow (T d) W (8 * SparseCore.Cfg.Blocks.fst 1 1 1)⌝ ∗ owes (T d) ((K (F := F)).Otc d 1) W) := by
  rw [← Pipeline.unscopedBufs_held]; rfl

set_option maxHeartbeats 400000 in
theorem hmain (κ : GSem nD τ sig → ℕ) (d : Dev nD) :
    iprop((K (F := F)).ctx EH (P m) κ ∗ (K (F := F)).tcSt EH d 0 ∗ (K (F := F)).tcRes m ρ d ∗ ghost (F := F) d)
      ⊢ wp frame (wpE ((K (F := F)).defs (D (F := F))) 𝒱 (T d) none) Set.univ (main d)
          fun _ => iprop((K (F := F)).tcSt EH d 1 ∗ FIN m d ∗ (K (F := F)).tcEnd d) := by
  have hu : (unscopedBufs d (fun b => m ((SparseCore.T d : Thread nD τ).loc b)) : sProp 𝕄) = held (T d) (ucRefs τ sig) (VA m d) := by
    rw [← Pipeline.unscopedBufs_held]; rfl
  obtain ⟨R0, h0⟩ := tcSt_eq (F := F) d 0
  obtain ⟨R1, h1⟩ := tcSt_eq (F := F) d 1
  have hA := call (segA (F := F) m) d
  have hH := hostRun (F := F) d (VB m d)
  have hG := gather (F := F) m κ d
  have hB := call (segB (F := F) m) d
  rw [preA, postA] at hA
  rw [preB, postB] at hB
  rw [h1] at hG
  rw [h0] at hG
  unfold SparseCore.Cfg.tcRes SparseCore.Cfg.tcEnd
  rw [hu, ghost_eq, main_eq, h0, h1]
  simp only [wp_bind, wp_pure, Prog.lift]
  iintro ⟨#Hctx, ⟨HO, HR⟩, ⟨Hb, Hu, Hts, -⟩, ⟨⟨Hc0, Hc1⟩, Ht0, Ht1⟩⟩
  ihave #Hlev := (SparseCore.Cfg.ctx_levAts (K := K (F := F)) (EH := EH) (P := P m) κ) $$ Hctx
  ihave H := hA $$ [Hb Hu HO Hc0 Ht0]
  · isplitl [Hb]; · iexact Hb
    isplitl [Hu HO]
    · isplitl [Hu] <;> iassumption
    isplitr; · iexact Hlev
    isplitl [Hc0] <;> iassumption
  iapply (wp_wand_r _ _ _) $$ [-]
  isplitl [H]; · iexact H
  iintro %_ ⟨Hb, Hu, HO⟩
  ihave H := hH $$ [Hb Hu]
  · isplitl [Hb] <;> iassumption
  iapply (wp_wand_r _ _ _) $$ [-]
  isplitl [H]; · iexact H
  iintro %_ ⟨Hb, Hu⟩
  ihave H := hG $$ [HO HR Hu]
  · isplitr; · iexact Hctx
    isplitl [HO HR]
    · isplitl [HO] <;> iassumption
    iexact Hu
  iapply (wp_wand_r _ _ _) $$ [-]
  isplitl [H]; · iexact H
  iintro %_ ⟨⟨HO, HR⟩, Hu⟩
  ihave H := hB $$ [Hb Hu HO Hc1 Ht1]
  · isplitl [Hb]; · iexact Hb
    isplitl [Hu HO]
    · isplitl [Hu] <;> iassumption
    isplitr; · iexact Hlev
    isplitl [Hc1] <;> iassumption
  iapply (wp_wand_r _ _ _) $$ [-]
  isplitl [H]; · iexact H
  iintro %_ ⟨Hb, Hu, HO⟩
  imodintro
  isplitl [HO HR]
  · isplitl [HO] <;> iassumption
  isplitl [Hu]; · iexact Hu
  isplitl [Hb] <;> iassumption

end Cert.Proof
-- ==== Proof.Whole.lean ====
/- The whole program's run, from any memory whose row numbers name rows. -/
module

public import proofs.«01_k».proof.Proof.Main

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (seq held after)
open Idealize.ShloMosaic.Pipeline (ucRefs)
open Idealize.ShloMosaic.Rounds

variable {F : FTy → Type} [FloatOps F]

local notation "𝕄" => MM F

variable (m : (ℓ : Loc nD τ sig) → Buf (Elt F) ℓ) (ρ : Dev nD → PrngReg)

/-- Buffers held at a valuation read as it says. -/
theorem held_agree (d : Dev nD) (s' : Phys nD τ sig (Elt F)) (S : Finset (DevRef τ sig)) (W : Valuation τ sig (Elt F)) :
    iprop(held (T d) S W ∗ SI s') ⊢ (⌜∀ b ∈ S, s'.mem.mem (d, b) = W b⌝ : sProp 𝕄) := by
  classical
  induction S using Finset.induction_on with
  | empty => iintro -; ipureintro; intro b hb; exact absurd hb (Finset.notMem_empty b)
  | insert b S hb ih =>
    unfold held at ih ⊢
    rw [SparseCore.bigSep_insert' hb]
    iintro ⟨⟨Hb, HS⟩, HSI⟩
    ihave H := (persistent_entails_right (SI_pointsTo_agree (st := s') (ℓ := (d, b)) (I := Finset.univ) (q := fullShare) (f := W b))) $$ [HSI Hb]
    · isplitl [HSI] <;> iassumption
    icases H with ⟨%h1, HSI, -⟩
    ihave H := ih $$ [HS HSI]
    · isplitl [HS] <;> iassumption
    icases H with %h2
    ipureintro
    intro b' hb'
    rcases Finset.mem_insert.mp hb' with rfl | h
    · exact funext fun i => h1 i (Finset.mem_univ i)
    · exact h2 b' h

def fq (d : Dev nD) (s' : Phys nD τ sig (Elt F)) : Prop := ∀ b ∈ ucRefs τ sig, s'.mem.mem (d, b) = VE m d b

theorem hfin (d : Dev nD) (s' : Phys nD τ sig (Elt F)) : iprop(FIN m d ∗ SI s') ⊢ (⌜fq m d s'⌝ : sProp 𝕄) := held_agree d s' _ _

def QC : PUnit × MemSt nD τ sig (Elt F) → Prop := fun r => (∀ d : Dev nD, ∀ b ∈ ucRefs τ sig, r.2.mem (d, b) = VE m d b) ∧ r.2.sem = fun _ => 0

/-- The run: every unscoped buffer ends at the last valuation, every counter at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq) (fun q _ => match q with | 0 => tileObl m facts hpre)
    (fun q _ => match q with | 0 => SparseCore.Cfg.VecSplit.of_plain (vecSplit m))
    m ρ main (fun d => ghost (F := F) d) (FIN m) (u₀ (F := F)) (sep_elim_left.trans (hu₀ m)) (hmain m ρ) (fq m) (hfin m) (QC m) (fun _ h hz => ⟨h, hz⟩)

theorem mem_uc (r : Ref sig .tc) (h : (dr r).isScoped = false) : dr r ∈ ucRefs τ sig :=
  Finset.mem_filter.mpr ⟨StableHlo.devRef_mem_tcRefs _, by simpa using h⟩

end Cert.Proof
-- ==== Proof.Range.lean ====
/- The precondition: every index array names rows of the table. -/
module

public import proofs.«01_k».proof.Proof.Gen.Pre_in_range
public import proofs.«01_k».proof.Defs
public import Idealize.ShloMosaic.Lib.ReduceAll

@[expose] public section

noncomputable section

namespace Cert.Proof

open Idealize.ShloMosaic
open Cert.Pre_in_range

theorem word_in_range (v : BitVec 32) (e : IntOp.andi (IntOp.cmpi .sge v 0#32) (IntOp.cmpi .slt v 10000#32) = 1#1) : v.toNat < 10000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem bit_and (p q : BitVec 1) (e : IntOp.andi p q = 1#1) : p = 1#1 ∧ q = 1#1 := by revert p q; decide

instance : Subsingleton S_.Idx := ⟨fun a b => funext fun i => i.elim0⟩

/-- Every word of an array names a row. -/
def Rows {s : Shape} (a : s.Idx → BitVec 32) : Prop := ∀ i, (a i).toNat < 10000

variable {F : FTy → Type} [FloatOps F]

theorem both (a b : IVec S_ 1) (j : S_.Idx) (h : andi a b j = 1#1) : a j = 1#1 ∧ b j = 1#1 := bit_and (a j) (b j) h

/-- One array's test: every word at least 0 and below 10000. -/
abbrev test {s : Shape} (hb : S_.BroadcastsInDim s (![] : Fin 0 → Fin s.rank)) {ax : List (Fin s.rank)} (hr : s.ReducesTo ax S_) (h0 : 0 < S_.numel)
    (x : IVec s 32) : IVec S_ 1 :=
  Host.reduce IntOp.andi (andi (cmpi .sge x (broadcastInDim s ![] hb (constantI S_ 32 0#32))) (cmpi .slt x (broadcastInDim s ![] hb (constantI S_ 32 10000#32))))
    (constantI S_ 1 1#1) hr h0

theorem rows_of_test {s : Shape} (hb : S_.BroadcastsInDim s (![] : Fin 0 → Fin s.rank)) {ax : List (Fin s.rank)} (hr : s.ReducesTo ax S_) (h0 : 0 < S_.numel)
    (x : IVec s 32) (j : S_.Idx) (e : test hb hr h0 x j = 1#1) : Rows x := fun i =>
  word_in_range (x i) (Host.reduce_andi_all _ _ hr h0 j e i)

theorem rows_of_pre [Cert.Pre_in_range.Facts] (x0 : FVec F S10000x128 .f32) (x1 : FVec F S10000x10000 .f32) (x2 : FVec F S10000x128 .f32) (x3 x4 : IVec S1000 32)
    (x5 x6 x7 x8 : IVec S5000 32) (x9 x10 x11 x12 : IVec S1000 32)
    (h : fn (F := F) x0 x1 x2 x3 x4 x5 x6 x7 x8 x9 x10 x11 x12 = constantI S_ 1 1#1) :
    (Rows x3 ∧ Rows x4) ∧ (Rows x5 ∧ Rows x6 ∧ Rows x7 ∧ Rows x8) ∧ Rows x9 ∧ Rows x10 ∧ Rows x11 ∧ Rows x12 := by
  have hf : fn (F := F) x0 x1 x2 x3 x4 x5 x6 x7 x8 x9 x10 x11 x12
    = andi (andi (andi (andi (andi (andi (andi (andi (andi
        (test Facts.bcast_S_S1000 Facts.reducesTo_S1000_S_d0 Facts.h_S_ x3) (test Facts.bcast_S_S1000 Facts.reducesTo_S1000_S_d0 Facts.h_S_ x4))
        (test Facts.bcast_S_S5000 Facts.reducesTo_S5000_S_d0 Facts.h_S_ x5)) (test Facts.bcast_S_S5000 Facts.reducesTo_S5000_S_d0 Facts.h_S_ x6))
        (test Facts.bcast_S_S5000 Facts.reducesTo_S5000_S_d0 Facts.h_S_ x7)) (test Facts.bcast_S_S5000 Facts.reducesTo_S5000_S_d0 Facts.h_S_ x8))
        (test Facts.bcast_S_S1000 Facts.reducesTo_S1000_S_d0 Facts.h_S_ x9)) (test Facts.bcast_S_S1000 Facts.reducesTo_S1000_S_d0 Facts.h_S_ x10))
        (test Facts.bcast_S_S1000 Facts.reducesTo_S1000_S_d0 Facts.h_S_ x11)) (test Facts.bcast_S_S1000 Facts.reducesTo_S1000_S_d0 Facts.h_S_ x12) := by
    simp only [fn, fn_part1, fn_part2, fn_part3, fn_part4]
  rw [hf] at h
  have e : _ = 1#1 := congrFun h (fun i => i.elim0)
  obtain ⟨e, e12⟩ := both _ _ _ e
  obtain ⟨e, e11⟩ := both _ _ _ e
  obtain ⟨e, e10⟩ := both _ _ _ e
  obtain ⟨e, e9⟩ := both _ _ _ e
  obtain ⟨e, e8⟩ := both _ _ _ e
  obtain ⟨e, e7⟩ := both _ _ _ e
  obtain ⟨e, e6⟩ := both _ _ _ e
  obtain ⟨e, e5⟩ := both _ _ _ e
  obtain ⟨e3, e4⟩ := both _ _ _ e
  exact ⟨⟨rows_of_test _ _ _ _ _ e3, rows_of_test _ _ _ _ _ e4⟩,
    ⟨rows_of_test _ _ _ _ _ e5, rows_of_test _ _ _ _ _ e6, rows_of_test _ _ _ _ _ e7, rows_of_test _ _ _ _ _ e8⟩,
    rows_of_test _ _ _ _ _ e9, rows_of_test _ _ _ _ _ e10, rows_of_test _ _ _ _ _ e11, rows_of_test _ _ _ _ _ e12⟩

end Cert.Proof
-- ==== Proof.Lists.lean ====
/- The two lists of row numbers the host operations make of the index arrays. -/
module

public import proofs.«01_k».proof.Proof.Host
public import proofs.«01_k».proof.Proof.Range
public import Idealize.ShloMosaic.Lib.Pointwise

@[expose] public section

noncomputable section

namespace Cert.Proof

open Cert.KernelIdeal Cert.KernelIdeal.Gen

open Idealize.ShloMosaic
open Idealize.ShloMosaic.StableHlo (seq seqK after)

variable {F : FTy → Type} [FloatOps F]

/-- The four lists of 5000, each group-of-five list read member by member first. -/
def km (a b c d : S5000.Idx → BitVec 32) : S4x5000.Idx → BitVec 32 :=
  shapeCast S4x5000 (transpose S4x5x1000 [0, 2, 1] (shapeCast S4x1000x5
    (concatenate S4x5000 0 [⟨S1x5000, broadcastInDim S1x5000 ![1] bcast_S5000_S1x5000_1 a⟩, ⟨S1x5000, broadcastInDim S1x5000 ![1] bcast_S5000_S1x5000_1 b⟩,
        ⟨S1x5000, broadcastInDim S1x5000 ![1] bcast_S5000_S1x5000_1 c⟩, ⟨S1x5000, broadcastInDim S1x5000 ![1] bcast_S5000_S1x5000_1 d⟩]
      concatenates_S1x5000_S1x5000_S1x5000_S1x5000_S4x5000_d0)
    shapeCasts_S4x5000_S4x1000x5) transposes_S4x1000x5_S4x5x1000_0_2_1) shapeCasts_S4x5x1000_S4x5000

/-- The whole list: one of 1000, two of 5000, two of 1000, then zeros. -/
def padded (a : S1000.Idx → BitVec 32) (b c : S5000.Idx → BitVec 32) (d e : S1000.Idx → BitVec 32) : S1x13056.Idx → BitVec 32 :=
  shapeCast S1x13056 (concatenate S13056 0 [⟨S13000, concatenate S13000 0 [⟨S1000, a⟩, ⟨S5000, b⟩, ⟨S5000, c⟩, ⟨S1000, d⟩, ⟨S1000, e⟩]
        concatenates_S1000_S5000_S5000_S1000_S1000_S13000_d0⟩,
      ⟨S56, broadcastInDim S56 ![] bcast_S_S56 (constantI S_ 32 0#32)⟩] concatenates_S13000_S56_S13056_d0) shapeCasts_S13056_S1x13056

def row0 (x : S4x5000.Idx → BitVec 32) : S5000.Idx → BitVec 32 := shapeCast S5000 (extractStridedSlice S1x5000 ![0, 0] x slices_S4x5000_S1x5000_0_0) shapeCasts_S1x5000_S5000
def row1 (x : S4x5000.Idx → BitVec 32) : S5000.Idx → BitVec 32 := shapeCast S5000 (extractStridedSlice S1x5000 ![1, 0] x slices_S4x5000_S1x5000_1_0) shapeCasts_S1x5000_S5000
def row2 (x : S4x5000.Idx → BitVec 32) : S5000.Idx → BitVec 32 := shapeCast S5000 (extractStridedSlice S1x5000 ![2, 0] x slices_S4x5000_S1x5000_2_0) shapeCasts_S1x5000_S5000
def row3 (x : S4x5000.Idx → BitVec 32) : S5000.Idx → BitVec 32 := shapeCast S5000 (extractStridedSlice S1x5000 ![3, 0] x slices_S4x5000_S1x5000_3_0) shapeCasts_S1x5000_S5000

def opsA : List (HloOp τ sig (Elt F)) :=
  [StableHlo.unary main_arg5 main_v1 (broadcastInDim S1x5000 ![1] bcast_S5000_S1x5000_1 : (⟨S5000, .i32⟩ : BufTy).Contents (Elt F) → (⟨S1x5000, .i32⟩ : BufTy).Contents (Elt F)),
    StableHlo.unary main_arg6 main_v2 (broadcastInDim S1x5000 ![1] bcast_S5000_S1x5000_1 : (⟨S5000, .i32⟩ : BufTy).Contents (Elt F) → (⟨S1x5000, .i32⟩ : BufTy).Contents (Elt F)),
    StableHlo.unary main_arg7 main_v3 (broadcastInDim S1x5000 ![1] bcast_S5000_S1x5000_1 : (⟨S5000, .i32⟩ : BufTy).Contents (Elt F) → (⟨S1x5000, .i32⟩ : BufTy).Contents (Elt F)),
    StableHlo.unary main_arg8 main_v4 (broadcastInDim S1x5000 ![1] bcast_S5000_S1x5000_1 : (⟨S5000, .i32⟩ : BufTy).Contents (Elt F) → (⟨S1x5000, .i32⟩ : BufTy).Contents (Elt F)),
    StableHlo.nary ![main_v1, main_v2, main_v3, main_v4] main_v5 (fun u => (concatenate S4x5000 0 [⟨S1x5000, (u 0 : (⟨S1x5000, .i32⟩ : BufTy).Contents (Elt F))⟩, ⟨S1x5000, (u 1 : (⟨S1x5000, .i32⟩ : BufTy).Contents (Elt F))⟩, ⟨S1x5000, (u 2 : (⟨S1x5000, .i32⟩ : BufTy).Contents (Elt F))⟩, ⟨S1x5000, (u 3 : (⟨S1x5000, .i32⟩ : BufTy).Contents (Elt F))⟩] concatenates_S1x5000_S1x5000_S1x5000_S1x5000_S4x5000_d0 : (⟨S4x5000, .i32⟩ : BufTy).Contents (Elt F))),
    StableHlo.reshape main_v5 main_v6 (rfl : (.i32 : EltTy) = .i32) shapeCasts_S4x5000_S4x1000x5,
    StableHlo.unary main_v6 main_v7 ((transpose S4x5x1000 [0, 2, 1] · transposes_S4x1000x5_S4x5x1000_0_2_1) : (⟨S4x1000x5, .i32⟩ : BufTy).Contents (Elt F) → (⟨S4x5x1000, .i32⟩ : BufTy).Contents (Elt F)),
    StableHlo.reshape main_v7 main_v8 (rfl : (.i32 : EltTy) = .i32) shapeCasts_S4x5x1000_S4x5000]
def wrA : List (Ref sig .tc) := [main_v1, main_v2, main_v3, main_v4, main_v5, main_v6, main_v7, main_v8]
set_option maxRecDepth 8192 in
theorem keepA (V0 : Valuation τ sig (Elt F)) (r : Ref sig .tc) (h : r ∉ wrA) : after (opsA (F := F)) V0 (dr r) = V0 (dr r) :=
  StableHlo.after_of_writes_sub _ _ (show (opsA (F := F)).Forall fun op => op.writes ⊆ (wrA.map (Proc.devRef (τ := τ) .tc)).toFinset from StableHlo.forall_writes_sub_of_map rfl) h

def opsB : List (HloOp τ sig (Elt F)) :=
  [StableHlo.unary main_v8 main_v9 ((extractStridedSlice S1x5000 ![0, 0] · slices_S4x5000_S1x5000_0_0) : (⟨S4x5000, .i32⟩ : BufTy).Contents (Elt F) → (⟨S1x5000, .i32⟩ : BufTy).Contents (Elt F)),
    StableHlo.reshape main_v9 main_v10 (rfl : (.i32 : EltTy) = .i32) shapeCasts_S1x5000_S5000,
    StableHlo.unary main_v8 main_v11 ((extractStridedSlice S1x5000 ![1, 0] · slices_S4x5000_S1x5000_1_0) : (⟨S4x5000, .i32⟩ : BufTy).Contents (Elt F) → (⟨S1x5000, .i32⟩ : BufTy).Contents (Elt F)),
    StableHlo.reshape main_v11 main_v12 (rfl : (.i32 : EltTy) = .i32) shapeCasts_S1x5000_S5000,
    StableHlo.unary main_v8 main_v13 ((extractStridedSlice S1x5000 ![2, 0] · slices_S4x5000_S1x5000_2_0) : (⟨S4x5000, .i32⟩ : BufTy).Contents (Elt F) → (⟨S1x5000, .i32⟩ : BufTy).Contents (Elt F)),
    StableHlo.reshape main_v13 main_v14 (rfl : (.i32 : EltTy) = .i32) shapeCasts_S1x5000_S5000,
    StableHlo.unary main_v8 main_v15 ((extractStridedSlice S1x5000 ![3, 0] · slices_S4x5000_S1x5000_3_0) : (⟨S4x5000, .i32⟩ : BufTy).Contents (Elt F) → (⟨S1x5000, .i32⟩ : BufTy).Contents (Elt F)),
    StableHlo.reshape main_v15 main_v16 (rfl : (.i32 : EltTy) = .i32) shapeCasts_S1x5000_S5000]
def wrB : List (Ref sig .tc) := [main_v9, main_v10, main_v11, main_v12, main_v13, main_v14, main_v15, main_v16]
set_option maxRecDepth 8192 in
theorem keepB (V0 : Valuation τ sig (Elt F)) (r : Ref sig .tc) (h : r ∉ wrB) : after (opsB (F := F)) V0 (dr r) = V0 (dr r) :=
  StableHlo.after_of_writes_sub _ _ (show (opsB (F := F)).Forall fun op => op.writes ⊆ (wrB.map (Proc.devRef (τ := τ) .tc)).toFinset from StableHlo.forall_writes_sub_of_map rfl) h

def opsC : List (HloOp τ sig (Elt F)) :=
  [StableHlo.nary ![main_arg3, main_v10, main_v14, main_arg11, main_arg9] main_v17 (fun u => (concatenate S13000 0 [⟨S1000, (u 0 : (⟨S1000, .i32⟩ : BufTy).Contents (Elt F))⟩, ⟨S5000, (u 1 : (⟨S5000, .i32⟩ : BufTy).Contents (Elt F))⟩, ⟨S5000, (u 2 : (⟨S5000, .i32⟩ : BufTy).Contents (Elt F))⟩, ⟨S1000, (u 3 : (⟨S1000, .i32⟩ : BufTy).Contents (Elt F))⟩, ⟨S1000, (u 4 : (⟨S1000, .i32⟩ : BufTy).Contents (Elt F))⟩] concatenates_S1000_S5000_S5000_S1000_S1000_S13000_d0 : (⟨S13000, .i32⟩ : BufTy).Contents (Elt F))),
    StableHlo.nary ![main_arg4, main_v12, main_v16, main_arg12, main_arg10] main_v18 (fun u => (concatenate S13000 0 [⟨S1000, (u 0 : (⟨S1000, .i32⟩ : BufTy).Contents (Elt F))⟩, ⟨S5000, (u 1 : (⟨S5000, .i32⟩ : BufTy).Contents (Elt F))⟩, ⟨S5000, (u 2 : (⟨S5000, .i32⟩ : BufTy).Contents (Elt F))⟩, ⟨S1000, (u 3 : (⟨S1000, .i32⟩ : BufTy).Contents (Elt F))⟩, ⟨S1000, (u 4 : (⟨S1000, .i32⟩ : BufTy).Contents (Elt F))⟩] concatenates_S1000_S5000_S5000_S1000_S1000_S13000_d0 : (⟨S13000, .i32⟩ : BufTy).Contents (Elt F))),
    StableHlo.nullary main_c (constantI S_ 32 0#32),
    StableHlo.unary main_c main_v19 (broadcastInDim S56 ![] bcast_S_S56 : (⟨S_, .i32⟩ : BufTy).Contents (Elt F) → (⟨S56, .i32⟩ : BufTy).Contents (Elt F)),
    StableHlo.binary main_v17 main_v19 main_v20 ((fun a b => concatenate S13056 0 [⟨S13000, a⟩, ⟨S56, b⟩] concatenates_S13000_S56_S13056_d0) : (⟨S13000, .i32⟩ : BufTy).Contents (Elt F) → (⟨S56, .i32⟩ : BufTy).Contents (Elt F) → (⟨S13056, .i32⟩ : BufTy).Contents (Elt F)),
    StableHlo.reshape main_v20 main_v21 (rfl : (.i32 : EltTy) = .i32) shapeCasts_S13056_S1x13056,
    StableHlo.binary main_v18 main_v19 main_v22 ((fun a b => concatenate S13056 0 [⟨S13000, a⟩, ⟨S56, b⟩] concatenates_S13000_S56_S13056_d0) : (⟨S13000, .i32⟩ : BufTy).Contents (Elt F) → (⟨S56, .i32⟩ : BufTy).Contents (Elt F) → (⟨S13056, .i32⟩ : BufTy).Contents (Elt F)),
    StableHlo.reshape main_v22 main_v23 (rfl : (.i32 : EltTy) = .i32) shapeCasts_S13056_S1x13056]
def wrC : List (Ref sig .tc) := [main_v17, main_v18, main_c, main_v19, main_v20, main_v21, main_v22, main_v23]
set_option maxRecDepth 8192 in
theorem keepC (V0 : Valuation τ sig (Elt F)) (r : Ref sig .tc) (h : r ∉ wrC) : after (opsC (F := F)) V0 (dr r) = V0 (dr r) :=
  StableHlo.after_of_writes_sub _ _ (show (opsC (F := F)).Forall fun op => op.writes ⊆ (wrC.map (Proc.devRef (τ := τ) .tc)).toFinset from StableHlo.forall_writes_sub_of_map rfl) h

theorem ops_eq : hostOps (F := F) = opsA ++ (opsB ++ opsC) := rfl

set_option maxRecDepth 8192 in
theorem val_v8 (V0 : Valuation τ sig (Elt F)) : after (opsA (F := F)) V0 (dr main_v8)
    = km (V0 (dr main_arg5)) (V0 (dr main_arg6)) (V0 (dr main_arg7)) (V0 (dr main_arg8)) := by
  simp only [opsA]
  after_results_simp
  rfl

set_option maxRecDepth 8192 in
theorem val_v10 (V0 : Valuation τ sig (Elt F)) : after (opsB (F := F)) V0 (dr main_v10) = row0 (V0 (dr main_v8)) := by
  simp only [opsB]
  after_results_simp
  rfl

set_option maxRecDepth 8192 in
theorem val_v12 (V0 : Valuation τ sig (Elt F)) : after (opsB (F := F)) V0 (dr main_v12) = row1 (V0 (dr main_v8)) := by
  simp only [opsB]
  after_results_simp
  rfl

set_option maxRecDepth 8192 in
theorem val_v14 (V0 : Valuation τ sig (Elt F)) : after (opsB (F := F)) V0 (dr main_v14) = row2 (V0 (dr main_v8)) := by
  simp only [opsB]
  after_results_simp
  rfl

set_option maxRecDepth 8192 in
theorem val_v16 (V0 : Valuation τ sig (Elt F)) : after (opsB (F := F)) V0 (dr main_v16) = row3 (V0 (dr main_v8)) := by
  simp only [opsB]
  after_results_simp
  rfl

set_option maxRecDepth 8192 in
theorem val_v21 (V0 : Valuation τ sig (Elt F)) : after (opsC (F := F)) V0 (dr main_v21)
    = padded (V0 (dr main_arg3)) (V0 (dr main_v10)) (V0 (dr main_v14)) (V0 (dr main_arg11)) (V0 (dr main_arg9)) := by
  simp only [opsC]
  after_results_simp
  rfl

set_option maxRecDepth 8192 in
theorem val_v23 (V0 : Valuation τ sig (Elt F)) : after (opsC (F := F)) V0 (dr main_v23)
    = padded (V0 (dr main_arg4)) (V0 (dr main_v12)) (V0 (dr main_v16)) (V0 (dr main_arg12)) (V0 (dr main_arg10)) := by
  simp only [opsC]
  after_results_simp
  rfl

theorem after_v21 (V0 : Valuation τ sig (Elt F)) : after (hostOps (F := F)) V0 (dr main_v21)
    = padded (V0 (dr main_arg3)) (row0 (km (V0 (dr main_arg5)) (V0 (dr main_arg6)) (V0 (dr main_arg7)) (V0 (dr main_arg8))))
      (row2 (km (V0 (dr main_arg5)) (V0 (dr main_arg6)) (V0 (dr main_arg7)) (V0 (dr main_arg8)))) (V0 (dr main_arg11)) (V0 (dr main_arg9)) := by
  rw [ops_eq, StableHlo.after_append, StableHlo.after_append, val_v21, val_v10, val_v14, val_v8, keepB _ main_arg3 (by decide), keepA _ main_arg3 (by decide), keepB _ main_arg11 (by decide), keepA _ main_arg11 (by decide), keepB _ main_arg9 (by decide), keepA _ main_arg9 (by decide)]

theorem after_v23 (V0 : Valuation τ sig (Elt F)) : after (hostOps (F := F)) V0 (dr main_v23)
    = padded (V0 (dr main_arg4)) (row1 (km (V0 (dr main_arg5)) (V0 (dr main_arg6)) (V0 (dr main_arg7)) (V0 (dr main_arg8))))
      (row3 (km (V0 (dr main_arg5)) (V0 (dr main_arg6)) (V0 (dr main_arg7)) (V0 (dr main_arg8)))) (V0 (dr main_arg12)) (V0 (dr main_arg10)) := by
  rw [ops_eq, StableHlo.after_append, StableHlo.after_append, val_v23, val_v12, val_v16, val_v8, keepB _ main_arg4 (by decide), keepA _ main_arg4 (by decide), keepB _ main_arg12 (by decide), keepA _ main_arg12 (by decide), keepB _ main_arg10 (by decide), keepA _ main_arg10 (by decide)]

/-! ## Every word of the lists names a row -/

theorem rows_cast {s t : Shape} (x : s.Idx → BitVec 32) (h : s.ShapeCasts t) (hx : Rows x) : Rows (shapeCast t x h) := fun _ => hx _

theorem rows_bc {s t : Shape} (dims : Fin s.rank → Fin t.rank) (h : s.BroadcastsInDim t dims) (x : s.Idx → BitVec 32) (hx : Rows x) :
    Rows (broadcastInDim t dims h x) := fun _ => hx _

theorem rows_km (a b c d : S5000.Idx → BitVec 32) (ha : Rows a) (hb : Rows b) (hc : Rows c) (hd : Rows d) : Rows (km a b c d) :=
  rows_cast _ _ (fun j => rows_cast _ _ (concatenate_forall (P := fun w : BitVec 32 => w.toNat < 10000) _ _ _ _ (by
    simp only [List.forall_mem_cons]
    exact ⟨rows_bc _ _ _ ha, rows_bc _ _ _ hb, rows_bc _ _ _ hc, rows_bc _ _ _ hd, by simp⟩)) _)

theorem rows_padded (a : S1000.Idx → BitVec 32) (b c : S5000.Idx → BitVec 32) (d e : S1000.Idx → BitVec 32)
    (ha : Rows a) (hb : Rows b) (hc : Rows c) (hd : Rows d) (he : Rows e) : Rows (padded a b c d e) :=
  rows_cast _ _ (concatenate_forall (P := fun w : BitVec 32 => w.toNat < 10000) _ _ _ _ (by
    simp only [List.forall_mem_cons]
    refine ⟨concatenate_forall (P := fun w : BitVec 32 => w.toNat < 10000) _ _ _ _ (by
      simp only [List.forall_mem_cons]
      exact ⟨ha, hb, hc, hd, he, by simp⟩), rows_bc _ _ _ (fun _ => (by decide : (0#32 : BitVec 32).toNat < 10000)), by simp⟩))

end Cert.Proof
-- ==== Proof.Frames.lean ====
/- The frame claims: the kernel's at the bit-exact and the ideal instance, the reference's. -/
module

public import proofs.«01_k».proof.Proof.Whole
public import proofs.«01_k».proof.Proof.Lists
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic
open Idealize.SL.Sem

section

open Cert.KernelIdeal Cert.KernelIdeal.Gen

variable {F : FTy → Type} [FloatOps F] (m : (ℓ : Loc nD τ sig) → Buf (Elt F) ℓ) (ρ : Dev nD → PrngReg)

/-- The argument arrays end as they started, and every counter reads zero. -/
def ArgsKept (r : PUnit × MemSt nD τ sig (Elt F)) : Prop :=
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12))
  ∧ r.2.sem = fun _ => 0

theorem kept_of_QC (r : PUnit × MemSt nD τ sig (Elt F)) (h : QC m r) : ArgsKept m r := by
  have key : ∀ (c : Dev nD) (b : Ref sig .tc), (dr b).isScoped = false → b ∉ main_v0 :: main_v24_0 :: main_v24_1 :: main_v25 :: hostW →
      r.2.mem ((c.tc : Thread nD τ).loc b) = m ((c.tc : Thread nD τ).loc b) := fun c b hs hb => (h.1 c (dr b) (mem_uc b hs)).trans (VE_arg m c b hb)
  exact ⟨fun c => ⟨key c main_arg0 (by decide) (by decide), key c main_arg1 (by decide) (by decide), key c main_arg2 (by decide) (by decide),
    key c main_arg3 (by decide) (by decide), key c main_arg4 (by decide) (by decide), key c main_arg5 (by decide) (by decide),
    key c main_arg6 (by decide) (by decide), key c main_arg7 (by decide) (by decide), key c main_arg8 (by decide) (by decide),
    key c main_arg9 (by decide) (by decide), key c main_arg10 (by decide) (by decide), key c main_arg11 (by decide) (by decide),
    key c main_arg12 (by decide) (by decide)⟩, h.2⟩

/-- Every index array names rows of the table. -/
def InRange : Prop := ∀ c : Dev nD, (Rows (s := Cert.Pre_in_range.S1000) (m (c, dr main_arg3)) ∧ Rows (s := Cert.Pre_in_range.S1000) (m (c, dr main_arg4)))
  ∧ (Rows (s := Cert.Pre_in_range.S5000) (m (c, dr main_arg5)) ∧ Rows (s := Cert.Pre_in_range.S5000) (m (c, dr main_arg6))
    ∧ Rows (s := Cert.Pre_in_range.S5000) (m (c, dr main_arg7)) ∧ Rows (s := Cert.Pre_in_range.S5000) (m (c, dr main_arg8)))
  ∧ Rows (s := Cert.Pre_in_range.S1000) (m (c, dr main_arg9)) ∧ Rows (s := Cert.Pre_in_range.S1000) (m (c, dr main_arg10))
  ∧ Rows (s := Cert.Pre_in_range.S1000) (m (c, dr main_arg11)) ∧ Rows (s := Cert.Pre_in_range.S1000) (m (c, dr main_arg12))

theorem VC_v21 (d : Dev nD) : VC m d (dr main_v21)
    = padded (m (d, dr main_arg3)) (row0 (km (m (d, dr main_arg5)) (m (d, dr main_arg6)) (m (d, dr main_arg7)) (m (d, dr main_arg8))))
      (row2 (km (m (d, dr main_arg5)) (m (d, dr main_arg6)) (m (d, dr main_arg7)) (m (d, dr main_arg8)))) (m (d, dr main_arg11)) (m (d, dr main_arg9)) := by
  refine (after_v21 (VB m d)).trans ?_
  rw [VB_ne m d main_arg3 (by decide), VB_ne m d main_arg5 (by decide), VB_ne m d main_arg6 (by decide), VB_ne m d main_arg7 (by decide),
    VB_ne m d main_arg8 (by decide), VB_ne m d main_arg11 (by decide), VB_ne m d main_arg9 (by decide)]

theorem VC_v23 (d : Dev nD) : VC m d (dr main_v23)
    = padded (m (d, dr main_arg4)) (row1 (km (m (d, dr main_arg5)) (m (d, dr main_arg6)) (m (d, dr main_arg7)) (m (d, dr main_arg8))))
      (row3 (km (m (d, dr main_arg5)) (m (d, dr main_arg6)) (m (d, dr main_arg7)) (m (d, dr main_arg8)))) (m (d, dr main_arg12)) (m (d, dr main_arg10)) := by
  refine (after_v23 (VB m d)).trans ?_
  rw [VB_ne m d main_arg4 (by decide), VB_ne m d main_arg5 (by decide), VB_ne m d main_arg6 (by decide), VB_ne m d main_arg7 (by decide),
    VB_ne m d main_arg8 (by decide), VB_ne m d main_arg12 (by decide), VB_ne m d main_arg10 (by decide)]

theorem ok_of_range (h : InRange m) : PreOK m := by
  intro d y
  obtain ⟨⟨h3, h4⟩, ⟨h5, h6, h7, h8⟩, h9, h10, h11, h12⟩ := h d
  have hk := rows_km _ _ _ _ h5 h6 h7 h8
  rw [VC_v21, VC_v23]
  exact ⟨rows_padded _ _ _ _ _ h3 (fun _ => hk _) (fun _ => hk _) h11 h9 y, rows_padded _ _ _ _ _ h4 (fun _ => hk _) (fun _ => hk _) h12 h10 y⟩

end

set_option maxRecDepth 16384 in
set_option smartUnfolding false in
set_option maxHeartbeats 8000000 in
/-- `Cert.quiescent_Kernel`. -/
theorem frame_kernel : letI := Cert.Kernel.Gen.facts; letI := Cert.Pre_in_range.Gen.facts; Cert.quiescent_Kernel := by
  letI := Cert.Kernel.Gen.facts; letI := Cert.Pre_in_range.Gen.facts
  intro m ρ hpre
  have hr : InRange (F := Bits) m := fun c => rows_of_pre _ _ _ _ _ _ _ _ _ _ _ _ _ (hpre c)
  exact (θ_run (Cert.KernelIdeal.defs (F := Bits)) _ _).mono (fun r h => kept_of_QC (F := Bits) m r h) (run_main (F := Bits) m ρ (ok_of_range m hr))

/-- `Cert.quiescent_KernelIdeal`. -/
theorem frame_kernelIdeal : letI := Cert.KernelIdeal.Gen.facts; letI := Cert.Pre_in_range.Gen.facts; Cert.quiescent_KernelIdeal := by
  letI := Cert.KernelIdeal.Gen.facts; letI := Cert.Pre_in_range.Gen.facts
  intro m ρ hpre
  have hr : InRange (F := Ideal) m := fun c => rows_of_pre _ _ _ _ _ _ _ _ _ _ _ _ _ (hpre c)
  exact (θ_run (Cert.KernelIdeal.defs (F := Ideal)) _ _).mono (fun r h => kept_of_QC (F := Ideal) m r h) (run_main (F := Ideal) m ρ (ok_of_range m hr))

/-- `Cert.quiescent_ReferenceIdeal`: the generated run; the reference declares no semaphore. -/
theorem frame_reference : letI := Cert.ReferenceIdeal.Gen.facts; Cert.quiescent_ReferenceIdeal := by
  letI := Cert.ReferenceIdeal.Gen.facts
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.ValTable.lean ====
/- The table of the two layers over the extended reals: the kernel's first call makes it, and so does the reference. -/
module

public import proofs.«01_k».proof.Proof.Region0
public import proofs.«01_k».proof.Proof.Gen.ReferenceIdeal.Run
public import Idealize.ShloMosaic.Lib.Pointwise
public import Idealize.ShloMosaic.PureOps.Ideal

@[expose] public section

noncomputable section

namespace Cert.Proof

open Idealize.ShloMosaic
open VecWindow (window)

/-- A sum over ten thousand places, cut as the kernel's first call cuts it. -/
theorem sum_cut (f : Fin 10000 → EReal) :
    ∑ k, f k = (∑ k : Fin 2048, f ⟨k.val, by omega⟩) + (∑ k : Fin 2048, f ⟨2048 + k.val, by omega⟩) + (∑ k : Fin 2048, f ⟨4096 + k.val, by omega⟩)
      + (∑ k : Fin 2048, f ⟨6144 + k.val, by omega⟩) + ∑ k : Fin 1808, f ⟨8192 + k.val, by omega⟩ := by
  rw [Fin.sum_univ_two_halves 8192 1808 rfl f, Fin.sum_univ_two_halves 6144 2048 rfl, Fin.sum_univ_two_halves 4096 2048 rfl, Fin.sum_univ_two_halves 2048 2048 rfl]

/-- The place in the whole of a place in a rectangle. -/
theorem emb_ix2 {n0 n1 o0 o1 s0 s1 : ℕ} (h) (a : Fin s0) (b : Fin s1) (h0 : o0 + a.val < n0) (h1 : o1 + b.val < n1) :
    (Rect.unit (s := ⟨2, ![n0, n1]⟩) ![o0, o1] ![s0, s1] h).emb (ix2 a b) = ix2 ⟨o0 + a.val, h0⟩ ⟨o1 + b.val, h1⟩ := by
  funext c
  apply Fin.ext
  match c with
  | 0 => show o0 + 1 * a.val = o0 + a.val; omega
  | 1 => show o1 + 1 * b.val = o1 + b.val; omega

section
open Cert.KernelIdeal Cert.KernelIdeal.Gen

/-- The hidden layer. -/
def hidT (A : S10000x10000.Idx → EReal) (W : S10000x128.Idx → EReal) (i : Fin 10000) (d : Fin 128) : EReal :=
  max (∑ k : Fin 10000, A (ix2 i k) * W (ix2 k d)) 0

/-- The output layer. -/
def tab (A : S10000x10000.Idx → EReal) (W : S10000x128.Idx → EReal) (i : Fin 10000) (d : Fin 128) : EReal :=
  ∑ k : Fin 10000, A (ix2 i k) * hidT A W k d

set_option maxRecDepth 16384 in
theorem hidBlk_apply (X : S400x10000.Idx → Elt Ideal .f32) (W : S10000x128.Idx → Elt Ideal .f32) (r : Fin 400) (d : Fin 128) :
    hidBlk (F := Ideal) X W (ix2 r d) = max (∑ k : Fin 10000, (X (ix2 r k) : EReal) * W (ix2 k d)) 0 := by
  rw [sum_cut]
  pointwise [hidBlk, k0_pay1, k0_pay3, window]
  refine congrArg (max · 0) ?_
  refine congrArg₂ (· + ·) (congrArg₂ (· + ·) (congrArg₂ (· + ·) (congrArg₂ (· + ·) ?_ ?_) ?_) ?_) ?_
  all_goals
    refine Finset.sum_congr rfl fun x _ => ?_
    rw [emb_ix2 _ r x (by omega) (by omega), emb_ix2 _ x d (by omega) (by omega)]; simp only [Nat.zero_add, Fin.eta]

set_option maxRecDepth 16384 in
theorem outBlk_apply (X : S400x10000.Idx → Elt Ideal .f32) (W : S10000x128.Idx → Elt Ideal .bf16) (r : Fin 400) (d : Fin 128) :
    outBlk (F := Ideal) X W (ix2 r d) = ∑ k : Fin 10000, (X (ix2 r k) : EReal) * W (ix2 k d) := by
  rw [sum_cut]
  pointwise [outBlk, k0_pay2, window]
  refine congrArg₂ (· + ·) (congrArg₂ (· + ·) (congrArg₂ (· + ·) (congrArg₂ (· + ·) ?_ ?_) ?_) ?_) ?_
  all_goals
    refine Finset.sum_congr rfl fun x _ => ?_
    rw [emb_ix2 _ r x (by omega) (by omega), emb_ix2 _ x d (by omega) (by omega)]; simp only [Nat.zero_add, Fin.eta]

theorem hidF_apply (A : S10000x10000.Idx → Elt Ideal .f32) (W : S10000x128.Idx → Elt Ideal .f32) (i : Fin 10000) (d : Fin 128) :
    hidF (F := Ideal) A W (ix2 i d) = hidT A W i d := by
  have e : (400 * (i.val / 400) + i.val % 400) % 10000 = i.val := by omega
  refine (hidBlk_apply _ W ⟨i.val % 400, Nat.mod_lt _ (by decide)⟩ d).trans ?_
  refine congrArg (max · 0) (Finset.sum_congr rfl fun k _ => congrArg (· * _) ?_)
  exact congrArg (fun j => A (ix2 j k)) (Fin.ext e)

theorem outF_apply (A : S10000x10000.Idx → Elt Ideal .f32) (W : S10000x128.Idx → Elt Ideal .f32) (i : Fin 10000) (d : Fin 128) :
    outF (F := Ideal) A W (ix2 i d) = tab A W i d := by
  have e : (400 * (i.val / 400) + i.val % 400) % 10000 = i.val := by omega
  refine (outBlk_apply _ (hidF A W) ⟨i.val % 400, Nat.mod_lt _ (by decide)⟩ d).trans ?_
  refine Finset.sum_congr rfl fun k _ => congrArg₂ (· * ·) ?_ (hidF_apply A W k d)
  exact congrArg (fun j => A (ix2 j k)) (Fin.ext e)

end

section
open Cert.ReferenceIdeal Cert.ReferenceIdeal.Gen

set_option maxRecDepth 16384 in
/-- The reference's table. -/
theorem ref_tab (V : Valuation τ sig (Elt Ideal)) (i : Fin 10000) (d : Fin 128) :
    Value.res_main_v2 V (ix2 i d) = tab (V (Proc.devRef .tc main_arg1)) (V (Proc.devRef .tc main_arg2)) i d := by
  unfold tab hidT
  pointwise [Value.res_main_v2]

end

end Cert.Proof
-- ==== Proof.ValRef.lean ====
/- The number the reference makes, over the extended reals. -/
module

public import proofs.«01_k».proof.Proof.ValTable
public import proofs.«01_k».proof.Proof.Range
public import Idealize.ShloMosaic.Lib.Routing.Ops
public import Idealize.ShloMosaic.Lib.ReduceAll

@[expose] public section

noncomputable section

namespace Cert.Proof

open Idealize.ShloMosaic

/-- The row an index word names. -/
def rn (x : BitVec 32) : Fin 10000 := ⟨x.toNat % 10000, Nat.mod_lt _ (by decide)⟩

/-- The distance of two rows of the table: the sum of the absolute differences. -/
def dst (T : Fin 10000 → Fin 128 → EReal) (a b : BitVec 32) : EReal :=
  ∑ d : Fin 128, max (T (rn a) d - T (rn b) d) (-(T (rn a) d - T (rn b) d))

open Cert.ReferenceIdeal Cert.ReferenceIdeal.Gen

/-- The column of row numbers of an index array. -/
def col1 (a : S1000.Idx → BitVec 32) : S1000x1.Idx → BitVec 32 :=
  broadcastInDim S1000x1 ![0] bcast_S1000_S1000x1_0 (select (cmpi .slt a (broadcastInDim S1000 ![] bcast_S_S1000 (constantI S_ 32 0#32))) (addi a (broadcastInDim S1000 ![] bcast_S_S1000 (constantI S_ 32 10000#32))) a)
def col5 (a : S5000.Idx → BitVec 32) : S5000x1.Idx → BitVec 32 :=
  broadcastInDim S5000x1 ![0] bcast_S5000_S5000x1_0 (select (cmpi .slt a (broadcastInDim S5000 ![] bcast_S_S5000 (constantI S_ 32 0#32))) (addi a (broadcastInDim S5000 ![] bcast_S_S5000 (constantI S_ 32 10000#32))) a)

/-- Which of the row numbers are in the table. -/
def mask1 (c : S1000x1.Idx → BitVec 32) : S1000.Idx → BitVec 1 :=
  Host.reduce IntOp.andi (andi (cmpi .sge c (broadcastInDim S1000x1 ![] bcast_S_S1000x1 (constantI S_ 32 0#32))) (cmpi .sle c (broadcastInDim S1000x1 ![0, 1] bcast_S1x1_S1000x1_0_1 (broadcastInDim S1x1 ![1] bcast_S1_S1x1_1 (constantI S1 32 9999#32))))) (constantI S_ 1 1#1) reducesTo_S1000x1_S1000_d1 h_S_
def mask5 (c : S5000x1.Idx → BitVec 32) : S5000.Idx → BitVec 1 :=
  Host.reduce IntOp.andi (andi (cmpi .sge c (broadcastInDim S5000x1 ![] bcast_S_S5000x1 (constantI S_ 32 0#32))) (cmpi .sle c (broadcastInDim S5000x1 ![0, 1] bcast_S1x1_S5000x1_0_1 (broadcastInDim S1x1 ![1] bcast_S1_S1x1_1 (constantI S1 32 9999#32))))) (constantI S_ 1 1#1) reducesTo_S5000x1_S5000_d1 h_S_

/-- The rows an index array names. -/
def take1 (X : FVec Ideal S10000x128 .f32) (c : S1000x1.Idx → BitVec 32) : FVec Ideal S1000x128 .f32 :=
  select (broadcastInDim S1000x128 ![0] bcast_S1000_S1000x128_0 (mask1 c)) (Host.gather gather_S10000x128_S1000x1_S1000x128_1_0_n_n_0_1_1128 X c) (broadcastInDim S1000x128 ![] bcast_S_S1000x128 (constant S_ .f32 0x7FC00000#32))
def take5 (X : FVec Ideal S10000x128 .f32) (c : S5000x1.Idx → BitVec 32) : FVec Ideal S5000x128 .f32 :=
  select (broadcastInDim S5000x128 ![0] bcast_S5000_S5000x128_0 (mask5 c)) (Host.gather gather_S10000x128_S5000x1_S5000x128_1_0_n_n_0_1_1128 X c) (broadcastInDim S5000x128 ![] bcast_S_S5000x128 (constant S_ .f32 0x7FC00000#32))

/-- The distances of the rows two index arrays name. -/
def dist1 (X : FVec Ideal S10000x128 .f32) (a b : S1000x1.Idx → BitVec 32) : FVec Ideal S1000x1 .f32 :=
  broadcastInDim S1000x1 ![0] bcast_S1000_S1000x1_0 (Host.reduceAdd (Host.absf (subf (take1 X a) (take1 X b))) (constant S_ .f32 0x00000000#32) reducesTo_S1000x128_S1000_d1 h_S_)
def dist5 (X : FVec Ideal S10000x128 .f32) (a b : S5000x1.Idx → BitVec 32) : FVec Ideal S5000x1 .f32 :=
  broadcastInDim S5000x1 ![0] bcast_S5000_S5000x1_0 (Host.reduceAdd (Host.absf (subf (take5 X a) (take5 X b))) (constant S_ .f32 0x00000000#32) reducesTo_S5000x128_S5000_d1 h_S_)

/-- The margin loss of five thousand negative pairs, five to a pair. -/
def hinge5 (B : FVec Ideal S5000x1 .f32) (D : FVec Ideal S1000x1 .f32) : FVec Ideal S5000x1 .f32 :=
  shapeCast _ (maximumf (addf (Host.negf (shapeCast _ B shapeCasts_S5000x1_S1000x5)) (broadcastInDim S1000x5 ![0, 1] bcast_S1000x1_S1000x5_0_1 D)) (broadcastInDim S1000x5 ![] bcast_S_S1000x5 (constant S_ .f32 0x00000000#32))) shapeCasts_S1000x5_S5000x1
def hinge1 (B D : FVec Ideal S1000x1 .f32) : FVec Ideal S1000x1 .f32 :=
  maximumf (addf (Host.negf B) D) (broadcastInDim S1000x1 ![] bcast_S_S1000x1 (constant S_ .f32 0x00000000#32))
def plus3 (D : FVec Ideal S1000x1 .f32) : FVec Ideal S1000x1 .f32 := addf D (broadcastInDim S1000x1 ![] bcast_S_S1000x1 (constant S_ .f32 0x40400000#32))

section
variable (V : Valuation τ sig (Elt Ideal))

theorem v10_eq : Value.res_main_v10 V = plus3 (dist1 (Value.res_main_v2 V) (col1 (V (Proc.devRef .tc main_arg3))) (col1 (V (Proc.devRef .tc main_arg4)))) := rfl

set_option maxRecDepth 8192 in
theorem v52_eq : Value.res_main_v52 V = concatenate S11000x1 0
    [⟨S5000x1, hinge5 (dist5 (Value.res_main_v2 V) (col5 (V (Proc.devRef .tc main_arg5))) (col5 (V (Proc.devRef .tc main_arg6)))) (Value.res_main_v10 V)⟩,
      ⟨S5000x1, hinge5 (dist5 (Value.res_main_v2 V) (col5 (V (Proc.devRef .tc main_arg7))) (col5 (V (Proc.devRef .tc main_arg8)))) (Value.res_main_v10 V)⟩,
      ⟨S1000x1, hinge1 (dist1 (Value.res_main_v2 V) (col1 (V (Proc.devRef .tc main_arg9))) (col1 (V (Proc.devRef .tc main_arg10))))
        (plus3 (dist1 (Value.res_main_v2 V) (col1 (V (Proc.devRef .tc main_arg11))) (col1 (V (Proc.devRef .tc main_arg12)))))⟩]
    concatenates_S5000x1_S5000x1_S1000x1_S11000x1_d0 := rfl

end

theorem toInt_row (x : BitVec 32) (h : x.toNat < 10000) : x.toInt = x.toNat := BitVec.toInt_eq_toNat_of_lt (by omega)

theorem slt_zero (x : BitVec 32) (h : x.toNat < 10000) : IntOp.cmpi .slt x 0#32 = 0#1 := by
  have e := toInt_row x h
  have : x.slt 0#32 = false := by rw [BitVec.slt_eq_decide, e]; simp
  show BitVec.ofBool (x.slt 0#32) = _
  rw [this]; rfl

theorem sge_zero (x : BitVec 32) (h : x.toNat < 10000) : IntOp.cmpi .sge x 0#32 = 1#1 := by
  have e := toInt_row x h
  have : (0#32).sle x = true := by rw [BitVec.sle_eq_decide, e]; simp
  show BitVec.ofBool ((0#32).sle x) = _
  rw [this]; rfl

theorem sle_last (x : BitVec 32) (h : x.toNat < 10000) : IntOp.cmpi .sle x 9999#32 = 1#1 := by
  have e := toInt_row x h
  have : x.sle 9999#32 = true := by
    rw [BitVec.sle_eq_decide, e, show (9999#32).toInt = 9999 by decide]; simp; omega
  show BitVec.ofBool (x.sle 9999#32) = _
  rw [this]; rfl

theorem col1_apply (a : S1000.Idx → BitVec 32) (h : Rows (s := Cert.Pre_in_range.S1000) a) (i : Fin 1000) : col1 a (ix2 i 0) = a (ix1 i) := by
  have hi := h (ix1 i)
  pointwise [col1]
  rw [slt_zero _ hi]; rfl

theorem col5_apply (a : S5000.Idx → BitVec 32) (h : Rows (s := Cert.Pre_in_range.S5000) a) (i : Fin 5000) : col5 a (ix2 i 0) = a (ix1 i) := by
  have hi := h (ix1 i)
  pointwise [col5]
  rw [slt_zero _ hi]; rfl

theorem mask1_apply (a : S1000.Idx → BitVec 32) (h : Rows (s := Cert.Pre_in_range.S1000) a) (j : S1000.Idx) : mask1 (col1 a) j = 1#1 := by
  refine Host.reduce_andi_one _ _ _ _ _ rfl fun k => ?_
  obtain ⟨p, q, rfl⟩ : ∃ (p : Fin 1000) (q : Fin 1), k = ix2 p q := ⟨k 0, k 1, eq_ix2 k⟩
  obtain rfl : q = 0 := Subsingleton.elim _ _
  have hi := h (ix1 p)
  have e := col1_apply a h p
  generalize col1 a = c at e ⊢
  pointwise
  rw [e, sge_zero _ hi, sle_last _ hi]; rfl

theorem mask5_apply (a : S5000.Idx → BitVec 32) (h : Rows (s := Cert.Pre_in_range.S5000) a) (j : S5000.Idx) : mask5 (col5 a) j = 1#1 := by
  refine Host.reduce_andi_one _ _ _ _ _ rfl fun k => ?_
  obtain ⟨p, q, rfl⟩ : ∃ (p : Fin 5000) (q : Fin 1), k = ix2 p q := ⟨k 0, k 1, eq_ix2 k⟩
  obtain rfl : q = 0 := Subsingleton.elim _ _
  have hi := h (ix1 p)
  have e := col5_apply a h p
  generalize col5 a = c at e ⊢
  pointwise
  rw [e, sge_zero _ hi, sle_last _ hi]; rfl

theorem rn_word (x : BitVec 32) (h : x.toNat < 10000) : x = BitVec.ofNat 32 (rn x).val := by
  apply BitVec.eq_of_toNat_eq
  rw [BitVec.toNat_ofNat]
  show x.toNat = x.toNat % 10000 % 2 ^ 32
  omega

theorem take1_apply (X : FVec Ideal S10000x128 .f32) (a : S1000.Idx → BitVec 32) (h : Rows (s := Cert.Pre_in_range.S1000) a) (i : Fin 1000) (d : Fin 128) :
    take1 X (col1 a) (ix2 i d) = X (ix2 (rn (a (ix1 i))) d) := by
  have hb : col1 a (ValueIdx.ix2 i (0 : Fin 1)) = BitVec.ofNat 32 (rn (a (ix1 i))).val :=
    (congrArg (col1 a) (ix2_eq_valueIdx i 0).symm).trans ((col1_apply a h i).trans (rn_word _ (h _)))
  have g := Routing.gather_row gather_S10000x128_S1000x1_S1000x128_1_0_n_n_0_1_1128 rfl rfl rfl rfl rfl X (col1 a) i d (rn (a (ix1 i))) hb (by decide)
  rw [← ix2_eq_valueIdx, ← ix2_eq_valueIdx] at g
  have hm := mask1_apply a h (ix1 i)
  unfold take1
  generalize Host.gather gather_S10000x128_S1000x1_S1000x128_1_0_n_n_0_1_1128 X (col1 a) = Y at g ⊢
  generalize mask1 (col1 a) = M at hm ⊢
  pointwise
  rw [hm]
  exact g

theorem dist1_apply (X : FVec Ideal S10000x128 .f32) (a b : S1000.Idx → BitVec 32) (ha : Rows (s := Cert.Pre_in_range.S1000) a)
    (hb : Rows (s := Cert.Pre_in_range.S1000) b) (i : Fin 1000) :
    dist1 X (col1 a) (col1 b) (ix2 i 0) = dst (fun r d => X (ix2 r d)) (a (ix1 i)) (b (ix1 i)) := by
  have e (d : Fin 128) := take1_apply X a ha i d
  have e' (d : Fin 128) := take1_apply X b hb i d
  unfold dst
  generalize col1 a = ca at e ⊢
  generalize col1 b = cb at e' ⊢
  pointwise [dist1]
  simp only [e, e']
  rfl

theorem take5_apply (X : FVec Ideal S10000x128 .f32) (a : S5000.Idx → BitVec 32) (h : Rows (s := Cert.Pre_in_range.S5000) a) (i : Fin 5000) (d : Fin 128) :
    take5 X (col5 a) (ix2 i d) = X (ix2 (rn (a (ix1 i))) d) := by
  have hb : col5 a (ValueIdx.ix2 i (0 : Fin 1)) = BitVec.ofNat 32 (rn (a (ix1 i))).val :=
    (congrArg (col5 a) (ix2_eq_valueIdx i 0).symm).trans ((col5_apply a h i).trans (rn_word _ (h _)))
  have g := Routing.gather_row gather_S10000x128_S5000x1_S5000x128_1_0_n_n_0_1_1128 rfl rfl rfl rfl rfl X (col5 a) i d (rn (a (ix1 i))) hb (by decide)
  rw [← ix2_eq_valueIdx, ← ix2_eq_valueIdx] at g
  have hm := mask5_apply a h (ix1 i)
  unfold take5
  generalize Host.gather gather_S10000x128_S5000x1_S5000x128_1_0_n_n_0_1_1128 X (col5 a) = Y at g ⊢
  generalize mask5 (col5 a) = M at hm ⊢
  pointwise
  rw [hm]
  exact g

theorem dist5_apply (X : FVec Ideal S10000x128 .f32) (a b : S5000.Idx → BitVec 32) (ha : Rows (s := Cert.Pre_in_range.S5000) a)
    (hb : Rows (s := Cert.Pre_in_range.S5000) b) (i : Fin 5000) :
    dist5 X (col5 a) (col5 b) (ix2 i 0) = dst (fun r d => X (ix2 r d)) (a (ix1 i)) (b (ix1 i)) := by
  have e (d : Fin 128) := take5_apply X a ha i d
  have e' (d : Fin 128) := take5_apply X b hb i d
  unfold dst
  generalize col5 a = ca at e ⊢
  generalize col5 b = cb at e' ⊢
  pointwise [dist5]
  simp only [e, e']
  rfl

theorem hinge5_apply (B : FVec Ideal S5000x1 .f32) (D : FVec Ideal S1000x1 .f32) (i : Fin 1000) (k : Fin 5) :
    hinge5 B D (ix2 ⟨i.val * 5 + k.val, by omega⟩ 0) = max (-B (ix2 ⟨i.val * 5 + k.val, by omega⟩ 0) + D (ix2 i 0)) 0 := by
  pointwise [hinge5]

theorem hinge1_apply (B D : FVec Ideal S1000x1 .f32) (i : Fin 1000) : hinge1 B D (ix2 i 0) = max (-B (ix2 i 0) + D (ix2 i 0)) 0 := by
  pointwise [hinge1]

/-- The word of the margin. -/
def three : EReal := Ideal.ofBits .f32 0x40400000#32

theorem plus3_apply (D : FVec Ideal S1000x1 .f32) (i : Fin 1000) : plus3 D (ix2 i 0) = D (ix2 i 0) + three := by
  pointwise [plus3]
  rfl

/-- The sum of the three parts. -/
theorem sum_parts (P Q : FVec Ideal S5000x1 .f32) (R : FVec Ideal S1000x1 .f32) :
    Host.reduceAdd (concatenate S11000x1 0 [⟨S5000x1, P⟩, ⟨S5000x1, Q⟩, ⟨S1000x1, R⟩] concatenates_S5000x1_S5000x1_S1000x1_S11000x1_d0)
        (constant S_ .f32 0x00000000#32) reducesTo_S11000x1_S_d0_1 h_S_ ix0
      = (∑ p : Fin 5000, P (ix2 p 0)) + (∑ p : Fin 5000, Q (ix2 p 0)) + ∑ i : Fin 1000, R (ix2 i 0) := by
  pointwise
  rw [Fin.sum_univ_two_halves 10000 1000 rfl, Fin.sum_univ_two_halves 5000 5000 rfl]
  refine congrArg₂ (· + ·) (congrArg₂ (· + ·) ?_ ?_) ?_
  · refine Finset.sum_congr rfl fun x _ => (Fin.sum_univ_one _).trans ?_
    exact dif_pos x.isLt
  · refine Finset.sum_congr rfl fun x _ => (Fin.sum_univ_one _).trans ?_
    refine (dif_neg (by show ¬ 5000 + x.val < 5000; omega)).trans ((dif_pos (by show 5000 + x.val - 5000 < 5000; omega)).trans ?_)
    exact congrArg (fun j => Q (ix2 j 0)) (Fin.ext (by show 5000 + x.val - 5000 = x.val; omega))
  · refine Finset.sum_congr rfl fun x _ => (Fin.sum_univ_one _).trans ?_
    refine (dif_neg (by show ¬ 10000 + x.val < 5000; omega)).trans ((dif_neg (by show ¬ 10000 + x.val - 5000 < 5000; omega)).trans ?_)
    exact congrArg (fun j => R (ix2 j 0)) (Fin.ext (by show 10000 + x.val - 5000 - 5000 = x.val; omega))

/-- Five thousand places, by the pair and the negative. -/
theorem sum_five (f : Fin 5000 → EReal) : ∑ p, f p = ∑ k : Fin 5, ∑ i : Fin 1000, f ⟨i.val * 5 + k.val, by omega⟩ := by
  rw [Finset.sum_comm, ← Finset.sum_product']
  refine (Fintype.sum_equiv (finProdFinEquiv (m := 1000) (n := 5)) _ _ fun x => ?_).symm
  exact congrArg f (Fin.ext (by show x.1.val * 5 + x.2.val = x.2.val + 5 * x.1.val; omega))

/-- The margin losses of five negatives to a pair, summed. -/
def loss5 (T : Fin 10000 → Fin 128 → EReal) (l r : S1000.Idx → BitVec 32) (a b : S5000.Idx → BitVec 32) : EReal :=
  ∑ k : Fin 5, ∑ i : Fin 1000,
    max (-dst T (a (ix1 ⟨i.val * 5 + k.val, by omega⟩)) (b (ix1 ⟨i.val * 5 + k.val, by omega⟩)) + (dst T (l (ix1 i)) (r (ix1 i)) + three)) 0

/-- The margin losses of one negative to a pair, summed. -/
def loss1 (T : Fin 10000 → Fin 128 → EReal) (l r a b : S1000.Idx → BitVec 32) : EReal :=
  ∑ i : Fin 1000, max (-dst T (a (ix1 i)) (b (ix1 i)) + (dst T (l (ix1 i)) (r (ix1 i)) + three)) 0

section
variable (V : Valuation τ sig (Elt Ideal))
  (h3 : Rows (s := Cert.Pre_in_range.S1000) (V (Proc.devRef .tc main_arg3))) (h4 : Rows (s := Cert.Pre_in_range.S1000) (V (Proc.devRef .tc main_arg4)))
  (h5 : Rows (s := Cert.Pre_in_range.S5000) (V (Proc.devRef .tc main_arg5))) (h6 : Rows (s := Cert.Pre_in_range.S5000) (V (Proc.devRef .tc main_arg6)))
  (h7 : Rows (s := Cert.Pre_in_range.S5000) (V (Proc.devRef .tc main_arg7))) (h8 : Rows (s := Cert.Pre_in_range.S5000) (V (Proc.devRef .tc main_arg8)))
  (h9 : Rows (s := Cert.Pre_in_range.S1000) (V (Proc.devRef .tc main_arg9))) (h10 : Rows (s := Cert.Pre_in_range.S1000) (V (Proc.devRef .tc main_arg10)))
  (h11 : Rows (s := Cert.Pre_in_range.S1000) (V (Proc.devRef .tc main_arg11))) (h12 : Rows (s := Cert.Pre_in_range.S1000) (V (Proc.devRef .tc main_arg12)))

theorem hinge5_sum (X : FVec Ideal S10000x128 .f32) (l r : S1000.Idx → BitVec 32) (a b : S5000.Idx → BitVec 32)
    (hl : Rows (s := Cert.Pre_in_range.S1000) l) (hr : Rows (s := Cert.Pre_in_range.S1000) r)
    (ha : Rows (s := Cert.Pre_in_range.S5000) a) (hb : Rows (s := Cert.Pre_in_range.S5000) b) :
    ∑ p : Fin 5000, hinge5 (dist5 X (col5 a) (col5 b)) (plus3 (dist1 X (col1 l) (col1 r))) (ix2 p 0) = loss5 (fun r d => X (ix2 r d)) l r a b := by
  rw [sum_five]
  refine Finset.sum_congr rfl fun k _ => Finset.sum_congr rfl fun i _ => ?_
  rw [hinge5_apply, plus3_apply, dist1_apply X l r hl hr, dist5_apply X a b ha hb]

theorem hinge1_sum (X : FVec Ideal S10000x128 .f32) (l r a b : S1000.Idx → BitVec 32)
    (hl : Rows (s := Cert.Pre_in_range.S1000) l) (hr : Rows (s := Cert.Pre_in_range.S1000) r)
    (ha : Rows (s := Cert.Pre_in_range.S1000) a) (hb : Rows (s := Cert.Pre_in_range.S1000) b) :
    ∑ i : Fin 1000, hinge1 (dist1 X (col1 a) (col1 b)) (plus3 (dist1 X (col1 l) (col1 r))) (ix2 i 0) = loss1 (fun r d => X (ix2 r d)) l r a b := by
  refine Finset.sum_congr rfl fun i _ => ?_
  rw [hinge1_apply, plus3_apply, dist1_apply X l r hl hr, dist1_apply X a b ha hb]

include h3 h4 h5 h6 h7 h8 h9 h10 h11 h12 in
/-- The reference's sum. -/
theorem ref_sum : Host.reduceAdd (Value.res_main_v52 V) (constant S_ .f32 0x00000000#32) reducesTo_S11000x1_S_d0_1 h_S_ ix0
    = loss5 (tab (V (Proc.devRef .tc main_arg1)) (V (Proc.devRef .tc main_arg2))) (V (Proc.devRef .tc main_arg3)) (V (Proc.devRef .tc main_arg4))
        (V (Proc.devRef .tc main_arg5)) (V (Proc.devRef .tc main_arg6))
      + loss5 (tab (V (Proc.devRef .tc main_arg1)) (V (Proc.devRef .tc main_arg2))) (V (Proc.devRef .tc main_arg3)) (V (Proc.devRef .tc main_arg4))
        (V (Proc.devRef .tc main_arg7)) (V (Proc.devRef .tc main_arg8))
      + loss1 (tab (V (Proc.devRef .tc main_arg1)) (V (Proc.devRef .tc main_arg2))) (V (Proc.devRef .tc main_arg11)) (V (Proc.devRef .tc main_arg12))
        (V (Proc.devRef .tc main_arg9)) (V (Proc.devRef .tc main_arg10)) := by
  have et : (fun r d => Value.res_main_v2 V (ix2 r d)) = tab (V (Proc.devRef .tc main_arg1)) (V (Proc.devRef .tc main_arg2)) := by
    funext r d; exact ref_tab V r d
  rw [v52_eq, v10_eq]
  refine (sum_parts _ _ _).trans ?_
  rw [hinge5_sum _ _ _ _ _ h3 h4 h5 h6, hinge5_sum _ _ _ _ _ h3 h4 h7 h8, hinge1_sum _ _ _ _ _ h11 h12 h9 h10, et]

end

end Cert.Proof
-- ==== Proof.ValKer.lean ====
/- The number the kernel makes, over the extended reals. -/
module

public import proofs.«01_k».proof.Proof.ValRef
public import proofs.«01_k».proof.Proof.Comb
public import proofs.«01_k».proof.Proof.Lists

@[expose] public section

noncomputable section

namespace Cert.Proof

open Idealize.ShloMosaic
open Cert.KernelIdeal Cert.KernelIdeal.Gen

theorem pay2_apply (A B : S13056x128.Idx → Elt Ideal .f32) (p : Fin 13056) :
    k2_pay2 (F := Ideal) A B (ix2 p 0) = ∑ d : Fin 128, max ((A (ix2 p d) : EReal) - B (ix2 p d)) (-(A (ix2 p d) - B (ix2 p d))) := by
  pointwise [k2_pay2]
  rfl

/-- The margin losses of one slice of the distances against another, summed. -/
def seg (v : FVec Ideal S13056x1 .f32) (a b : ℕ) (ha : a + 1000 ≤ 13056) (hb : b + 1000 ≤ 13056) : EReal :=
  ∑ i : Fin 1000, max ((v (ix2 ⟨a + i.val, by omega⟩ 0) : EReal) + three - v (ix2 ⟨b + i.val, by omega⟩ 0)) 0

/-- The call's text for one slice against another. -/
def segOp (D v : FVec Ideal S1000x1 .f32) : Ideal .f32 :=
  extractAt ![0, 0, 0] (shapeCast S1x1x1 (multiReduction .add [1, 2] S1 (shapeCast S1x1000x1
      (maximumf (subf (addf D (broadcast S1000x1 (Scalar.ofBits .f32 0x40400000#32))) v) (broadcast S1000x1 (Scalar.ofBits .f32 0x00000000#32)))
      shapeCasts_S1000x1_S1x1000x1) 0x00000000#32 reduces_S1x1000x1_S1 (.inl rfl) rfl) shapeCasts_S1_S1x1x1) inpos_S1x1x1_p0_0_0

theorem segOp_eq (D v : FVec Ideal S1000x1 .f32) :
    segOp D v = ∑ i : Fin 1000, max ((D (ix2 i 0) : EReal) + three - v (ix2 i 0)) 0 := by
  unfold three
  pointwise [segOp]
  exact Finset.sum_congr rfl fun x _ => Fin.sum_univ_one _

theorem slice_apply (v : FVec Ideal S13056x1 .f32) (o : ℕ) (h) (ho : o + 1000 ≤ 13056) (i : Fin 1000) :
    extractStridedSlice S1000x1 ![o, 0] v h (ix2 i 0) = v (ix2 ⟨o + i.val, by omega⟩ 0) := by
  refine congrArg v (funext fun c => Fin.ext ?_)
  match c with
  | 0 => rfl
  | 1 => rfl

theorem segOp_slice (v : FVec Ideal S13056x1 .f32) (a b : ℕ) (ha : a + 1000 ≤ 13056) (hb : b + 1000 ≤ 13056) (h h') :
    segOp (extractStridedSlice S1000x1 ![a, 0] v h) (extractStridedSlice S1000x1 ![b, 0] v h') = seg v a b ha hb := by
  rw [segOp_eq]
  exact Finset.sum_congr rfl fun i _ => by rw [slice_apply v a h ha, slice_apply v b h' hb]

theorem combV_text (A B : S13056x128.Idx → Elt Ideal .f32) : combV (F := Ideal) A B = Scalar.divf
    (Scalar.addf (Scalar.addf (Scalar.addf (Scalar.addf (Scalar.addf (Scalar.addf (Scalar.addf (Scalar.addf (Scalar.addf (Scalar.addf (segOp (extractStridedSlice S1000x1 ![11000, 0] (k2_pay2 A B) slices_S13056x1_o11000_0_S1000x1) (extractStridedSlice S1000x1 ![12000, 0] (k2_pay2 A B) slices_S13056x1_o12000_0_S1000x1))
      (segOp (extractStridedSlice S1000x1 ![0, 0] (k2_pay2 A B) slices_S13056x1_o0_0_S1000x1) (extractStridedSlice S1000x1 ![1000, 0] (k2_pay2 A B) slices_S13056x1_o1000_0_S1000x1)))
      (segOp (extractStridedSlice S1000x1 ![0, 0] (k2_pay2 A B) slices_S13056x1_o0_0_S1000x1) (extractStridedSlice S1000x1 ![2000, 0] (k2_pay2 A B) slices_S13056x1_o2000_0_S1000x1)))
      (segOp (extractStridedSlice S1000x1 ![0, 0] (k2_pay2 A B) slices_S13056x1_o0_0_S1000x1) (extractStridedSlice S1000x1 ![3000, 0] (k2_pay2 A B) slices_S13056x1_o3000_0_S1000x1)))
      (segOp (extractStridedSlice S1000x1 ![0, 0] (k2_pay2 A B) slices_S13056x1_o0_0_S1000x1) (extractStridedSlice S1000x1 ![4000, 0] (k2_pay2 A B) slices_S13056x1_o4000_0_S1000x1)))
      (segOp (extractStridedSlice S1000x1 ![0, 0] (k2_pay2 A B) slices_S13056x1_o0_0_S1000x1) (extractStridedSlice S1000x1 ![5000, 0] (k2_pay2 A B) slices_S13056x1_o5000_0_S1000x1)))
      (segOp (extractStridedSlice S1000x1 ![0, 0] (k2_pay2 A B) slices_S13056x1_o0_0_S1000x1) (extractStridedSlice S1000x1 ![6000, 0] (k2_pay2 A B) slices_S13056x1_o6000_0_S1000x1)))
      (segOp (extractStridedSlice S1000x1 ![0, 0] (k2_pay2 A B) slices_S13056x1_o0_0_S1000x1) (extractStridedSlice S1000x1 ![7000, 0] (k2_pay2 A B) slices_S13056x1_o7000_0_S1000x1)))
      (segOp (extractStridedSlice S1000x1 ![0, 0] (k2_pay2 A B) slices_S13056x1_o0_0_S1000x1) (extractStridedSlice S1000x1 ![8000, 0] (k2_pay2 A B) slices_S13056x1_o8000_0_S1000x1)))
      (segOp (extractStridedSlice S1000x1 ![0, 0] (k2_pay2 A B) slices_S13056x1_o0_0_S1000x1) (extractStridedSlice S1000x1 ![9000, 0] (k2_pay2 A B) slices_S13056x1_o9000_0_S1000x1)))
      (segOp (extractStridedSlice S1000x1 ![0, 0] (k2_pay2 A B) slices_S13056x1_o0_0_S1000x1) (extractStridedSlice S1000x1 ![10000, 0] (k2_pay2 A B) slices_S13056x1_o10000_0_S1000x1)))
    (Scalar.ofBits .f32 0x462BE000#32) := rfl

theorem combV_eq (A B : S13056x128.Idx → Elt Ideal .f32) (v : FVec Ideal S13056x1 .f32) (hv : k2_pay2 (F := Ideal) A B = v) :
    combV (F := Ideal) A B = Ideal.div (seg v 11000 12000 (by decide) (by decide)
      + seg v 0 1000 (by decide) (by decide)
      + seg v 0 2000 (by decide) (by decide)
      + seg v 0 3000 (by decide) (by decide)
      + seg v 0 4000 (by decide) (by decide)
      + seg v 0 5000 (by decide) (by decide)
      + seg v 0 6000 (by decide) (by decide)
      + seg v 0 7000 (by decide) (by decide)
      + seg v 0 8000 (by decide) (by decide)
      + seg v 0 9000 (by decide) (by decide)
      + seg v 0 10000 (by decide) (by decide))
      (Ideal.ofBits .f32 0x462BE000#32) := by
  rw [combV_text, hv]
  simp only [segOp_slice v _ _ (show 11000 + 1000 ≤ 13056 by decide) (show 12000 + 1000 ≤ 13056 by decide),
    segOp_slice v _ _ (show 0 + 1000 ≤ 13056 by decide) (show 1000 + 1000 ≤ 13056 by decide), segOp_slice v _ _ (show 0 + 1000 ≤ 13056 by decide) (show 2000 + 1000 ≤ 13056 by decide), segOp_slice v _ _ (show 0 + 1000 ≤ 13056 by decide) (show 3000 + 1000 ≤ 13056 by decide), segOp_slice v _ _ (show 0 + 1000 ≤ 13056 by decide) (show 4000 + 1000 ≤ 13056 by decide), segOp_slice v _ _ (show 0 + 1000 ≤ 13056 by decide) (show 5000 + 1000 ≤ 13056 by decide), segOp_slice v _ _ (show 0 + 1000 ≤ 13056 by decide) (show 6000 + 1000 ≤ 13056 by decide), segOp_slice v _ _ (show 0 + 1000 ≤ 13056 by decide) (show 7000 + 1000 ≤ 13056 by decide), segOp_slice v _ _ (show 0 + 1000 ≤ 13056 by decide) (show 8000 + 1000 ≤ 13056 by decide), segOp_slice v _ _ (show 0 + 1000 ≤ 13056 by decide) (show 9000 + 1000 ≤ 13056 by decide), segOp_slice v _ _ (show 0 + 1000 ≤ 13056 by decide) (show 10000 + 1000 ≤ 13056 by decide)]
  rfl

/-! ## The entries of the two lists -/

theorem padded_at (a : S1000.Idx → BitVec 32) (b c : S5000.Idx → BitVec 32) (d e : S1000.Idx → BitVec 32) (p : Fin 13056) :
    padded a b c d e (ix2 0 p) = if h : p.val < 13000 then
      if h_1 : p.val < 1000 then a (ix1 ⟨p.val, h_1⟩)
      else if h_2 : p.val - 1000 < 5000 then b (ix1 ⟨p.val - 1000, h_2⟩)
      else if h_3 : p.val - 1000 - 5000 < 5000 then c (ix1 ⟨p.val - 1000 - 5000, h_3⟩)
      else if h_4 : p.val - 1000 - 5000 - 5000 < 1000 then d (ix1 ⟨p.val - 1000 - 5000 - 5000, h_4⟩)
      else e (ix1 ⟨p.val - 1000 - 5000 - 5000 - 1000, by omega⟩)
    else 0#32 := by
  pointwise [padded]

theorem padded_a (a : S1000.Idx → BitVec 32) (b c : S5000.Idx → BitVec 32) (d e : S1000.Idx → BitVec 32) (i : Fin 1000) :
    padded a b c d e (ix2 0 ⟨0 + i.val, by omega⟩) = a (ix1 i) := by
  rw [padded_at, dif_pos (show 0 + i.val < 13000 by omega)]
  rw [dif_pos (show 0 + i.val < 1000 by omega)]
  exact congrArg (fun x => a (ix1 x)) (Fin.ext (show 0 + i.val = i.val by omega))

theorem padded_b (a : S1000.Idx → BitVec 32) (b c : S5000.Idx → BitVec 32) (d e : S1000.Idx → BitVec 32) (q : Fin 5000) :
    padded a b c d e (ix2 0 ⟨1000 + q.val, by omega⟩) = b (ix1 q) := by
  rw [padded_at, dif_pos (show 1000 + q.val < 13000 by omega)]
  rw [dif_neg (show ¬ (1000 + q.val < 1000) by omega)]
  rw [dif_pos (show 1000 + q.val - 1000 < 5000 by omega)]
  exact congrArg (fun x => b (ix1 x)) (Fin.ext (show 1000 + q.val - 1000 = q.val by omega))

theorem padded_c (a : S1000.Idx → BitVec 32) (b c : S5000.Idx → BitVec 32) (d e : S1000.Idx → BitVec 32) (q : Fin 5000) :
    padded a b c d e (ix2 0 ⟨6000 + q.val, by omega⟩) = c (ix1 q) := by
  rw [padded_at, dif_pos (show 6000 + q.val < 13000 by omega)]
  rw [dif_neg (show ¬ (6000 + q.val < 1000) by omega)]
  rw [dif_neg (show ¬ (6000 + q.val - 1000 < 5000) by omega)]
  rw [dif_pos (show 6000 + q.val - 1000 - 5000 < 5000 by omega)]
  exact congrArg (fun x => c (ix1 x)) (Fin.ext (show 6000 + q.val - 1000 - 5000 = q.val by omega))

theorem padded_d (a : S1000.Idx → BitVec 32) (b c : S5000.Idx → BitVec 32) (d e : S1000.Idx → BitVec 32) (i : Fin 1000) :
    padded a b c d e (ix2 0 ⟨11000 + i.val, by omega⟩) = d (ix1 i) := by
  rw [padded_at, dif_pos (show 11000 + i.val < 13000 by omega)]
  rw [dif_neg (show ¬ (11000 + i.val < 1000) by omega)]
  rw [dif_neg (show ¬ (11000 + i.val - 1000 < 5000) by omega)]
  rw [dif_neg (show ¬ (11000 + i.val - 1000 - 5000 < 5000) by omega)]
  rw [dif_pos (show 11000 + i.val - 1000 - 5000 - 5000 < 1000 by omega)]
  exact congrArg (fun x => d (ix1 x)) (Fin.ext (show 11000 + i.val - 1000 - 5000 - 5000 = i.val by omega))

theorem padded_e (a : S1000.Idx → BitVec 32) (b c : S5000.Idx → BitVec 32) (d e : S1000.Idx → BitVec 32) (i : Fin 1000) :
    padded a b c d e (ix2 0 ⟨12000 + i.val, by omega⟩) = e (ix1 i) := by
  rw [padded_at, dif_pos (show 12000 + i.val < 13000 by omega)]
  rw [dif_neg (show ¬ (12000 + i.val < 1000) by omega)]
  rw [dif_neg (show ¬ (12000 + i.val - 1000 < 5000) by omega)]
  rw [dif_neg (show ¬ (12000 + i.val - 1000 - 5000 < 5000) by omega)]
  rw [dif_neg (show ¬ (12000 + i.val - 1000 - 5000 - 5000 < 1000) by omega)]
  exact congrArg (fun x => e (ix1 x)) (Fin.ext (show 12000 + i.val - 1000 - 5000 - 5000 - 1000 = i.val by omega))

theorem row0_km (a b c d : S5000.Idx → BitVec 32) (s : Fin 5) (i : Fin 1000) :
    row0 (km a b c d) (ix1 ⟨s.val * 1000 + i.val, by omega⟩) = a (ix1 ⟨i.val * 5 + s.val, by omega⟩) := by
  pointwise [row0, km]

theorem row1_km (a b c d : S5000.Idx → BitVec 32) (s : Fin 5) (i : Fin 1000) :
    row1 (km a b c d) (ix1 ⟨s.val * 1000 + i.val, by omega⟩) = b (ix1 ⟨i.val * 5 + s.val, by omega⟩) := by
  pointwise [row1, km]

theorem row2_km (a b c d : S5000.Idx → BitVec 32) (s : Fin 5) (i : Fin 1000) :
    row2 (km a b c d) (ix1 ⟨s.val * 1000 + i.val, by omega⟩) = c (ix1 ⟨i.val * 5 + s.val, by omega⟩) := by
  pointwise [row2, km]

theorem row3_km (a b c d : S5000.Idx → BitVec 32) (s : Fin 5) (i : Fin 1000) :
    row3 (km a b c d) (ix1 ⟨s.val * 1000 + i.val, by omega⟩) = d (ix1 ⟨i.val * 5 + s.val, by omega⟩) := by
  pointwise [row3, km]

/-! ## The call on the gathered rows -/

/-- The distances of the pairs of two lists of row numbers. -/
theorem pay2_gat (X : S10000x128.Idx → Elt Ideal .f32) (J K : S1x13056.Idx → BitVec 32) (p : Fin 13056) :
    k2_pay2 (F := Ideal) (gatF X J) (gatF X K) (ix2 p 0) = dst (fun r d => X (ix2 r d)) (J (ix2 0 p)) (K (ix2 0 p)) := by
  rw [pay2_apply]
  have g : ∀ (J : S1x13056.Idx → BitVec 32) (d : Fin 128), gatF X J (ix2 p d) = X (ix2 (rn (J (ix2 0 p))) d) := fun J d => by
    have e : (ix2 p d : S13056x128.Idx) 0 = p := rfl
    refine congrArg X (funext fun c => ?_)
    match c with
    | 0 => exact Fin.ext (congrArg (fun w : BitVec 32 => w.toNat % 10000) (congrArg J (funext fun c => by match c with | 0 => rfl | 1 => rfl)))
    | 1 => rfl
  simp only [g]
  rfl

theorem term_eq (x y z : EReal) : max (x + z - y) 0 = max (-y + (x + z)) 0 := by
  rw [sub_eq_add_neg, add_comm]

theorem total_eq (X : S10000x128.Idx → Elt Ideal .f32) (l r d1 d2 e1 e2 : S1000.Idx → BitVec 32) (a b a' b' : S5000.Idx → BitVec 32) :
    combV (F := Ideal) (gatF X (padded l (row0 (km a b a' b')) (row2 (km a b a' b')) d1 e1)) (gatF X (padded r (row1 (km a b a' b')) (row3 (km a b a' b')) d2 e2))
      = Ideal.div (loss5 (fun r d => X (ix2 r d)) l r a b + loss5 (fun r d => X (ix2 r d)) l r a' b' + loss1 (fun r d => X (ix2 r d)) d1 d2 e1 e2)
          (Ideal.ofBits .f32 0x462BE000#32) := by
  generalize hv : k2_pay2 (F := Ideal) (gatF X (padded l (row0 (km a b a' b')) (row2 (km a b a' b')) d1 e1)) (gatF X (padded r (row1 (km a b a' b')) (row3 (km a b a' b')) d2 e2)) = v
  rw [combV_eq _ _ v hv]
  have at0 : ∀ i : Fin 1000, v (ix2 ⟨0 + i.val, by omega⟩ 0) = dst (fun r d => X (ix2 r d)) (l (ix1 i)) (r (ix1 i)) := fun i => by
    rw [← hv, pay2_gat, padded_a, padded_a]
  have atd : ∀ i : Fin 1000, v (ix2 ⟨11000 + i.val, by omega⟩ 0) = dst (fun r d => X (ix2 r d)) (d1 (ix1 i)) (d2 (ix1 i)) := fun i => by
    rw [← hv, pay2_gat, padded_d, padded_d]
  have ate : ∀ i : Fin 1000, v (ix2 ⟨12000 + i.val, by omega⟩ 0) = dst (fun r d => X (ix2 r d)) (e1 (ix1 i)) (e2 (ix1 i)) := fun i => by
    rw [← hv, pay2_gat, padded_e, padded_e]
  have atb : ∀ (s : Fin 5) (i : Fin 1000), v (ix2 ⟨1000 + (s.val * 1000 + i.val), by omega⟩ 0)
      = dst (fun r d => X (ix2 r d)) (a (ix1 ⟨i.val * 5 + s.val, by omega⟩)) (b (ix1 ⟨i.val * 5 + s.val, by omega⟩)) := fun s i => by
    rw [← hv, pay2_gat, padded_b _ _ _ _ _ ⟨s.val * 1000 + i.val, by omega⟩, padded_b _ _ _ _ _ ⟨s.val * 1000 + i.val, by omega⟩, row0_km, row1_km]
  have atc : ∀ (s : Fin 5) (i : Fin 1000), v (ix2 ⟨6000 + (s.val * 1000 + i.val), by omega⟩ 0)
      = dst (fun r d => X (ix2 r d)) (a' (ix1 ⟨i.val * 5 + s.val, by omega⟩)) (b' (ix1 ⟨i.val * 5 + s.val, by omega⟩)) := fun s i => by
    rw [← hv, pay2_gat, padded_c _ _ _ _ _ ⟨s.val * 1000 + i.val, by omega⟩, padded_c _ _ _ _ _ ⟨s.val * 1000 + i.val, by omega⟩, row2_km, row3_km]
  have s1 : seg v 11000 12000 (by decide) (by decide) = loss1 (fun r d => X (ix2 r d)) d1 d2 e1 e2 :=
    Finset.sum_congr rfl fun i _ => by rw [atd, ate, term_eq]
  have sb : ∀ (s : Fin 5) (o : ℕ) (ho : o + 1000 ≤ 13056) (_ : o = 1000 + s.val * 1000), seg v 0 o (by decide) ho
      = ∑ i : Fin 1000, max (-dst (fun r d => X (ix2 r d)) (a (ix1 ⟨i.val * 5 + s.val, by omega⟩)) (b (ix1 ⟨i.val * 5 + s.val, by omega⟩))
          + (dst (fun r d => X (ix2 r d)) (l (ix1 i)) (r (ix1 i)) + three)) 0 := fun s o ho he =>
    Finset.sum_congr rfl fun i _ => by
      have e : (⟨o + i.val, by omega⟩ : Fin 13056) = ⟨1000 + (s.val * 1000 + i.val), by omega⟩ := Fin.ext (by simp only []; omega)
      rw [at0, e, atb, term_eq]
  have sc : ∀ (s : Fin 5) (o : ℕ) (ho : o + 1000 ≤ 13056) (_ : o = 6000 + s.val * 1000), seg v 0 o (by decide) ho
      = ∑ i : Fin 1000, max (-dst (fun r d => X (ix2 r d)) (a' (ix1 ⟨i.val * 5 + s.val, by omega⟩)) (b' (ix1 ⟨i.val * 5 + s.val, by omega⟩))
          + (dst (fun r d => X (ix2 r d)) (l (ix1 i)) (r (ix1 i)) + three)) 0 := fun s o ho he =>
    Finset.sum_congr rfl fun i _ => by
      have e : (⟨o + i.val, by omega⟩ : Fin 13056) = ⟨6000 + (s.val * 1000 + i.val), by omega⟩ := Fin.ext (by simp only []; omega)
      rw [at0, e, atc, term_eq]
  congr 1
  rw [s1, sb 0 1000 (by decide) rfl, sb 1 2000 (by decide) rfl, sb 2 3000 (by decide) rfl, sb 3 4000 (by decide) rfl, sb 4 5000 (by decide) rfl,
    sc 0 6000 (by decide) rfl, sc 1 7000 (by decide) rfl, sc 2 8000 (by decide) rfl, sc 3 9000 (by decide) rfl, sc 4 10000 (by decide) rfl]
  unfold loss5
  rw [Fin.sum_univ_five, Fin.sum_univ_five]
  ac_rfl

end Cert.Proof
-- ==== Proof.Algebraic.lean ====
/- The value claim: over the extended reals the kernel and the reference return the same number. -/
module

public import proofs.«01_k».proof.Proof.Frames
public import proofs.«01_k».proof.Proof.ValKer

@[expose] public section

noncomputable section

namespace Cert.Proof

open Idealize.ShloMosaic
open Idealize.SL.Sem

section

open Cert.KernelIdeal Cert.KernelIdeal.Gen

/-- What the kernel's result holds. -/
theorem kernel_value (m : (ℓ : Loc nD τ sig) → Buf (Elt Ideal) ℓ) (d : Dev nD) : VE m d (dr main_v25) = fun _ =>
    Ideal.div (loss5 (tab (m (d, dr main_arg1)) (m (d, dr main_arg2))) (m (d, dr main_arg3)) (m (d, dr main_arg4)) (m (d, dr main_arg5)) (m (d, dr main_arg6))
        + loss5 (tab (m (d, dr main_arg1)) (m (d, dr main_arg2))) (m (d, dr main_arg3)) (m (d, dr main_arg4)) (m (d, dr main_arg7)) (m (d, dr main_arg8))
        + loss1 (tab (m (d, dr main_arg1)) (m (d, dr main_arg2))) (m (d, dr main_arg11)) (m (d, dr main_arg12)) (m (d, dr main_arg9)) (m (d, dr main_arg10)))
      (Ideal.ofBits .f32 0x462BE000#32) := by
  have et : (fun r c => outF (F := Ideal) (m (d, dr main_arg1)) (m (d, dr main_arg2)) (ix2 r c)) = tab (m (d, dr main_arg1)) (m (d, dr main_arg2)) := by
    funext r c; exact outF_apply _ _ r c
  rw [VE_v25, VD_v24_0, VD_v24_1, VC_v0, VC_v21, VC_v23]
  funext _
  rw [total_eq, et]

/-- The reference's result is the kernel's. -/
theorem value_eq (m : (ℓ : Loc nD τ sig) → Buf (Elt Ideal) ℓ) (d : Dev nD) (hr : InRange (F := Ideal) m)
    (V : Valuation Cert.ReferenceIdeal.τ Cert.ReferenceIdeal.sig (Elt Ideal))
    (h1 : V (Proc.devRef .tc Cert.ReferenceIdeal.main_arg1) = m (d, dr main_arg1))
    (h2 : V (Proc.devRef .tc Cert.ReferenceIdeal.main_arg2) = m (d, dr main_arg2))
    (h3 : V (Proc.devRef .tc Cert.ReferenceIdeal.main_arg3) = m (d, dr main_arg3))
    (h4 : V (Proc.devRef .tc Cert.ReferenceIdeal.main_arg4) = m (d, dr main_arg4))
    (h5 : V (Proc.devRef .tc Cert.ReferenceIdeal.main_arg5) = m (d, dr main_arg5))
    (h6 : V (Proc.devRef .tc Cert.ReferenceIdeal.main_arg6) = m (d, dr main_arg6))
    (h7 : V (Proc.devRef .tc Cert.ReferenceIdeal.main_arg7) = m (d, dr main_arg7))
    (h8 : V (Proc.devRef .tc Cert.ReferenceIdeal.main_arg8) = m (d, dr main_arg8))
    (h9 : V (Proc.devRef .tc Cert.ReferenceIdeal.main_arg9) = m (d, dr main_arg9))
    (h10 : V (Proc.devRef .tc Cert.ReferenceIdeal.main_arg10) = m (d, dr main_arg10))
    (h11 : V (Proc.devRef .tc Cert.ReferenceIdeal.main_arg11) = m (d, dr main_arg11))
    (h12 : V (Proc.devRef .tc Cert.ReferenceIdeal.main_arg12) = m (d, dr main_arg12)) :
    Host.divf (Host.reduceAdd (Cert.ReferenceIdeal.Value.res_main_v52 V) (constant Cert.ReferenceIdeal.S_ .f32 0x00000000#32) Cert.ReferenceIdeal.Gen.reducesTo_S11000x1_S_d0_1 Cert.ReferenceIdeal.Gen.h_S_) (constant Cert.ReferenceIdeal.S_ .f32 0x462BE000#32)
      = VE m d (dr main_v25) := by
  obtain ⟨⟨r3, r4⟩, ⟨r5, r6, r7, r8⟩, r9, r10, r11, r12⟩ := hr d
  have g3 : Rows (s := Cert.Pre_in_range.S1000) (V (Proc.devRef .tc Cert.ReferenceIdeal.main_arg3)) := fun i => (congrArg (fun f : Cert.Pre_in_range.S1000.Idx → BitVec 32 => (f i).toNat) h3).trans_lt (r3 i)
  have g4 : Rows (s := Cert.Pre_in_range.S1000) (V (Proc.devRef .tc Cert.ReferenceIdeal.main_arg4)) := fun i => (congrArg (fun f : Cert.Pre_in_range.S1000.Idx → BitVec 32 => (f i).toNat) h4).trans_lt (r4 i)
  have g5 : Rows (s := Cert.Pre_in_range.S5000) (V (Proc.devRef .tc Cert.ReferenceIdeal.main_arg5)) := fun i => (congrArg (fun f : Cert.Pre_in_range.S5000.Idx → BitVec 32 => (f i).toNat) h5).trans_lt (r5 i)
  have g6 : Rows (s := Cert.Pre_in_range.S5000) (V (Proc.devRef .tc Cert.ReferenceIdeal.main_arg6)) := fun i => (congrArg (fun f : Cert.Pre_in_range.S5000.Idx → BitVec 32 => (f i).toNat) h6).trans_lt (r6 i)
  have g7 : Rows (s := Cert.Pre_in_range.S5000) (V (Proc.devRef .tc Cert.ReferenceIdeal.main_arg7)) := fun i => (congrArg (fun f : Cert.Pre_in_range.S5000.Idx → BitVec 32 => (f i).toNat) h7).trans_lt (r7 i)
  have g8 : Rows (s := Cert.Pre_in_range.S5000) (V (Proc.devRef .tc Cert.ReferenceIdeal.main_arg8)) := fun i => (congrArg (fun f : Cert.Pre_in_range.S5000.Idx → BitVec 32 => (f i).toNat) h8).trans_lt (r8 i)
  have g9 : Rows (s := Cert.Pre_in_range.S1000) (V (Proc.devRef .tc Cert.ReferenceIdeal.main_arg9)) := fun i => (congrArg (fun f : Cert.Pre_in_range.S1000.Idx → BitVec 32 => (f i).toNat) h9).trans_lt (r9 i)
  have g10 : Rows (s := Cert.Pre_in_range.S1000) (V (Proc.devRef .tc Cert.ReferenceIdeal.main_arg10)) := fun i => (congrArg (fun f : Cert.Pre_in_range.S1000.Idx → BitVec 32 => (f i).toNat) h10).trans_lt (r10 i)
  have g11 : Rows (s := Cert.Pre_in_range.S1000) (V (Proc.devRef .tc Cert.ReferenceIdeal.main_arg11)) := fun i => (congrArg (fun f : Cert.Pre_in_range.S1000.Idx → BitVec 32 => (f i).toNat) h11).trans_lt (r11 i)
  have g12 : Rows (s := Cert.Pre_in_range.S1000) (V (Proc.devRef .tc Cert.ReferenceIdeal.main_arg12)) := fun i => (congrArg (fun f : Cert.Pre_in_range.S1000.Idx → BitVec 32 => (f i).toNat) h12).trans_lt (r12 i)
  have hs := ref_sum V g3 g4 g5 g6 g7 g8 g9 g10 g11 g12
  rw [h1, h2, h3, h4, h5, h6, h7, h8, h9, h10, h11, h12] at hs
  rw [kernel_value]
  funext j
  have ej : j = ix0 := funext fun i => i.elim0
  rw [ej]
  exact congrArg (fun x : EReal => Ideal.div x (Ideal.ofBits .f32 0x462BE000#32)) hs

end

theorem frame_reference_in_range : letI := Cert.ReferenceIdeal.Gen.facts; letI := Cert.Pre_in_range.Gen.facts; Cert.quiescent_ReferenceIdeal_pre_in_range := by
  letI := Cert.ReferenceIdeal.Gen.facts; letI := Cert.Pre_in_range.Gen.facts
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- `Cert.algebraic_KernelIdeal_ReferenceIdeal`. -/
theorem algebraic : letI := Cert.KernelIdeal.Gen.facts; letI := Cert.ReferenceIdeal.Gen.facts; letI := Cert.Pre_in_range.Gen.facts;
    Cert.algebraic_KernelIdeal_ReferenceIdeal := by
  letI := Cert.KernelIdeal.Gen.facts; letI := Cert.ReferenceIdeal.Gen.facts; letI := Cert.Pre_in_range.Gen.facts
  intro m ρ m' ρ' hpre hargs
  have hr : InRange (F := Ideal) m := fun c => rows_of_pre _ _ _ _ _ _ _ _ _ _ _ _ _ (hpre c)
  refine ⟨fun c => VE m c (dr Cert.KernelIdeal.main_v25), ?_, ?_⟩
  · exact (θ_run (Cert.KernelIdeal.defs (F := Ideal)) _ _).mono
      (fun r h c => ⟨h.1 c (dr Cert.KernelIdeal.main_v25) (mem_uc _ (by decide)), (kept_of_QC (F := Ideal) m r h).1 c⟩)
      (run_main (F := Ideal) m ρ (ok_of_range m hr))
  · refine (θ_run Cert.ReferenceIdeal.defs _ _).mono (fun r h c => ⟨(h c).1.trans ?_, (h c).2⟩) (Cert.ReferenceIdeal.Value.run (F := Ideal) m' ρ')
    obtain ⟨_, a1, a2, a3, a4, a5, a6, a7, a8, a9, a10, a11, a12⟩ := hargs c
    exact value_eq m c hr (StableHlo.launchContents m' c) a1 a2 a3 a4 a5 a6 a7 a8 a9 a10 a11 a12

end Cert.Proof
-- ==== Proof.lean ====
/- The claims of this directory, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    frame_kernel, frame_kernelIdeal, frame_reference, frame_reference_in_range, trivial, algebraic⟩

end Cert.Proof

end
